-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mixers (m : (ℓ : Loc Cert.Mixers.nD Cert.Mixers.τ Cert.Mixers.sig) → Buf (Elt Bits) ℓ) : Prop :=
  True

def Pre_MixersIdeal (m : (ℓ : Loc Cert.MixersIdeal.nD Cert.MixersIdeal.τ Cert.MixersIdeal.sig) → Buf (Elt Ideal) ℓ) : Prop :=
  True

def Pre_AttentionIdeal (m : (ℓ : Loc Cert.AttentionIdeal.nD Cert.AttentionIdeal.τ Cert.AttentionIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_Mixers [hMixers : Cert.Mixers.Facts] : Prop :=
  ∀ (m : (ℓ : Loc Cert.Mixers.nD Cert.Mixers.τ Cert.Mixers.sig) → Buf (Elt Bits) ℓ) (g : Dev Cert.Mixers.nD → PrngReg), Pre_Mixers m →
    θ_run (Cert.Mixers.defs (F := Bits)) (onTc (τ := Cert.Mixers.τ) (Cert.Mixers.main (F := Bits))) ⟨m, fun _ => 0, g⟩ (fun r => (∀ c : Dev Cert.Mixers.nD,
      r.2.mem ((c.tc : Thread Cert.Mixers.nD Cert.Mixers.τ).loc Cert.Mixers.main_arg0) = m ((c.tc : Thread Cert.Mixers.nD Cert.Mixers.τ).loc Cert.Mixers.main_arg0)
      ∧ r.2.mem ((c.tc : Thread Cert.Mixers.nD Cert.Mixers.τ).loc Cert.Mixers.main_arg1) = m ((c.tc : Thread Cert.Mixers.nD Cert.Mixers.τ).loc Cert.Mixers.main_arg1)
      ∧ r.2.mem ((c.tc : Thread Cert.Mixers.nD Cert.Mixers.τ).loc Cert.Mixers.main_arg2) = m ((c.tc : Thread Cert.Mixers.nD Cert.Mixers.τ).loc Cert.Mixers.main_arg2)
      ∧ r.2.mem ((c.tc : Thread Cert.Mixers.nD Cert.Mixers.τ).loc Cert.Mixers.main_arg3) = m ((c.tc : Thread Cert.Mixers.nD Cert.Mixers.τ).loc Cert.Mixers.main_arg3)
      ∧ r.2.mem ((c.tc : Thread Cert.Mixers.nD Cert.Mixers.τ).loc Cert.Mixers.main_arg4) = m ((c.tc : Thread Cert.Mixers.nD Cert.Mixers.τ).loc Cert.Mixers.main_arg4)
      ∧ r.2.mem ((c.tc : Thread Cert.Mixers.nD Cert.Mixers.τ).loc Cert.Mixers.main_arg5) = m ((c.tc : Thread Cert.Mixers.nD Cert.Mixers.τ).loc Cert.Mixers.main_arg5)
      ∧ r.2.mem ((c.tc : Thread Cert.Mixers.nD Cert.Mixers.τ).loc Cert.Mixers.main_arg6) = m ((c.tc : Thread Cert.Mixers.nD Cert.Mixers.τ).loc Cert.Mixers.main_arg6)
      ∧ r.2.mem ((c.tc : Thread Cert.Mixers.nD Cert.Mixers.τ).loc Cert.Mixers.main_arg7) = m ((c.tc : Thread Cert.Mixers.nD Cert.Mixers.τ).loc Cert.Mixers.main_arg7)
      ∧ r.2.mem ((c.tc : Thread Cert.Mixers.nD Cert.Mixers.τ).loc Cert.Mixers.main_arg8) = m ((c.tc : Thread Cert.Mixers.nD Cert.Mixers.τ).loc Cert.Mixers.main_arg8)
      ∧ r.2.mem ((c.tc : Thread Cert.Mixers.nD Cert.Mixers.τ).loc Cert.Mixers.main_arg9) = m ((c.tc : Thread Cert.Mixers.nD Cert.Mixers.τ).loc Cert.Mixers.main_arg9)
      ∧ r.2.mem ((c.tc : Thread Cert.Mixers.nD Cert.Mixers.τ).loc Cert.Mixers.main_arg10) = m ((c.tc : Thread Cert.Mixers.nD Cert.Mixers.τ).loc Cert.Mixers.main_arg10)
      ∧ r.2.mem ((c.tc : Thread Cert.Mixers.nD Cert.Mixers.τ).loc Cert.Mixers.main_arg11) = m ((c.tc : Thread Cert.Mixers.nD Cert.Mixers.τ).loc Cert.Mixers.main_arg11)
      ∧ r.2.mem ((c.tc : Thread Cert.Mixers.nD Cert.Mixers.τ).loc Cert.Mixers.main_arg12) = m ((c.tc : Thread Cert.Mixers.nD Cert.Mixers.τ).loc Cert.Mixers.main_arg12))
      ∧ r.2.sem = fun _ => 0)

def quiescent_MixersIdeal [hMixersIdeal : Cert.MixersIdeal.Facts] : Prop :=
  ∀ (m : (ℓ : Loc Cert.MixersIdeal.nD Cert.MixersIdeal.τ Cert.MixersIdeal.sig) → Buf (Elt Ideal) ℓ) (g : Dev Cert.MixersIdeal.nD → PrngReg), Pre_MixersIdeal m →
    θ_run (Cert.MixersIdeal.defs (F := Ideal)) (onTc (τ := Cert.MixersIdeal.τ) (Cert.MixersIdeal.main (F := Ideal))) ⟨m, fun _ => 0, g⟩ (fun r => (∀ c : Dev Cert.MixersIdeal.nD,
      r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
      ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
      ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
      ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
      ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
      ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
      ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
      ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
      ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
      ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
      ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
      ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
      ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2)
      ∧ r.2.mem ((c.tc : Thread Cert.AttentionIdeal.nD Cert.AttentionIdeal.τ).loc Cert.AttentionIdeal.main_arg3) = m ((c.tc : Thread Cert.AttentionIdeal.nD Cert.AttentionIdeal.τ).loc Cert.AttentionIdeal.main_arg3)
      ∧ r.2.mem ((c.tc : Thread Cert.AttentionIdeal.nD Cert.AttentionIdeal.τ).loc Cert.AttentionIdeal.main_arg4) = m ((c.tc : Thread Cert.AttentionIdeal.nD Cert.AttentionIdeal.τ).loc Cert.AttentionIdeal.main_arg4)
      ∧ r.2.mem ((c.tc : Thread Cert.AttentionIdeal.nD Cert.AttentionIdeal.τ).loc Cert.AttentionIdeal.main_arg5) = m ((c.tc : Thread Cert.AttentionIdeal.nD Cert.AttentionIdeal.τ).loc Cert.AttentionIdeal.main_arg5)
      ∧ r.2.mem ((c.tc : Thread Cert.AttentionIdeal.nD Cert.AttentionIdeal.τ).loc Cert.AttentionIdeal.main_arg6) = m ((c.tc : Thread Cert.AttentionIdeal.nD Cert.AttentionIdeal.τ).loc Cert.AttentionIdeal.main_arg6)
      ∧ r.2.mem ((c.tc : Thread Cert.AttentionIdeal.nD Cert.AttentionIdeal.τ).loc Cert.AttentionIdeal.main_arg7) = m ((c.tc : Thread Cert.AttentionIdeal.nD Cert.AttentionIdeal.τ).loc Cert.AttentionIdeal.main_arg7)
      ∧ r.2.mem ((c.tc : Thread Cert.AttentionIdeal.nD Cert.AttentionIdeal.τ).loc Cert.AttentionIdeal.main_arg8) = m ((c.tc : Thread Cert.AttentionIdeal.nD Cert.AttentionIdeal.τ).loc Cert.AttentionIdeal.main_arg8)
      ∧ r.2.mem ((c.tc : Thread Cert.AttentionIdeal.nD Cert.AttentionIdeal.τ).loc Cert.AttentionIdeal.main_arg9) = m ((c.tc : Thread Cert.AttentionIdeal.nD Cert.AttentionIdeal.τ).loc Cert.AttentionIdeal.main_arg9)
      ∧ r.2.mem ((c.tc : Thread Cert.AttentionIdeal.nD Cert.AttentionIdeal.τ).loc Cert.AttentionIdeal.main_arg10) = m ((c.tc : Thread Cert.AttentionIdeal.nD Cert.AttentionIdeal.τ).loc Cert.AttentionIdeal.main_arg10)
      ∧ r.2.mem ((c.tc : Thread Cert.AttentionIdeal.nD Cert.AttentionIdeal.τ).loc Cert.AttentionIdeal.main_arg11) = m ((c.tc : Thread Cert.AttentionIdeal.nD Cert.AttentionIdeal.τ).loc Cert.AttentionIdeal.main_arg11)
      ∧ r.2.mem ((c.tc : Thread Cert.AttentionIdeal.nD Cert.AttentionIdeal.τ).loc Cert.AttentionIdeal.main_arg12) = m ((c.tc : Thread Cert.AttentionIdeal.nD Cert.AttentionIdeal.τ).loc Cert.AttentionIdeal.main_arg12))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v20_0)) (v1 : (c : Dev Cert.InProjIdeal.nD) → Buf (Elt Ideal) ((c.tc : Thread Cert.InProjIdeal.nD Cert.InProjIdeal.τ).loc Cert.InProjIdeal.main_v20_1)) (v2 : (c : Dev Cert.InProjIdeal.nD) → Buf (Elt Ideal) ((c.tc : Thread Cert.InProjIdeal.nD Cert.InProjIdeal.τ).loc Cert.InProjIdeal.main_v20_2)) (v3 : (c : Dev Cert.InProjIdeal.nD) → Buf (Elt Ideal) ((c.tc : Thread Cert.InProjIdeal.nD Cert.InProjIdeal.τ).loc Cert.InProjIdeal.main_v20_3)) (v4 : (c : Dev Cert.InProjIdeal.nD) → Buf (Elt Ideal) ((c.tc : Thread Cert.InProjIdeal.nD Cert.InProjIdeal.τ).loc Cert.InProjIdeal.main_v20_4)) (v5 : (c : Dev Cert.InProjIdeal.nD) → Buf (Elt Ideal) ((c.tc : Thread Cert.InProjIdeal.nD Cert.InProjIdeal.τ).loc Cert.InProjIdeal.main_v20_5)) (v6 : (c : Dev Cert.InProjIdeal.nD) → Buf (Elt Ideal) ((c.tc : Thread Cert.InProjIdeal.nD Cert.InProjIdeal.τ).loc Cert.InProjIdeal.main_v20_6)) (v7 : (c : Dev Cert.InProjIdeal.nD) → Buf (Elt Ideal) ((c.tc : Thread Cert.InProjIdeal.nD Cert.InProjIdeal.τ).loc Cert.InProjIdeal.main_v20_7)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v20_0) = v0 c
          ∧ r.2.mem ((c.tc : Thread Cert.InProjIdeal.nD Cert.InProjIdeal.τ).loc Cert.InProjIdeal.main_v20_1) = v1 c
          ∧ r.2.mem ((c.tc : Thread Cert.InProjIdeal.nD Cert.InProjIdeal.τ).loc Cert.InProjIdeal.main_v20_2) = v2 c
          ∧ r.2.mem ((c.tc : Thread Cert.InProjIdeal.nD Cert.InProjIdeal.τ).loc Cert.InProjIdeal.main_v20_3) = v3 c
          ∧ r.2.mem ((c.tc : Thread Cert.InProjIdeal.nD Cert.InProjIdeal.τ).loc Cert.InProjIdeal.main_v20_4) = v4 c
          ∧ r.2.mem ((c.tc : Thread Cert.InProjIdeal.nD Cert.InProjIdeal.τ).loc Cert.InProjIdeal.main_v20_5) = v5 c
          ∧ r.2.mem ((c.tc : Thread Cert.InProjIdeal.nD Cert.InProjIdeal.τ).loc Cert.InProjIdeal.main_v20_6) = v6 c
          ∧ r.2.mem ((c.tc : Thread Cert.InProjIdeal.nD Cert.InProjIdeal.τ).loc Cert.InProjIdeal.main_v20_7) = v7 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v36) = v0 c
          ∧ r.2.mem ((c.tc : Thread Cert.InProjRefIdeal.nD Cert.InProjRefIdeal.τ).loc Cert.InProjRefIdeal.main_v37) = v1 c
          ∧ r.2.mem ((c.tc : Thread Cert.InProjRefIdeal.nD Cert.InProjRefIdeal.τ).loc Cert.InProjRefIdeal.main_v38) = v2 c
          ∧ r.2.mem ((c.tc : Thread Cert.InProjRefIdeal.nD Cert.InProjRefIdeal.τ).loc Cert.InProjRefIdeal.main_v35) = v3 c
          ∧ r.2.mem ((c.tc : Thread Cert.InProjRefIdeal.nD Cert.InProjRefIdeal.τ).loc Cert.InProjRefIdeal.main_v28) = v4 c
          ∧ r.2.mem ((c.tc : Thread Cert.InProjRefIdeal.nD Cert.InProjRefIdeal.τ).loc Cert.InProjRefIdeal.main_v39) = v5 c
          ∧ r.2.mem ((c.tc : Thread Cert.InProjRefIdeal.nD Cert.InProjRefIdeal.τ).loc Cert.InProjRefIdeal.main_v30) = v6 c
          ∧ r.2.mem ((c.tc : Thread Cert.InProjRefIdeal.nD Cert.InProjRefIdeal.τ).loc Cert.InProjRefIdeal.main_v31) = v7 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_Mixers_MixersIdeal : Prop :=
  IdealRules.named_const.Statement Cert.MixersIdeal.κ "clamp" .f32 0x42FC0000#32 ⊤
  ∧ IdealRules.named_const.Statement Cert.MixersIdeal.κ "inv_ln2" .f32 0x3FB8AA3B#32 (((Real.log 2)⁻¹ : ℝ) : EReal)
  ∧ IdealRules.named_const.Statement Cert.MixersIdeal.κ "zero_weight" .f32 0x43200000#32 ⊤

def algebraic_MixersIdeal_AttentionIdeal [hMixersIdeal : Cert.MixersIdeal.Facts] [hAttentionIdeal : Cert.AttentionIdeal.Facts] : Prop :=
  ∀ (m : (ℓ : Loc Cert.MixersIdeal.nD Cert.MixersIdeal.τ Cert.MixersIdeal.sig) → Buf (Elt Ideal) ℓ) (g : Dev Cert.MixersIdeal.nD → PrngReg)
    (m' : (ℓ : Loc Cert.AttentionIdeal.nD Cert.AttentionIdeal.τ Cert.AttentionIdeal.sig) → Buf (Elt Ideal) ℓ) (g' : Dev Cert.AttentionIdeal.nD → PrngReg), Pre_MixersIdeal m →
    (∀ c : Dev Cert.MixersIdeal.nD,
      m' ((c.tc : Thread Cert.AttentionIdeal.nD Cert.AttentionIdeal.τ).loc Cert.AttentionIdeal.main_arg0) = m ((c.tc : Thread Cert.MixersIdeal.nD Cert.MixersIdeal.τ).loc Cert.MixersIdeal.main_arg0)
      ∧ m' ((c.tc : Thread Cert.AttentionIdeal.nD Cert.AttentionIdeal.τ).loc Cert.AttentionIdeal.main_arg1) = m ((c.tc : Thread Cert.MixersIdeal.nD Cert.MixersIdeal.τ).loc Cert.MixersIdeal.main_arg1)
      ∧ m' ((c.tc : Thread Cert.AttentionIdeal.nD Cert.AttentionIdeal.τ).loc Cert.AttentionIdeal.main_arg2) = m ((c.tc : Thread Cert.MixersIdeal.nD Cert.MixersIdeal.τ).loc Cert.MixersIdeal.main_arg2)
      ∧ m' ((c.tc : Thread Cert.AttentionIdeal.nD Cert.AttentionIdeal.τ).loc Cert.AttentionIdeal.main_arg3) = m ((c.tc : Thread Cert.MixersIdeal.nD Cert.MixersIdeal.τ).loc Cert.MixersIdeal.main_arg3)
      ∧ m' ((c.tc : Thread Cert.AttentionIdeal.nD Cert.AttentionIdeal.τ).loc Cert.AttentionIdeal.main_arg4) = m ((c.tc : Thread Cert.MixersIdeal.nD Cert.MixersIdeal.τ).loc Cert.MixersIdeal.main_arg4)
      ∧ m' ((c.tc : Thread Cert.AttentionIdeal.nD Cert.AttentionIdeal.τ).loc Cert.AttentionIdeal.main_arg5) = m ((c.tc : Thread Cert.MixersIdeal.nD Cert.MixersIdeal.τ).loc Cert.MixersIdeal.main_arg5)
      ∧ m' ((c.tc : Thread Cert.AttentionIdeal.nD Cert.AttentionIdeal.τ).loc Cert.AttentionIdeal.main_arg6) = m ((c.tc : Thread Cert.MixersIdeal.nD Cert.MixersIdeal.τ).loc Cert.MixersIdeal.main_arg6)
      ∧ m' ((c.tc : Thread Cert.AttentionIdeal.nD Cert.AttentionIdeal.τ).loc Cert.AttentionIdeal.main_arg7) = m ((c.tc : Thread Cert.MixersIdeal.nD Cert.MixersIdeal.τ).loc Cert.MixersIdeal.main_arg7)
      ∧ m' ((c.tc : Thread Cert.AttentionIdeal.nD Cert.AttentionIdeal.τ).loc Cert.AttentionIdeal.main_arg8) = m ((c.tc : Thread Cert.MixersIdeal.nD Cert.MixersIdeal.τ).loc Cert.MixersIdeal.main_arg8)
      ∧ m' ((c.tc : Thread Cert.AttentionIdeal.nD Cert.AttentionIdeal.τ).loc Cert.AttentionIdeal.main_arg9) = m ((c.tc : Thread Cert.MixersIdeal.nD Cert.MixersIdeal.τ).loc Cert.MixersIdeal.main_arg9)
      ∧ m' ((c.tc : Thread Cert.AttentionIdeal.nD Cert.AttentionIdeal.τ).loc Cert.AttentionIdeal.main_arg10) = m ((c.tc : Thread Cert.MixersIdeal.nD Cert.MixersIdeal.τ).loc Cert.MixersIdeal.main_arg10)
      ∧ m' ((c.tc : Thread Cert.AttentionIdeal.nD Cert.AttentionIdeal.τ).loc Cert.AttentionIdeal.main_arg11) = m ((c.tc : Thread Cert.MixersIdeal.nD Cert.MixersIdeal.τ).loc Cert.MixersIdeal.main_arg11)
      ∧ m' ((c.tc : Thread Cert.AttentionIdeal.nD Cert.AttentionIdeal.τ).loc Cert.AttentionIdeal.main_arg12) = m ((c.tc : Thread Cert.MixersIdeal.nD Cert.MixersIdeal.τ).loc Cert.MixersIdeal.main_arg12)) →
    ∃ (v0 : (c : Dev Cert.MixersIdeal.nD) → Buf (Elt Ideal) ((c.tc : Thread Cert.MixersIdeal.nD Cert.MixersIdeal.τ).loc Cert.MixersIdeal.main_v5_0)),
      θ_run (Cert.MixersIdeal.defs (F := Ideal)) (onTc (τ := Cert.MixersIdeal.τ) (Cert.MixersIdeal.main (F := Ideal))) ⟨m, fun _ => 0, g⟩ (fun r => ∀ c : Dev Cert.MixersIdeal.nD,
          r.2.mem ((c.tc : Thread Cert.MixersIdeal.nD Cert.MixersIdeal.τ).loc Cert.MixersIdeal.main_v5_0) = v0 c
          ∧ r.2.mem ((c.tc : Thread Cert.MixersIdeal.nD Cert.MixersIdeal.τ).loc Cert.MixersIdeal.main_arg0) = m ((c.tc : Thread Cert.MixersIdeal.nD Cert.MixersIdeal.τ).loc Cert.MixersIdeal.main_arg0)
          ∧ r.2.mem ((c.tc : Thread Cert.MixersIdeal.nD Cert.MixersIdeal.τ).loc Cert.MixersIdeal.main_arg1) = m ((c.tc : Thread Cert.MixersIdeal.nD Cert.MixersIdeal.τ).loc Cert.MixersIdeal.main_arg1)
          ∧ r.2.mem ((c.tc : Thread Cert.MixersIdeal.nD Cert.MixersIdeal.τ).loc Cert.MixersIdeal.main_arg2) = m ((c.tc : Thread Cert.MixersIdeal.nD Cert.MixersIdeal.τ).loc Cert.MixersIdeal.main_arg2)
          ∧ r.2.mem ((c.tc : Thread Cert.MixersIdeal.nD Cert.MixersIdeal.τ).loc Cert.MixersIdeal.main_arg3) = m ((c.tc : Thread Cert.MixersIdeal.nD Cert.MixersIdeal.τ).loc Cert.MixersIdeal.main_arg3)
          ∧ r.2.mem ((c.tc : Thread Cert.MixersIdeal.nD Cert.MixersIdeal.τ).loc Cert.MixersIdeal.main_arg4) = m ((c.tc : Thread Cert.MixersIdeal.nD Cert.MixersIdeal.τ).loc Cert.MixersIdeal.main_arg4)
          ∧ r.2.mem ((c.tc : Thread Cert.MixersIdeal.nD Cert.MixersIdeal.τ).loc Cert.MixersIdeal.main_arg5) = m ((c.tc : Thread Cert.MixersIdeal.nD Cert.MixersIdeal.τ).loc Cert.MixersIdeal.main_arg5)
          ∧ r.2.mem ((c.tc : Thread Cert.MixersIdeal.nD Cert.MixersIdeal.τ).loc Cert.MixersIdeal.main_arg6) = m ((c.tc : Thread Cert.MixersIdeal.nD Cert.MixersIdeal.τ).loc Cert.MixersIdeal.main_arg6)
          ∧ r.2.mem ((c.tc : Thread Cert.MixersIdeal.nD Cert.MixersIdeal.τ).loc Cert.MixersIdeal.main_arg7) = m ((c.tc : Thread Cert.MixersIdeal.nD Cert.MixersIdeal.τ).loc Cert.MixersIdeal.main_arg7)
          ∧ r.2.mem ((c.tc : Thread Cert.MixersIdeal.nD Cert.MixersIdeal.τ).loc Cert.MixersIdeal.main_arg8) = m ((c.tc : Thread Cert.MixersIdeal.nD Cert.MixersIdeal.τ).loc Cert.MixersIdeal.main_arg8)
          ∧ r.2.mem ((c.tc : Thread Cert.MixersIdeal.nD Cert.MixersIdeal.τ).loc Cert.MixersIdeal.main_arg9) = m ((c.tc : Thread Cert.MixersIdeal.nD Cert.MixersIdeal.τ).loc Cert.MixersIdeal.main_arg9)
          ∧ r.2.mem ((c.tc : Thread Cert.MixersIdeal.nD Cert.MixersIdeal.τ).loc Cert.MixersIdeal.main_arg10) = m ((c.tc : Thread Cert.MixersIdeal.nD Cert.MixersIdeal.τ).loc Cert.MixersIdeal.main_arg10)
          ∧ r.2.mem ((c.tc : Thread Cert.MixersIdeal.nD Cert.MixersIdeal.τ).loc Cert.MixersIdeal.main_arg11) = m ((c.tc : Thread Cert.MixersIdeal.nD Cert.MixersIdeal.τ).loc Cert.MixersIdeal.main_arg11)
          ∧ r.2.mem ((c.tc : Thread Cert.MixersIdeal.nD Cert.MixersIdeal.τ).loc Cert.MixersIdeal.main_arg12) = m ((c.tc : Thread Cert.MixersIdeal.nD Cert.MixersIdeal.τ).loc Cert.MixersIdeal.main_arg12))
      ∧ θ_run (Cert.AttentionIdeal.defs (F := Ideal)) (onTc (τ := Cert.AttentionIdeal.τ) (Cert.AttentionIdeal.main (F := Ideal))) ⟨m', fun _ => 0, g'⟩ (fun r => ∀ c : Dev Cert.AttentionIdeal.nD,
          r.2.mem ((c.tc : Thread Cert.AttentionIdeal.nD Cert.AttentionIdeal.τ).loc Cert.AttentionIdeal.main_v30) = v0 c
          ∧ r.2.mem ((c.tc : Thread Cert.AttentionIdeal.nD Cert.AttentionIdeal.τ).loc Cert.AttentionIdeal.main_arg0) = m' ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m' ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m' ((c.tc : Thread Cert.AttentionIdeal.nD Cert.AttentionIdeal.τ).loc Cert.AttentionIdeal.main_arg2)
          ∧ r.2.mem ((c.tc : Thread Cert.AttentionIdeal.nD Cert.AttentionIdeal.τ).loc Cert.AttentionIdeal.main_arg3) = m' ((c.tc : Thread Cert.AttentionIdeal.nD Cert.AttentionIdeal.τ).loc Cert.AttentionIdeal.main_arg3)
          ∧ r.2.mem ((c.tc : Thread Cert.AttentionIdeal.nD Cert.AttentionIdeal.τ).loc Cert.AttentionIdeal.main_arg4) = m' ((c.tc : Thread Cert.AttentionIdeal.nD Cert.AttentionIdeal.τ).loc Cert.AttentionIdeal.main_arg4)
          ∧ r.2.mem ((c.tc : Thread Cert.AttentionIdeal.nD Cert.AttentionIdeal.τ).loc Cert.AttentionIdeal.main_arg5) = m' ((c.tc : Thread Cert.AttentionIdeal.nD Cert.AttentionIdeal.τ).loc Cert.AttentionIdeal.main_arg5)
          ∧ r.2.mem ((c.tc : Thread Cert.AttentionIdeal.nD Cert.AttentionIdeal.τ).loc Cert.AttentionIdeal.main_arg6) = m' ((c.tc : Thread Cert.AttentionIdeal.nD Cert.AttentionIdeal.τ).loc Cert.AttentionIdeal.main_arg6)
          ∧ r.2.mem ((c.tc : Thread Cert.AttentionIdeal.nD Cert.AttentionIdeal.τ).loc Cert.AttentionIdeal.main_arg7) = m' ((c.tc : Thread Cert.AttentionIdeal.nD Cert.AttentionIdeal.τ).loc Cert.AttentionIdeal.main_arg7)
          ∧ r.2.mem ((c.tc : Thread Cert.AttentionIdeal.nD Cert.AttentionIdeal.τ).loc Cert.AttentionIdeal.main_arg8) = m' ((c.tc : Thread Cert.AttentionIdeal.nD Cert.AttentionIdeal.τ).loc Cert.AttentionIdeal.main_arg8)
          ∧ r.2.mem ((c.tc : Thread Cert.AttentionIdeal.nD Cert.AttentionIdeal.τ).loc Cert.AttentionIdeal.main_arg9) = m' ((c.tc : Thread Cert.AttentionIdeal.nD Cert.AttentionIdeal.τ).loc Cert.AttentionIdeal.main_arg9)
          ∧ r.2.mem ((c.tc : Thread Cert.AttentionIdeal.nD Cert.AttentionIdeal.τ).loc Cert.AttentionIdeal.main_arg10) = m' ((c.tc : Thread Cert.AttentionIdeal.nD Cert.AttentionIdeal.τ).loc Cert.AttentionIdeal.main_arg10)
          ∧ r.2.mem ((c.tc : Thread Cert.AttentionIdeal.nD Cert.AttentionIdeal.τ).loc Cert.AttentionIdeal.main_arg11) = m' ((c.tc : Thread Cert.AttentionIdeal.nD Cert.AttentionIdeal.τ).loc Cert.AttentionIdeal.main_arg11)
          ∧ r.2.mem ((c.tc : Thread Cert.AttentionIdeal.nD Cert.AttentionIdeal.τ).loc Cert.AttentionIdeal.main_arg12) = m' ((c.tc : Thread Cert.AttentionIdeal.nD Cert.AttentionIdeal.τ).loc Cert.AttentionIdeal.main_arg12))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v25_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v25_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def Claim : Prop :=
  ∃ (hInProj : Cert.InProj.Facts) (hInProjIdeal : Cert.InProjIdeal.Facts) (hInProjRefIdeal : Cert.InProjRefIdeal.Facts) (hMixers : Cert.Mixers.Facts) (hMixersIdeal : Cert.MixersIdeal.Facts) (hAttentionIdeal : Cert.AttentionIdeal.Facts) (hOutProj : Cert.OutProj.Facts) (hOutProjIdeal : Cert.OutProjIdeal.Facts) (hOutProjRefIdeal : Cert.OutProjRefIdeal.Facts),
    quiescent_InProj (hInProj := hInProj)
    ∧ quiescent_InProjIdeal (hInProjIdeal := hInProjIdeal)
    ∧ quiescent_InProjRefIdeal (hInProjRefIdeal := hInProjRefIdeal)
    ∧ quiescent_Mixers (hMixers := hMixers)
    ∧ quiescent_MixersIdeal (hMixersIdeal := hMixersIdeal)
    ∧ quiescent_AttentionIdeal (hAttentionIdeal := hAttentionIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ preserves_InProj_InProjIdeal
    ∧ algebraic_InProjIdeal_InProjRefIdeal (hInProjIdeal := hInProjIdeal) (hInProjRefIdeal := hInProjRefIdeal)
    ∧ preserves_Mixers_MixersIdeal
    ∧ algebraic_MixersIdeal_AttentionIdeal (hMixersIdeal := hMixersIdeal) (hAttentionIdeal := hAttentionIdeal)
    ∧ preserves_OutProj_OutProjIdeal
    ∧ algebraic_OutProjIdeal_OutProjRefIdeal (hOutProjIdeal := hOutProjIdeal) (hOutProjRefIdeal := hOutProjRefIdeal)
-- ==== InProj.lean ====
abbrev S4x4096x1024 : Shape := ⟨3, ![4, 4096, 1024]⟩
abbrev S1x1024 : Shape := ⟨2, ![1, 1024]⟩
abbrev S1x1024x3088 : Shape := ⟨3, ![1, 1024, 3088]⟩
abbrev S16384x1024 : Shape := ⟨2, ![16384, 1024]⟩
abbrev S1024 : Shape := ⟨1, ![1024]⟩
abbrev S1024x3088 : Shape := ⟨2, ![1024, 3088]⟩
abbrev S1024x512 : Shape := ⟨2, ![1024, 512]⟩
abbrev S1024x256 : Shape := ⟨2, ![1024, 256]⟩
abbrev S1024x16 : Shape := ⟨2, ![1024, 16]⟩
abbrev S16384x512 : Shape := ⟨2, ![16384, 512]⟩
abbrev S16384x256 : Shape := ⟨2, ![16384, 256]⟩
abbrev S16384x16 : Shape := ⟨2, ![16384, 16]⟩
abbrev S1024x1024 : Shape := ⟨2, ![1024, 1024]⟩
abbrev S1024x1 : Shape := ⟨2, ![1024, 1]⟩

abbrev nBuf : Space → Nat
  | .hbm => 31
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3088, .f32⟩
  | .hbm, ⟨3, _⟩ => ⟨S16384x1024, .f32⟩
  | .hbm, ⟨4, _⟩ => ⟨S1024, .f32⟩
  | .hbm, ⟨5, _⟩ => ⟨S1024x3088, .f32⟩
  | .hbm, ⟨6, _⟩ => ⟨S1024x512, .f32⟩
  | .hbm, ⟨7, _⟩ => ⟨S1024x512, .bf16⟩
  | .hbm, ⟨8, _⟩ => ⟨S1024x512, .f32⟩
  | .hbm, ⟨9, _⟩ => ⟨S1024x512, .bf16⟩
  | .hbm, ⟨10, _⟩ => ⟨S1024x512, .f32⟩
  | .hbm, ⟨11, _⟩ => ⟨S1024x512, .bf16⟩
  | .hbm, ⟨12, _⟩ => ⟨S1024x256, .f32⟩
  | .hbm, ⟨13, _⟩ => ⟨S1024x256, .bf16⟩
  | .hbm, ⟨14, _⟩ => ⟨S1024x256, .f32⟩
  | .hbm, ⟨15, _⟩ => ⟨S1024x256, .bf16⟩
  | .hbm, ⟨16, _⟩ => ⟨S1024x512, .f32⟩
  | .hbm, ⟨17, _⟩ => ⟨S1024x512, .bf16⟩
  | .hbm, ⟨18, _⟩ => ⟨S1024x512, .f32⟩
  | .hbm, ⟨19, _⟩ => ⟨S1024x512, .bf16⟩
  | .hbm, ⟨20, _⟩ => ⟨S1024x16, .f32⟩
  | .hbm, ⟨21, _⟩ => ⟨S1024x16, .bf16⟩
  | .hbm, ⟨22, _⟩ => ⟨S1x1024, .f32⟩
  | .hbm, ⟨23, _⟩ => ⟨S16384x512, .bf16⟩
  | .hbm, ⟨24, _⟩ => ⟨S16384x512, .bf16⟩
  | .hbm, ⟨25, _⟩ => ⟨S16384x512, .bf16⟩
  | .hbm, ⟨26, _⟩ => ⟨S16384x256, .f32⟩
  | .hbm, ⟨27, _⟩ => ⟨S16384x256, .f32⟩
  | .hbm, ⟨28, _⟩ => ⟨S16384x512, .bf16⟩
  | .hbm, ⟨29, _⟩ => ⟨S16384x512, .f32⟩
  | .hbm, ⟨30, _⟩ => ⟨S16384x16, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x256, .bf16⟩
  | .local _ .vmem, ⟨7, _⟩ => ⟨S1024x256, .bf16⟩
  | .local _ .vmem, ⟨8, _⟩ => ⟨S1024x512, .bf16⟩
  | .local _ .vmem, ⟨9, _⟩ => ⟨S1024x512, .bf16⟩
  | .local _ .vmem, ⟨10, _⟩ => ⟨S1024x16, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x512, .bf16⟩
  | .local _ .vmem, ⟨22, _⟩ => ⟨S1024x512, .bf16⟩
  | .local _ .vmem, ⟨23, _⟩ => ⟨S1024x512, .f32⟩
  | .local _ .vmem, ⟨24, _⟩ => ⟨S1024x512, .f32⟩
  | .local _ .vmem, ⟨25, _⟩ => ⟨S1024x16, .f32⟩
  | .local _ .vmem, ⟨26, _⟩ => ⟨S1024x16, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20_0 : Ref sig .tc := ⟨.hbm, 23, rfl⟩
abbrev main_v20_1 : Ref sig .tc := ⟨.hbm, 24, rfl⟩
abbrev main_v20_2 : Ref sig .tc := ⟨.hbm, 25, rfl⟩
abbrev main_v20_3 : Ref sig .tc := ⟨.hbm, 26, rfl⟩
abbrev main_v20_4 : Ref sig .tc := ⟨.hbm, 27, rfl⟩
abbrev main_v20_5 : Ref sig .tc := ⟨.hbm, 28, rfl⟩
abbrev main_v20_6 : Ref sig .tc := ⟨.hbm, 29, rfl⟩
abbrev main_v20_7 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1024x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1024x16 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InProjRefIdeal.lean ====
abbrev S4x4096x1024 : Shape := ⟨3, ![4, 4096, 1024]⟩
abbrev S1x1024 : Shape := ⟨2, ![1, 1024]⟩
abbrev S1x1024x3088 : Shape := ⟨3, ![1, 1024, 3088]⟩
abbrev S1024 : Shape := ⟨1, ![1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x3088 : Shape := ⟨2, ![1024, 3088]⟩
abbrev S4x4096x3088 : Shape := ⟨3, ![4, 4096, 3088]⟩
abbrev S4x4096x512 : Shape := ⟨3, ![4, 4096, 512]⟩
abbrev S4x4096x256 : Shape := ⟨3, ![4, 4096, 256]⟩
abbrev S4x4096x16 : Shape := ⟨3, ![4, 4096, 16]⟩
abbrev S16384x512 : Shape := ⟨2, ![16384, 512]⟩
abbrev S16384x256 : Shape := ⟨2, ![16384, 256]⟩
abbrev S16384x16 : Shape := ⟨2, ![16384, 16]⟩

abbrev nBuf : Space → Nat
  | .hbm => 48
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1x1024, .f32⟩
  | .hbm, ⟨2, _⟩ => ⟨S1x1024x3088, .f32⟩
  | .hbm, ⟨3, _⟩ => ⟨S1024, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S1024x3088, .f32⟩
  | .hbm, ⟨21, _⟩ => ⟨S4x4096x3088, .f32⟩
  | .hbm, ⟨22, _⟩ => ⟨S4x4096x512, .f32⟩
  | .hbm, ⟨23, _⟩ => ⟨S4x4096x512, .f32⟩
  | .hbm, ⟨24, _⟩ => ⟨S4x4096x512, .f32⟩
  | .hbm, ⟨25, _⟩ => ⟨S4x4096x256, .f32⟩
  | .hbm, ⟨26, _⟩ => ⟨S4x4096x256, .f32⟩
  | .hbm, ⟨27, _⟩ => ⟨S4x4096x512, .f32⟩
  | .hbm, ⟨28, _⟩ => ⟨S4x4096x512, .f32⟩
  | .hbm, ⟨29, _⟩ => ⟨S4x4096x16, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x256, .f32⟩
  | .hbm, ⟨34, _⟩ => ⟨S16384x256, .f32⟩
  | .hbm, ⟨35, _⟩ => ⟨S16384x512, .f32⟩
  | .hbm, ⟨36, _⟩ => ⟨S16384x512, .f32⟩
  | .hbm, ⟨37, _⟩ => ⟨S16384x16, .f32⟩
  | .hbm, ⟨38, _⟩ => ⟨S_, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384x256, .f32⟩
  | .hbm, ⟨43, _⟩ => ⟨S16384x256, .f32⟩
  | .hbm, ⟨44, _⟩ => ⟨S16384x512, .bf16⟩
  | .hbm, ⟨45, _⟩ => ⟨S16384x512, .bf16⟩
  | .hbm, ⟨46, _⟩ => ⟨S16384x512, .bf16⟩
  | .hbm, ⟨47, _⟩ => ⟨S16384x512, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Mixers.lean ====
abbrev S16384x512 : Shape := ⟨2, ![16384, 512]⟩
abbrev S16384x256 : Shape := ⟨2, ![16384, 256]⟩
abbrev S16384x16 : Shape := ⟨2, ![16384, 16]⟩
abbrev S16x256 : Shape := ⟨2, ![16, 256]⟩
abbrev S256 : Shape := ⟨1, ![256]⟩
abbrev S512 : Shape := ⟨1, ![512]⟩
abbrev S520x128 : Shape := ⟨2, ![520, 128]⟩
abbrev S384x64 : Shape := ⟨2, ![384, 64]⟩
abbrev S4x4096x512 : Shape := ⟨3, ![4, 4096, 512]⟩
abbrev S1x256 : Shape := ⟨2, ![1, 256]⟩
abbrev S1x512 : Shape := ⟨2, ![1, 512]⟩
abbrev S1x512x512 : Shape := ⟨3, ![1, 512, 512]⟩
abbrev S1x4096x512 : Shape := ⟨3, ![1, 4096, 512]⟩
abbrev S512x256 : Shape := ⟨2, ![512, 256]⟩
abbrev S512x512 : Shape := ⟨2, ![512, 512]⟩
abbrev S512x16 : Shape := ⟨2, ![512, 16]⟩
abbrev S4x512x128 : Shape := ⟨3, ![4, 512, 128]⟩
abbrev S4x256x128 : Shape := ⟨3, ![4, 256, 128]⟩
abbrev S2x128x128 : Shape := ⟨3, ![2, 128, 128]⟩
abbrev S256x256 : Shape := ⟨2, ![256, 256]⟩
abbrev S1x128 : Shape := ⟨2, ![1, 128]⟩
abbrev S1x256x128 : Shape := ⟨3, ![1, 256, 128]⟩
abbrev S256x128 : Shape := ⟨2, ![256, 128]⟩
abbrev S64x64 : Shape := ⟨2, ![64, 64]⟩
abbrev S16x128 : Shape := ⟨2, ![16, 128]⟩
abbrev S512x128 : Shape := ⟨2, ![512, 128]⟩
abbrev S64x128 : Shape := ⟨2, ![64, 128]⟩
abbrev S128x128 : Shape := ⟨2, ![128, 128]⟩
abbrev S128x1024 : Shape := ⟨2, ![128, 1024]⟩
abbrev S520x1024 : Shape := ⟨2, ![520, 1024]⟩
abbrev S1x128x128 : Shape := ⟨3, ![1, 128, 128]⟩
abbrev S128 : Shape := ⟨1, ![128]⟩
abbrev S128x1 : Shape := ⟨2, ![128, 1]⟩
abbrev S128x64 : Shape := ⟨2, ![128, 64]⟩
abbrev S64 : Shape := ⟨1, ![64]⟩
abbrev S64x1 : Shape := ⟨2, ![64, 1]⟩
abbrev S1x512x128 : Shape := ⟨3, ![1, 512, 128]⟩
abbrev S512x1 : Shape := ⟨2, ![512, 1]⟩
abbrev S256x512 : Shape := ⟨2, ![256, 512]⟩
abbrev S1 : Shape := ⟨1, ![1]⟩
abbrev S1x1x1 : Shape := ⟨3, ![1, 1, 1]⟩

abbrev nBuf : Space → Nat
  | .hbm => 20
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S16384x256, .f32⟩
  | .hbm, ⟨5, _⟩ => ⟨S16384x512, .bf16⟩
  | .hbm, ⟨6, _⟩ => ⟨S16384x512, .f32⟩
  | .hbm, ⟨7, _⟩ => ⟨S16384x16, .f32⟩
  | .hbm, ⟨8, _⟩ => ⟨S16x256, .f32⟩
  | .hbm, ⟨9, _⟩ => ⟨S256, .f32⟩
  | .hbm, ⟨10, _⟩ => ⟨S512, .f32⟩
  | .hbm, ⟨11, _⟩ => ⟨S520x128, .bf16⟩
  | .hbm, ⟨12, _⟩ => ⟨S384x64, .f32⟩
  | .hbm, ⟨13, _⟩ => ⟨S4x4096x512, .bf16⟩
  | .hbm, ⟨14, _⟩ => ⟨S4x4096x512, .bf16⟩
  | .hbm, ⟨15, _⟩ => ⟨S4x4096x512, .bf16⟩
  | .hbm, ⟨16, _⟩ => ⟨S1x256, .f32⟩
  | .hbm, ⟨17, _⟩ => ⟨S1x512, .f32⟩
  | .hbm, ⟨18, _⟩ => ⟨S4x4096x512, .bf16⟩
  | .hbm, ⟨19, _⟩ => ⟨S16384x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4096x512, .bf16⟩
  | .local _ .vmem, ⟨5, _⟩ => ⟨S1x4096x512, .bf16⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x512, .bf16⟩
  | .local _ .vmem, ⟨11, _⟩ => ⟨S512x512, .bf16⟩
  | .local _ .vmem, ⟨12, _⟩ => ⟨S512x512, .f32⟩
  | .local _ .vmem, ⟨13, _⟩ => ⟨S512x512, .f32⟩
  | .local _ .vmem, ⟨14, _⟩ => ⟨S512x16, .f32⟩
  | .local _ .vmem, ⟨15, _⟩ => ⟨S512x16, .f32⟩
  | .local _ .vmem, ⟨16, _⟩ => ⟨S16x256, .f32⟩
  | .local _ .vmem, ⟨17, _⟩ => ⟨S1x256, .f32⟩
  | .local _ .vmem, ⟨18, _⟩ => ⟨S1x512, .f32⟩
  | .local _ .vmem, ⟨19, _⟩ => ⟨S520x128, .bf16⟩
  | .local _ .vmem, ⟨20, _⟩ => ⟨S384x64, .f32⟩
  | .local _ .vmem, ⟨21, _⟩ => ⟨S1x512x512, .bf16⟩
  | .local _ .vmem, ⟨22, _⟩ => ⟨S1x512x512, .bf16⟩
  | .local _ .vmem, ⟨23, _⟩ => ⟨S512x512, .bf16⟩
  | .local _ .vmem, ⟨24, _⟩ => ⟨S512x512, .bf16⟩
  | .local _ .vmem, ⟨25, _⟩ => ⟨S4x512x128, .bf16⟩
  | .local _ .vmem, ⟨26, _⟩ => ⟨S4x256x128, .f32⟩
  | .local _ .vmem, ⟨27, _⟩ => ⟨S4x512x128, .f32⟩
  | .local _ .vmem, ⟨28, _⟩ => ⟨S2x128x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5_0 : Ref sig .tc := ⟨.hbm, 18, rfl⟩
abbrev main_v5_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c2_i32 : BitVec 32 := 2#32
  let v3 : BitVec 32 := Scalar.muli arg1 c2_i32
  let c0_i32_1 : BitVec 32 := 0#32
  let v4 : BitVec 32 := Scalar.addi v3 c0_i32_1
  let c256_i32 : BitVec 32 := 256#32
  let v2013 : BitVec 32 := Scalar.muli v4 c256_i32
  v2013
def k0_off1 (i : grid0.Coords) (c0_i32_1 : BitVec 32) : Fin 3 → Nat :=
  let c0_682 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v2013 : BitVec 32 := Scalar.muli v4 c256_i32
  let v2014 : BitVec 32 := v2013
  let v2017 : Index := Scalar.indexCast v2014
  let c0_683 : Index := 0#32
  ![0, v2017.toNat, 0]
def k0_off2 (i : grid0.Coords) (c0_i32_1 : BitVec 32) : Fin 3 → Nat :=
  let c0_688 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v2013 : BitVec 32 := Scalar.muli v4 c256_i32
  let v2014 : BitVec 32 := v2013
  let v2023 : Index := Scalar.indexCast v2014
  let c128_689 : Index := 128#32
  ![0, v2023.toNat, 128]
def k0_off3 (i : grid0.Coords) (c0_i32_1 : BitVec 32) : Fin 3 → Nat :=
  let c0_694 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v2013 : BitVec 32 := Scalar.muli v4 c256_i32
  let v2014 : BitVec 32 := v2013
  let v2029 : Index := Scalar.indexCast v2014
  let c256_695 : Index := 256#32
  ![0, v2029.toNat, 256]
def k0_off4 (i : grid0.Coords) (c0_i32_1 : BitVec 32) : Fin 3 → Nat :=
  let c0_705 : Index := 0#32
  let arg1 : BitVec 32 := BitVec.ofNat 32 (i 1).val
  let c2_i32 : BitVec 32 := 2#32
  let v3 : BitVec 32 := Scalar.muli arg1 c2_i32
  let v4 : BitVec 32 := Scalar.addi v3 c0_i32_1
  let c256_i32 : BitVec 32 := 256#32
  let v2013 : BitVec 32 := Scalar.muli v4 c256_i32
  let v2014 : BitVec 32 := v2013
  let v2050 : Index := Scalar.indexCast v2014
  let c384_706 : Index := 384#32
  ![0, v2050.toNat, 384]
def k0_mult2 (arg21 : BitVec 32) : BitVec 32 :=
  let c256_i32_1671 : BitVec 32 := 256#32
  let v4581 : BitVec 32 := Scalar.muli arg21 c256_i32_1671
  v4581

def k0_off5 (arg21 : BitVec 32) : Fin 3 → Nat :=
  let c0_1675 : Index := 0#32
  let c256_i32_1671 : BitVec 32 := 256#32
  let v4581 : BitVec 32 := Scalar.muli arg21 c256_i32_1671
  let v4582 : BitVec 32 := v4581
  let v4585 : Index := Scalar.indexCast v4582
  let c0_1676 : Index := 0#32
  ![0, v4585.toNat, 0]
def k0_off6 (arg21 : BitVec 32) : Fin 3 → Nat :=
  let c0_1681 : Index := 0#32
  let c256_i32_1671 : BitVec 32 := 256#32
  let v4581 : BitVec 32 := Scalar.muli arg21 c256_i32_1671
  let v4582 : BitVec 32 := v4581
  let v4591 : Index := Scalar.indexCast v4582
  let c128_1682 : Index := 128#32
  ![0, v4591.toNat, 128]
def k0_off7 (arg21 : BitVec 32) : Fin 3 → Nat :=
  let c0_1687 : Index := 0#32
  let c256_i32_1671 : BitVec 32 := 256#32
  let v4581 : BitVec 32 := Scalar.muli arg21 c256_i32_1671
  let v4582 : BitVec 32 := v4581
  let v4597 : Index := Scalar.indexCast v4582
  let c256_1688 : Index := 256#32
  ![0, v4597.toNat, 256]
def k0_off8 (arg21 : BitVec 32) : Fin 3 → Nat :=
  let c0_1697 : Index := 0#32
  let c256_i32_1671 : BitVec 32 := 256#32
  let v4581 : BitVec 32 := Scalar.muli arg21 c256_i32_1671
  let v4582 : BitVec 32 := v4581
  let v4616 : Index := Scalar.indexCast v4582
  let c384_1698 : Index := 384#32
  ![0, v4616.toNat, 384]

def k0_chk1 (arg21 : BitVec 32) : Prop :=
  (256 ∣ (k0_mult2 arg21).toNat) ∧
  (∀ a, (k0_off5 arg21) a + S1x256x128.size a ≤ S1x4096x512.size a) ∧
  (∀ a, (k0_off6 arg21) a + S1x256x128.size a ≤ S1x4096x512.size a) ∧
  (∀ a, (k0_off7 arg21) a + S1x256x128.size a ≤ S1x4096x512.size a) ∧
  (∀ a, (k0_off8 arg21) a + S1x256x128.size a ≤ S1x4096x512.size a)
theorem k0_mult2_dvd : ∀ (arg21 : BitVec 32) (k0_hw1 : k0_chk1 arg21), 256 ∣ (k0_mult2 arg21).toNat := fun arg21 k0_hw1 => k0_hw1.1
theorem k0_off5_inb : ∀ (arg21 : BitVec 32) (k0_hw1 : k0_chk1 arg21), ∀ a, (k0_off5 arg21) a + S1x256x128.size a ≤ S1x4096x512.size a := fun arg21 k0_hw1 => k0_hw1.2.1
theorem k0_off6_inb : ∀ (arg21 : BitVec 32) (k0_hw1 : k0_chk1 arg21), ∀ a, (k0_off6 arg21) a + S1x256x128.size a ≤ S1x4096x512.size a := fun arg21 k0_hw1 => k0_hw1.2.2.1
theorem k0_off7_inb : ∀ (arg21 : BitVec 32) (k0_hw1 : k0_chk1 arg21), ∀ a, (k0_off7 arg21) a + S1x256x128.size a ≤ S1x4096x512.size a := fun arg21 k0_hw1 => k0_hw1.2.2.2.1
theorem k0_off8_inb : ∀ (arg21 : BitVec 32) (k0_hw1 : k0_chk1 arg21), ∀ a, (k0_off8 arg21) a + S1x256x128.size a ≤ S1x4096x512.size a := fun arg21 k0_hw1 => k0_hw1.2.2.2.2

def k0_mult3 (i : grid0.Coords) : BitVec 32 :=
  let arg1 : BitVec 32 := BitVec.ofNat 32 (i 1).val
  let c2_i32_828 : BitVec 32 := 2#32
  let v2292 : BitVec 32 := Scalar.muli arg1 c2_i32_828
  let c1_i32_829 : BitVec 32 := 1#32
  let v2293 : BitVec 32 := Scalar.addi v2292 c1_i32_829
  let c256_i32_1520 : BitVec 32 := 256#32
  let v4302 : BitVec 32 := Scalar.muli v2293 c256_i32_1520
  v4302
def k0_mult4 (arg21 : BitVec 32) : BitVec 32 :=
  let c256_i32_1671 : BitVec 32 := 256#32
  let v4581 : BitVec 32 := Scalar.muli arg21 c256_i32_1671
  v4581

def k0_off9 (arg21 : BitVec 32) : Fin 3 → Nat :=
  let c0_1675 : Index := 0#32
  let c256_i32_1671 : BitVec 32 := 256#32
  let v4581 : BitVec 32 := Scalar.muli arg21 c256_i32_1671
  let v4582 : BitVec 32 := v4581
  let v4585 : Index := Scalar.indexCast v4582
  let c0_1676 : Index := 0#32
  ![0, v4585.toNat, 0]
def k0_off10 (arg21 : BitVec 32) : Fin 3 → Nat :=
  let c0_1681 : Index := 0#32
  let c256_i32_1671 : BitVec 32 := 256#32
  let v4581 : BitVec 32 := Scalar.muli arg21 c256_i32_1671
  let v4582 : BitVec 32 := v4581
  let v4591 : Index := Scalar.indexCast v4582
  let c128_1682 : Index := 128#32
  ![0, v4591.toNat, 128]
def k0_off11 (arg21 : BitVec 32) : Fin 3 → Nat :=
  let c0_1687 : Index := 0#32
  let c256_i32_1671 : BitVec 32 := 256#32
  let v4581 : BitVec 32 := Scalar.muli arg21 c256_i32_1671
  let v4582 : BitVec 32 := v4581
  let v4597 : Index := Scalar.indexCast v4582
  let c256_1688 : Index := 256#32
  ![0, v4597.toNat, 256]
def k0_off12 (arg21 : BitVec 32) : Fin 3 → Nat :=
  let c0_1697 : Index := 0#32
  let c256_i32_1671 : BitVec 32 := 256#32
  let v4581 : BitVec 32 := Scalar.muli arg21 c256_i32_1671
  let v4582 : BitVec 32 := v4581
  let v4616 : Index := Scalar.indexCast v4582
  let c384_1698 : Index := 384#32
  ![0, v4616.toNat, 384]

def k0_chk2 (arg21 : BitVec 32) : Prop :=
  (256 ∣ (k0_mult4 arg21).toNat) ∧
  (∀ a, (k0_off9 arg21) a + S1x256x128.size a ≤ S1x4096x512.size a) ∧
  (∀ a, (k0_off10 arg21) a + S1x256x128.size a ≤ S1x4096x512.size a) ∧
  (∀ a, (k0_off11 arg21) a + S1x256x128.size a ≤ S1x4096x512.size a) ∧
  (∀ a, (k0_off12 arg21) a + S1x256x128.size a ≤ S1x4096x512.size a)
theorem k0_mult4_dvd : ∀ (arg21 : BitVec 32) (k0_hw2 : k0_chk2 arg21), 256 ∣ (k0_mult4 arg21).toNat := fun arg21 k0_hw2 => k0_hw2.1
theorem k0_off9_inb : ∀ (arg21 : BitVec 32) (k0_hw2 : k0_chk2 arg21), ∀ a, (k0_off9 arg21) a + S1x256x128.size a ≤ S1x4096x512.size a := fun arg21 k0_hw2 => k0_hw2.2.1
theorem k0_off10_inb : ∀ (arg21 : BitVec 32) (k0_hw2 : k0_chk2 arg21), ∀ a, (k0_off10 arg21) a + S1x256x128.size a ≤ S1x4096x512.size a := fun arg21 k0_hw2 => k0_hw2.2.2.1
theorem k0_off11_inb : ∀ (arg21 : BitVec 32) (k0_hw2 : k0_chk2 arg21), ∀ a, (k0_off11 arg21) a + S1x256x128.size a ≤ S1x4096x512.size a := fun arg21 k0_hw2 => k0_hw2.2.2.2.1
theorem k0_off12_inb : ∀ (arg21 : BitVec 32) (k0_hw2 : k0_chk2 arg21), ∀ a, (k0_off12 arg21) a + S1x256x128.size a ≤ S1x4096x512.size a := fun arg21 k0_hw2 => k0_hw2.2.2.2.2

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S16x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S520x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S384x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== MixersIdeal.lean ====
variable {F : FTy → Type} [FloatOps F] [Named F]
def κ : String → Option EReal := fun
  | "clamp" => some ⊤
  | "inv_ln2" => some (((Real.log 2)⁻¹ : ℝ) : EReal)
  | "zero_weight" => some ⊤
  | _ => none
-- ==== AttentionIdeal.lean ====
abbrev S16384x512 : Shape := ⟨2, ![16384, 512]⟩
abbrev S16384x256 : Shape := ⟨2, ![16384, 256]⟩
abbrev S16384x16 : Shape := ⟨2, ![16384, 16]⟩
abbrev S16x256 : Shape := ⟨2, ![16, 256]⟩
abbrev S256 : Shape := ⟨1, ![256]⟩
abbrev S512 : Shape := ⟨1, ![512]⟩
abbrev S520x128 : Shape := ⟨2, ![520, 128]⟩
abbrev S384x64 : Shape := ⟨2, ![384, 64]⟩
abbrev S4x4096x8x64 : Shape := ⟨4, ![4, 4096, 8, 64]⟩
abbrev S4x8x4096x64 : Shape := ⟨4, ![4, 8, 4096, 64]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x4096x512 : Shape := ⟨3, ![4, 4096, 512]⟩

abbrev nBuf : Space → Nat
  | .hbm => 85
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x256, .f32⟩
  | .hbm, ⟨4, _⟩ => ⟨S16384x256, .f32⟩
  | .hbm, ⟨5, _⟩ => ⟨S16384x512, .bf16⟩
  | .hbm, ⟨6, _⟩ => ⟨S16384x512, .f32⟩
  | .hbm, ⟨7, _⟩ => ⟨S16384x16, .f32⟩
  | .hbm, ⟨8, _⟩ => ⟨S16x256, .f32⟩
  | .hbm, ⟨9, _⟩ => ⟨S256, .f32⟩
  | .hbm, ⟨10, _⟩ => ⟨S512, .f32⟩
  | .hbm, ⟨11, _⟩ => ⟨S520x128, .bf16⟩
  | .hbm, ⟨12, _⟩ => ⟨S384x64, .f32⟩
  | .hbm, ⟨13, _⟩ => ⟨S4x4096x8x64, .bf16⟩
  | .hbm, ⟨14, _⟩ => ⟨S4x8x4096x64, .bf16⟩
  | .hbm, ⟨15, _⟩ => ⟨S4x4096x8x64, .bf16⟩
  | .hbm, ⟨16, _⟩ => ⟨S4x8x4096x64, .bf16⟩
  | .hbm, ⟨17, _⟩ => ⟨S4x4096x8x64, .bf16⟩
  | .hbm, ⟨18, _⟩ => ⟨S4x8x4096x64, .bf16⟩
  | .hbm, ⟨19, _⟩ => ⟨S4x8x4096x4096, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S4x8x4096x4096, .f32⟩
  | .hbm, ⟨24, _⟩ => ⟨S4x8x4096x4096, .f32⟩
  | .hbm, ⟨25, _⟩ => ⟨S4096, .i32⟩
  | .hbm, ⟨26, _⟩ => ⟨S1x4096, .i32⟩
  | .hbm, ⟨27, _⟩ => ⟨S4096x1, .i32⟩
  | .hbm, ⟨28, _⟩ => ⟨S4096x4096, .i32⟩
  | .hbm, ⟨29, _⟩ => ⟨S4096x4096, .i32⟩
  | .hbm, ⟨30, _⟩ => ⟨S4096x4096, .i1⟩
  | .hbm, ⟨31, _⟩ => ⟨S4x8x4096x4096, .f32⟩
  | .hbm, ⟨32, _⟩ => ⟨S_, .f32⟩
  | .hbm, ⟨33, _⟩ => ⟨S4x8x4096x4096, .f32⟩
  | .hbm, ⟨34, _⟩ => ⟨S4x8x4096x4096, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .i1⟩
  | .hbm, ⟨38, _⟩ => ⟨S4x8x4096x4096, .f32⟩
  | .hbm, ⟨39, _⟩ => ⟨S4x8x4096x4096, .f32⟩
  | .hbm, ⟨40, _⟩ => ⟨S4x8x4096x4096, .f32⟩
  | .hbm, ⟨41, _⟩ => ⟨S4x8x4096x4096, .f32⟩
  | .hbm, ⟨42, _⟩ => ⟨S4x8x4096x4096, .f32⟩
  | .hbm, ⟨43, _⟩ => ⟨S4x8x4096x4096, .f32⟩
  | .hbm, ⟨44, _⟩ => ⟨S4x8x4096x4096, .f32⟩
  | .hbm, ⟨45, _⟩ => ⟨S4x8x4096x4096, .f32⟩
  | .hbm, ⟨46, _⟩ => ⟨S4x8x4096x4096, .f32⟩
  | .hbm, ⟨47, _⟩ => ⟨S4x8x4096x4096, .f32⟩
  | .hbm, ⟨48, _⟩ => ⟨S4x8x4096x4096, .f32⟩
  | .hbm, ⟨49, _⟩ => ⟨S_, .f32⟩
  | .hbm, ⟨50, _⟩ => ⟨S4x8x4096x4096, .f32⟩
  | .hbm, ⟨51, _⟩ => ⟨S4x8x4096x4096, .f32⟩
  | .hbm, ⟨52, _⟩ => ⟨S4x8x4096x4096, .f32⟩
  | .hbm, ⟨53, _⟩ => ⟨S4x8x4096x4096, .f32⟩
  | .hbm, ⟨54, _⟩ => ⟨S4x8x4096x4096, .i1⟩
  | .hbm, ⟨55, _⟩ => ⟨S4x8x4096x4096, .f32⟩
  | .hbm, ⟨56, _⟩ => ⟨S4x8x4096x4096, .f32⟩
  | .hbm, ⟨57, _⟩ => ⟨S4x8x4096x4096, .f32⟩
  | .hbm, ⟨58, _⟩ => ⟨S4x8x4096x4096, .f32⟩
  | .hbm, ⟨59, _⟩ => ⟨S4x8x4096x4096, .f32⟩
  | .hbm, ⟨60, _⟩ => ⟨S4x8x4096x4096, .f32⟩
  | .hbm, ⟨61, _⟩ => ⟨S4x8x4096x4096, .f32⟩
  | .hbm, ⟨62, _⟩ => ⟨S4x8x4096x4096, .f32⟩
  | .hbm, ⟨63, _⟩ => ⟨S4x8x4096x4096, .f32⟩
  | .hbm, ⟨64, _⟩ => ⟨S_, .f32⟩
  | .hbm, ⟨65, _⟩ => ⟨S_, .f32⟩
  | .hbm, ⟨66, _⟩ => ⟨S4x8x4096x4096, .i1⟩
  | .hbm, ⟨67, _⟩ => ⟨S4x8x4096x4096, .f32⟩
  | .hbm, ⟨68, _⟩ => ⟨S4x8x4096x4096, .f32⟩
  | .hbm, ⟨69, _⟩ => ⟨S_, .f32⟩
  | .hbm, ⟨70, _⟩ => ⟨S_, .f32⟩
  | .hbm, ⟨71, _⟩ => ⟨S4x8x4096x4096, .f32⟩
  | .hbm, ⟨72, _⟩ => ⟨S4x8x4096x4096, .f32⟩
  | .hbm, ⟨73, _⟩ => ⟨S4x8x4096x4096, .f32⟩
  | .hbm, ⟨74, _⟩ => ⟨S4x8x4096x4096, .f32⟩
  | .hbm, ⟨75, _⟩ => ⟨S_, .f32⟩
  | .hbm, ⟨76, _⟩ => ⟨S_, .f32⟩
  | .hbm, ⟨77, _⟩ => ⟨S4x8x4096x4096, .i1⟩
  | .hbm, ⟨78, _⟩ => ⟨S4x8x4096x4096, .f32⟩
  | .hbm, ⟨79, _⟩ => ⟨S4x8x4096x4096, .f32⟩
  | .hbm, ⟨80, _⟩ => ⟨S4x8x4096x4096, .bf16⟩
  | .hbm, ⟨81, _⟩ => ⟨S4x8x4096x64, .f32⟩
  | .hbm, ⟨82, _⟩ => ⟨S4x4096x8x64, .f32⟩
  | .hbm, ⟨83, _⟩ => ⟨S4x4096x512, .f32⟩
  | .hbm, ⟨84, _⟩ => ⟨S4x4096x512, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v17 : Ref sig .tc := ⟨.hbm, 46, rfl⟩
abbrev main_v18 : Ref sig .tc := ⟨.hbm, 47, rfl⟩
abbrev main_call1_v0 : Ref sig .tc := ⟨.hbm, 48, rfl⟩
abbrev main_call1_call0_cst : Ref sig .tc := ⟨.hbm, 49, rfl⟩
abbrev main_call1_call0_v0 : Ref sig .tc := ⟨.hbm, 50, rfl⟩
abbrev main_call1_call0_v1 : Ref sig .tc := ⟨.hbm, 51, rfl⟩
abbrev main_call1_call0_v2 : Ref sig .tc := ⟨.hbm, 52, rfl⟩
abbrev main_call1_call0_v3 : Ref sig .tc := ⟨.hbm, 53, rfl⟩
abbrev main_call1_call0_v4 : Ref sig .tc := ⟨.hbm, 54, rfl⟩
abbrev main_call1_call0_v5 : Ref sig .tc := ⟨.hbm, 55, rfl⟩
abbrev main_call1_call0_v6 : Ref sig .tc := ⟨.hbm, 56, rfl⟩
abbrev main_call1_call0_v7 : Ref sig .tc := ⟨.hbm, 57, rfl⟩
abbrev main_call1_call0_v8 : Ref sig .tc := ⟨.hbm, 58, rfl⟩
abbrev main_call1_call0_v9 : Ref sig .tc := ⟨.hbm, 59, rfl⟩
abbrev main_call1_call0_v10 : Ref sig .tc := ⟨.hbm, 60, rfl⟩
abbrev main_call1_call0_v11 : Ref sig .tc := ⟨.hbm, 61, rfl⟩
abbrev main_call1_v1 : Ref sig .tc := ⟨.hbm, 62, rfl⟩
abbrev main_v19 : Ref sig .tc := ⟨.hbm, 63, rfl⟩
abbrev main_cst_0 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v20 : Ref sig .tc := ⟨.hbm, 68, rfl⟩
abbrev main_call3_cst : Ref sig .tc := ⟨.hbm, 69, rfl⟩
abbrev main_call3_v0 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_cst_1 : Ref sig .tc := ⟨.hbm, 75, rfl⟩
abbrev main_call4_v0 : Ref sig .tc := ⟨.hbm, 76, rfl⟩
abbrev main_call4_v1 : Ref sig .tc := ⟨.hbm, 77, rfl⟩
abbrev main_call4_v2 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩

abbrev nD : Nat := 1
abbrev τ : Topo := Topo.v7x

variable {F : FTy → Type} [FloatOps F]
-- ==== OutProj.lean ====
abbrev S4x4096x1024 : Shape := ⟨3, ![4, 4096, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512x1024 : Shape := ⟨2, ![512, 1024]⟩
abbrev S_ : Shape := ⟨0, ![]⟩
abbrev S1024x128 : Shape := ⟨2, ![1024, 128]⟩
abbrev S1024x36 : Shape := ⟨2, ![1024, 36]⟩
abbrev S1 : Shape := ⟨1, ![1]⟩
abbrev S1x128 : Shape := ⟨2, ![1, 128]⟩
abbrev S36 : Shape := ⟨1, ![36]⟩
abbrev S2 : Shape := ⟨1, ![2]⟩
abbrev S512x512 : Shape := ⟨2, ![512, 512]⟩
abbrev S131072x128 : Shape := ⟨2, ![131072, 128]⟩
abbrev S4x128x128 : Shape := ⟨3, ![4, 128, 128]⟩
abbrev S16384x128 : Shape := ⟨2, ![16384, 128]⟩
abbrev S1024x512 : Shape := ⟨2, ![1024, 512]⟩
abbrev S8192x128 : Shape := ⟨2, ![8192, 128]⟩
abbrev S4x8x128 : Shape := ⟨3, ![4, 8, 128]⟩
abbrev S1024x256 : Shape := ⟨2, ![1024, 256]⟩
abbrev S512x128 : Shape := ⟨2, ![512, 128]⟩
abbrev S512 : Shape := ⟨1, ![512]⟩
abbrev S512x1 : Shape := ⟨2, ![512, 1]⟩
abbrev S4096x128 : Shape := ⟨2, ![4096, 128]⟩
abbrev S512x256 : Shape := ⟨2, ![512, 256]⟩
abbrev S128 : Shape := ⟨1, ![128]⟩
abbrev S128x128 : Shape := ⟨2, ![128, 128]⟩
abbrev S1x1x128 : Shape := ⟨3, ![1, 1, 128]⟩

abbrev nBuf : Space → Nat
  | .hbm => 53
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x4, .f32⟩
  | .hbm, ⟨7, _⟩ => ⟨S1x1024x32, .f32⟩
  | .hbm, ⟨8, _⟩ => ⟨S1x32, .f32⟩
  | .hbm, ⟨9, _⟩ => ⟨S16384x1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S512x1024, .f32⟩
  | .hbm, ⟨17, _⟩ => ⟨S512x1024, .bf16⟩
  | .hbm, ⟨18, _⟩ => ⟨S512x1024, .f32⟩
  | .hbm, ⟨19, _⟩ => ⟨S512x1024, .bf16⟩
  | .hbm, ⟨20, _⟩ => ⟨S_, .f32⟩
  | .hbm, ⟨21, _⟩ => ⟨S1024x128, .f32⟩
  | .hbm, ⟨22, _⟩ => ⟨S1024x36, .f32⟩
  | .hbm, ⟨23, _⟩ => ⟨S_, .i32⟩
  | .hbm, ⟨24, _⟩ => ⟨S1, .i32⟩
  | .hbm, ⟨25, _⟩ => ⟨S1024x128, .f32⟩
  | .hbm, ⟨26, _⟩ => ⟨S_, .f32⟩
  | .hbm, ⟨27, _⟩ => ⟨S1x128, .f32⟩
  | .hbm, ⟨28, _⟩ => ⟨S36, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S1x1024, .f32⟩
  | .hbm, ⟨36, _⟩ => ⟨S_, .f32⟩
  | .hbm, ⟨37, _⟩ => ⟨S512x512, .f32⟩
  | .hbm, ⟨38, _⟩ => ⟨S512x512, .i32⟩
  | .hbm, ⟨39, _⟩ => ⟨S_, .i32⟩
  | .hbm, ⟨40, _⟩ => ⟨S512x512, .i32⟩
  | .hbm, ⟨41, _⟩ => ⟨S512x512, .i32⟩
  | .hbm, ⟨42, _⟩ => ⟨S512x512, .i32⟩
  | .hbm, ⟨43, _⟩ => ⟨S512x512, .i1⟩
  | .hbm, ⟨44, _⟩ => ⟨S_, .f32⟩
  | .hbm, ⟨45, _⟩ => ⟨S512x512, .f32⟩
  | .hbm, ⟨46, _⟩ => ⟨S512x512, .f32⟩
  | .hbm, ⟨47, _⟩ => ⟨S512x512, .bf16⟩
  | .hbm, ⟨48, _⟩ => ⟨S16384x1024, .f32⟩
  | .hbm, ⟨49, _⟩ => ⟨S131072x128, .f32⟩
  | .hbm, ⟨50, _⟩ => ⟨S4x128x128, .i32⟩
  | .hbm, ⟨51, _⟩ => ⟨S16384x128, .f32⟩
  | .hbm, ⟨52, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .f32⟩
  | .local _ .vmem, ⟨10, _⟩ => ⟨S1x128, .f32⟩
  | .local _ .vmem, ⟨11, _⟩ => ⟨S512x512, .bf16⟩
  | .local _ .vmem, ⟨12, _⟩ => ⟨S1024x1024, .f32⟩
  | .local _ .vmem, ⟨13, _⟩ => ⟨S1024x1024, .f32⟩
  | .local _ .vmem, ⟨14, _⟩ => ⟨S8192x128, .f32⟩
  | .local _ .vmem, ⟨15, _⟩ => ⟨S8192x128, .f32⟩
  | .local _ .vmem, ⟨16, _⟩ => ⟨S4x8x128, .i32⟩
  | .local _ .vmem, ⟨17, _⟩ => ⟨S4x8x128, .i32⟩
  | .local _ .vmem, ⟨18, _⟩ => ⟨S1024x128, .f32⟩
  | .local _ .vmem, ⟨19, _⟩ => ⟨S1024x128, .f32⟩
  | .local _ .vmem, ⟨20, _⟩ => ⟨S1x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_cst : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25_0 : Ref sig .tc := ⟨.hbm, 48, rfl⟩
abbrev main_v25_1 : Ref sig .tc := ⟨.hbm, 49, rfl⟩
abbrev main_v25_2 : Ref sig .tc := ⟨.hbm, 50, rfl⟩
abbrev main_v25_3 : Ref sig .tc := ⟨.hbm, 51, rfl⟩
abbrev main_v25_4 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8192x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x8x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== OutProjRefIdeal.lean ====
abbrev S4x4096x1024 : Shape := ⟨3, ![4, 4096, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x32 : Shape := ⟨3, ![1, 1024, 32]⟩
abbrev S1x32 : Shape := ⟨2, ![1, 32]⟩
abbrev S16384x1024 : Shape := ⟨2, ![16384, 1024]⟩
abbrev S1024x1024 : Shape := ⟨2, ![1024, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4, .f32⟩
  | .hbm, ⟨6, _⟩ => ⟨S1x4, .f32⟩
  | .hbm, ⟨7, _⟩ => ⟨S1x1024x32, .f32⟩
  | .hbm, ⟨8, _⟩ => ⟨S1x32, .f32⟩
  | .hbm, ⟨9, _⟩ => ⟨S16384x1024, .bf16⟩
  | .hbm, ⟨10, _⟩ => ⟨S16384x1024, .f32⟩
  | .hbm, ⟨11, _⟩ => ⟨S1024x1024, .f32⟩
  | .hbm, ⟨12, _⟩ => ⟨S16384x1024, .f32⟩
  | .hbm, ⟨13, _⟩ => ⟨S4x4096x1024, .f32⟩
  | .hbm, ⟨14, _⟩ => ⟨S4x4096x1024, .f32⟩
  | .hbm, ⟨15, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Proof.InProj.lean ====
/- The projection that opens the layer (`rms_norm` of a token's row, times the eight groups of columns of the input
   weight): each of the kernel's eight results is, at the ideal instance, the reference's. -/
module

public import proofs.«01_k».proof.Defs
public import proofs.«01_k».proof.Proof.Gen.InProj.Frame
public import proofs.«01_k».proof.Proof.Gen.InProjIdeal.Value
public import proofs.«01_k».proof.Proof.Gen.InProjRefIdeal.Run
public import Idealize.ShloMosaic.Lib.Pipeline.ValueKit
public import Idealize.ShloMosaic.Lib.Claim
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.InProjIdeal.RefValue

open Cert.InProjIdeal Cert.InProjIdeal.Gen Cert.InProjIdeal.Value

variable (m : (ℓ : Loc nD τ sig) → Buf (Elt Ideal) ℓ)

/-- One entry of the normalised activations: row `r` of the 16384 tokens, feature `k`. -/
def NORM (x : FVec Ideal S4x4096x1024 .f32) (g : FVec Ideal S1x1024 .f32) (b : Fin 4) (s : Fin 4096) (k : Fin 1024) : EReal :=
  (x (ix3 b s k) * Ideal.rsqrt (Ideal.div (∑ l : Fin 1024, x (ix3 b s l) * x (ix3 b s l)) (Ideal.ofBits .f32 0x44800000#32)
    + Ideal.ofBits .f32 0x358637BD#32)) * g (ix2 0 k)

/-- One entry of the projection: token `r`, column `j` of the 3088. -/
def PROJ (x : FVec Ideal S4x4096x1024 .f32) (g : FVec Ideal S1x1024 .f32) (w : FVec Ideal S1x1024x3088 .f32)
    (r : Fin 16384) (j : Fin 3088) : EReal :=
  ∑ k : Fin 1024, NORM x g ⟨r.val / 4096, by omega⟩ ⟨r.val % 4096, by omega⟩ k * w (ix3 0 k j)

/-- Result `q`: columns 0 to 511 of the projection, scaled. -/
def OUTQ (x : FVec Ideal S4x4096x1024 .f32) (g : FVec Ideal S1x1024 .f32) (w : FVec Ideal S1x1024x3088 .f32) :
    FVec Ideal S16384x512 .bf16 :=
  fun i => PROJ x g w (i 0) ⟨(i 1).val, by have h : (i 1).val < 512 := (i 1).isLt; omega⟩ * Ideal.ofBits .f32 0x3E38AA3B#32

/-- Result `k`: columns 512 to 1023 of the projection. -/
def OUTK (x : FVec Ideal S4x4096x1024 .f32) (g : FVec Ideal S1x1024 .f32) (w : FVec Ideal S1x1024x3088 .f32) :
    FVec Ideal S16384x512 .bf16 :=
  fun i => PROJ x g w (i 0) ⟨512 + (i 1).val, by have h : (i 1).val < 512 := (i 1).isLt; omega⟩

/-- Result `v`: columns 1024 to 1535 of the projection. -/
def OUTV (x : FVec Ideal S4x4096x1024 .f32) (g : FVec Ideal S1x1024 .f32) (w : FVec Ideal S1x1024x3088 .f32) :
    FVec Ideal S16384x512 .bf16 :=
  fun i => PROJ x g w (i 0) ⟨1024 + (i 1).val, by have h : (i 1).val < 512 := (i 1).isLt; omega⟩

/-- Result `gq`: columns 1536 to 1791 of the projection, scaled. -/
def OUTGQ (x : FVec Ideal S4x4096x1024 .f32) (g : FVec Ideal S1x1024 .f32) (w : FVec Ideal S1x1024x3088 .f32) :
    FVec Ideal S16384x256 .f32 :=
  fun i => PROJ x g w (i 0) ⟨1536 + (i 1).val, by have h : (i 1).val < 256 := (i 1).isLt; omega⟩ * Ideal.ofBits .f32 0x3E000000#32

/-- Result `gk`: columns 1792 to 2047 of the projection. -/
def OUTGK (x : FVec Ideal S4x4096x1024 .f32) (g : FVec Ideal S1x1024 .f32) (w : FVec Ideal S1x1024x3088 .f32) :
    FVec Ideal S16384x256 .f32 :=
  fun i => PROJ x g w (i 0) ⟨1792 + (i 1).val, by have h : (i 1).val < 256 := (i 1).isLt; omega⟩

/-- Result `gv`: columns 2048 to 2559 of the projection. -/
def OUTGV (x : FVec Ideal S4x4096x1024 .f32) (g : FVec Ideal S1x1024 .f32) (w : FVec Ideal S1x1024x3088 .f32) :
    FVec Ideal S16384x512 .bf16 :=
  fun i => PROJ x g w (i 0) ⟨2048 + (i 1).val, by have h : (i 1).val < 512 := (i 1).isLt; omega⟩

/-- Result `gr`: columns 2560 to 3071 of the projection. -/
def OUTGR (x : FVec Ideal S4x4096x1024 .f32) (g : FVec Ideal S1x1024 .f32) (w : FVec Ideal S1x1024x3088 .f32) :
    FVec Ideal S16384x512 .f32 :=
  fun i => PROJ x g w (i 0) ⟨2560 + (i 1).val, by have h : (i 1).val < 512 := (i 1).isLt; omega⟩

/-- Result `lr`: columns 3072 to 3087 of the projection. -/
def OUTLR (x : FVec Ideal S4x4096x1024 .f32) (g : FVec Ideal S1x1024 .f32) (w : FVec Ideal S1x1024x3088 .f32) :
    FVec Ideal S16384x16 .f32 :=
  fun i => PROJ x g w (i 0) ⟨3072 + (i 1).val, by have h : (i 1).val < 16 := (i 1).isLt; omega⟩

/-- The block every window has at a grid point: the activations and the results move down a block of rows a point, the
    weights stay. -/
theorem idx : ∀ t : Fin cfg0.N, win0_0.index t = ![t.val, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] ∧ win0_16.index t = ![t.val, 0] ∧ win0_17.index t = ![t.val, 0] :=
  (by decide +kernel : ∀ t : Fin grid0.N, _)

theorem hz : (![0, 0] : Fin 2 → Nat) = fun _ => 0 := funext fun a => by fin_cases a <;> rfl

/-- The normalised block as the body holds it, read off whole blocks. -/
theorem pay10_eq (x0 : Vec Ideal S1024x1024 .f32) (x1 : Vec Ideal S1x1024 .f32) (x2 : Vec Ideal S1024x512 .bf16)
    (x3 : Vec Ideal S1024x512 .bf16) (x4 : Vec Ideal S1024x512 .bf16) (x5 : Vec Ideal S1024x256 .bf16)
    (x6 : Vec Ideal S1024x256 .bf16) (x7 : Vec Ideal S1024x512 .bf16) (x8 : Vec Ideal S1024x512 .bf16)
    (x9 : Vec Ideal S1024x16 .bf16) : k0_pay10 x0 x1 x2 x3 x4 x5 x6 x7 x8 x9 = k0_pay6 x0 x1 := by
  unfold k0_pay10
  rw [View.ld_unit_zero hz, View.ld_unit_zero hz]

theorem sum_eq (f g : Fin 1024 → EReal) (h : ∀ k, f k = g k) : ∑ k, f k = ∑ k, g k := Finset.sum_congr rfl fun k _ => h k

/-- The normalised activations of a block, at an entry. -/
theorem pay6_apply (x0 : Vec Ideal S1024x1024 .f32) (x1 : Vec Ideal S1x1024 .f32) (r k : Fin 1024) :
    k0_pay6 x0 x1 (ix2 r k) = (x0 (ix2 r k) * Ideal.rsqrt (Ideal.div (∑ l : Fin 1024, x0 (ix2 r l) * x0 (ix2 r l))
      (Ideal.ofBits .f32 0x44800000#32) + Ideal.ofBits .f32 0x358637BD#32)) * x1 (ix2 0 k) := by
  pointwise [k0_pay6]

/-- Block `t` of the activations is rows `1024 t` to `1024 t + 1023` of the 16384 tokens. -/
theorem blk0 (c : Dev nD) (t : Fin cfg0.N) (r k : Fin 1024) (R : Fin 16384) (hR : R.val = t.val * 1024 + r.val) :
    (iblk m c 0 t : Vec Ideal S1024x1024 .f32) (ix2 r k)
      = m ((c : Thread nD τ).loc main_arg0) (ix3 ⟨R.val / 4096, by omega⟩ ⟨R.val % 4096, by omega⟩ k) := by
  blk_ext! [iblk, V, idx t]

theorem blk1 (c : Dev nD) (t : Fin cfg0.N) (k : Fin 1024) :
    (iblk m c 1 t : Vec Ideal S1x1024 .f32) (ix2 0 k) = m ((c : Thread nD τ).loc main_arg1) (ix2 0 k) := by
  blk_ext! [iblk, V, idx t]

/-- So the payload of a block's row is the token's normalised activations. -/
theorem norm_apply (c : Dev nD) (t : Fin cfg0.N) (r k : Fin 1024) (R : Fin 16384) (hR : R.val = t.val * 1024 + r.val) :
    k0_pay6 (iblk m c 0 t) (iblk m c 1 t) (ix2 r k) = NORM (m ((c : Thread nD τ).loc main_arg0))
      (m ((c : Thread nD τ).loc main_arg1)) ⟨R.val / 4096, by omega⟩ ⟨R.val % 4096, by omega⟩ k := by
  rw [pay6_apply]
  simp only [blk0 m c t r _ R hR, blk1 m c t]
  rfl

/-- Result `q`: the payload at an entry, the columns' block, and what the run leaves in the array. -/
theorem pay_q (x0 : Vec Ideal S1024x1024 .f32) (x1 : Vec Ideal S1x1024 .f32) (xw : Vec Ideal S1024x512 .bf16) (r : Fin 1024) (l : Fin 512) :
    k0_pay7 x0 x1 xw (ix2 r l) = (∑ k : Fin 1024, k0_pay6 x0 x1 (ix2 r k) * xw (ix2 k l)) * Ideal.ofBits .f32 0x3E38AA3B#32 := by
  pointwise [k0_pay7]

theorem blk_q (c : Dev nD) (t : Fin cfg0.N) (k : Fin 1024) (l : Fin 512) (j : Fin 3088) (hj : j.val = l.val) :
    (iblk m c 2 t : Vec Ideal S1024x512 .bf16) (ix2 k l) = m ((c : Thread nD τ).loc main_arg2) (ix3 0 k j) := by
  blk_ext! [iblk, V, idx t]

theorem point_q (c : Dev nD) (t : Fin cfg0.N) (r : Fin 1024) (l : Fin 512) (R : Fin 16384) (hR : R.val = t.val * 1024 + r.val) :
    k0_pay7 (iblk m c 0 t) (iblk m c 1 t) (iblk m c 2 t) (ix2 r l)
      = OUTQ (m ((c : Thread nD τ).loc main_arg0)) (m ((c : Thread nD τ).loc main_arg1)) (m ((c : Thread nD τ).loc main_arg2)) (ix2 R l) := by
  rw [pay_q]
  unfold OUTQ PROJ
  refine congrArg (· * _) (sum_eq _ _ fun k => ?_)
  rw [norm_apply m c t r k R hR, blk_q m c t k l ⟨l.val, by omega⟩ rfl]
  rfl

theorem final10 (c : Dev nD) : (dats m 0 c).arrAt 10 cfg0.N
    = OUTQ (m ((c : Thread nD τ).loc main_arg0)) (m ((c : Thread nD τ).loc main_arg1)) (m ((c : Thread nD τ).loc main_arg2)) := by
  refine (dats m 0 c).arrAt_eq_of_covers 10 _ (by decide +kernel) fun t hf y => ?_
  blk_simp
  rw [after0_10]
  frame_out
  obtain ⟨r, l, rfl⟩ : ∃ (r : Fin 1024) (l : Fin 512), y = ix2 r l := ⟨y 0, y 1, eq_ix2 y⟩
  have ht : t.val < 16 := lt_of_lt_of_eq t.isLt N_0
  have e : ((cfg0.win 10).blk t).view.emb (ix2 r l) = (ix2 ⟨t.val * 1024 + r.val, by omega⟩ l : S16384x512.Idx) := by
    blk_ext [idx t]
  rw [e]
  have hp := point_q m c t r l ⟨t.val * 1024 + r.val, by omega⟩ rfl
  exact hp

/-- Result `k`: the payload at an entry, the columns' block, and what the run leaves in the array. -/
theorem pay_k (x0 : Vec Ideal S1024x1024 .f32) (x1 : Vec Ideal S1x1024 .f32) (xw : Vec Ideal S1024x512 .bf16) (r : Fin 1024) (l : Fin 512) :
    k0_pay8 x0 x1 xw (ix2 r l) = (∑ k : Fin 1024, k0_pay6 x0 x1 (ix2 r k) * xw (ix2 k l)) := by
  pointwise [k0_pay8]

theorem blk_k (c : Dev nD) (t : Fin cfg0.N) (k : Fin 1024) (l : Fin 512) (j : Fin 3088) (hj : j.val = 512 + l.val) :
    (iblk m c 3 t : Vec Ideal S1024x512 .bf16) (ix2 k l) = m ((c : Thread nD τ).loc main_arg2) (ix3 0 k j) := by
  blk_ext! [iblk, V, idx t]

theorem point_k (c : Dev nD) (t : Fin cfg0.N) (r : Fin 1024) (l : Fin 512) (R : Fin 16384) (hR : R.val = t.val * 1024 + r.val) :
    k0_pay8 (iblk m c 0 t) (iblk m c 1 t) (iblk m c 3 t) (ix2 r l)
      = OUTK (m ((c : Thread nD τ).loc main_arg0)) (m ((c : Thread nD τ).loc main_arg1)) (m ((c : Thread nD τ).loc main_arg2)) (ix2 R l) := by
  rw [pay_k]
  unfold OUTK PROJ
  refine (sum_eq _ _ fun k => ?_)
  rw [norm_apply m c t r k R hR, blk_k m c t k l ⟨512 + l.val, by omega⟩ rfl]
  rfl

theorem final11 (c : Dev nD) : (dats m 0 c).arrAt 11 cfg0.N
    = OUTK (m ((c : Thread nD τ).loc main_arg0)) (m ((c : Thread nD τ).loc main_arg1)) (m ((c : Thread nD τ).loc main_arg2)) := by
  refine (dats m 0 c).arrAt_eq_of_covers 11 _ (by decide +kernel) fun t hf y => ?_
  blk_simp
  rw [after0_11]
  frame_out
  obtain ⟨r, l, rfl⟩ : ∃ (r : Fin 1024) (l : Fin 512), y = ix2 r l := ⟨y 0, y 1, eq_ix2 y⟩
  have ht : t.val < 16 := lt_of_lt_of_eq t.isLt N_0
  have e : ((cfg0.win 11).blk t).view.emb (ix2 r l) = (ix2 ⟨t.val * 1024 + r.val, by omega⟩ l : S16384x512.Idx) := by
    blk_ext [idx t]
  rw [e]
  have hp := point_k m c t r l ⟨t.val * 1024 + r.val, by omega⟩ rfl
  exact hp

/-- Result `v`: the payload at an entry, the columns' block, and what the run leaves in the array. -/
theorem pay_v (x0 : Vec Ideal S1024x1024 .f32) (x1 : Vec Ideal S1x1024 .f32) (xw : Vec Ideal S1024x512 .bf16) (r : Fin 1024) (l : Fin 512) :
    k0_pay9 x0 x1 xw (ix2 r l) = (∑ k : Fin 1024, k0_pay6 x0 x1 (ix2 r k) * xw (ix2 k l)) := by
  pointwise [k0_pay9]

theorem blk_v (c : Dev nD) (t : Fin cfg0.N) (k : Fin 1024) (l : Fin 512) (j : Fin 3088) (hj : j.val = 1024 + l.val) :
    (iblk m c 4 t : Vec Ideal S1024x512 .bf16) (ix2 k l) = m ((c : Thread nD τ).loc main_arg2) (ix3 0 k j) := by
  blk_ext! [iblk, V, idx t]

theorem point_v (c : Dev nD) (t : Fin cfg0.N) (r : Fin 1024) (l : Fin 512) (R : Fin 16384) (hR : R.val = t.val * 1024 + r.val) :
    k0_pay9 (iblk m c 0 t) (iblk m c 1 t) (iblk m c 4 t) (ix2 r l)
      = OUTV (m ((c : Thread nD τ).loc main_arg0)) (m ((c : Thread nD τ).loc main_arg1)) (m ((c : Thread nD τ).loc main_arg2)) (ix2 R l) := by
  rw [pay_v]
  unfold OUTV PROJ
  refine (sum_eq _ _ fun k => ?_)
  rw [norm_apply m c t r k R hR, blk_v m c t k l ⟨1024 + l.val, by omega⟩ rfl]
  rfl

theorem final12 (c : Dev nD) : (dats m 0 c).arrAt 12 cfg0.N
    = OUTV (m ((c : Thread nD τ).loc main_arg0)) (m ((c : Thread nD τ).loc main_arg1)) (m ((c : Thread nD τ).loc main_arg2)) := by
  refine (dats m 0 c).arrAt_eq_of_covers 12 _ (by decide +kernel) fun t hf y => ?_
  blk_simp
  rw [after0_12]
  frame_out
  obtain ⟨r, l, rfl⟩ : ∃ (r : Fin 1024) (l : Fin 512), y = ix2 r l := ⟨y 0, y 1, eq_ix2 y⟩
  have ht : t.val < 16 := lt_of_lt_of_eq t.isLt N_0
  have e : ((cfg0.win 12).blk t).view.emb (ix2 r l) = (ix2 ⟨t.val * 1024 + r.val, by omega⟩ l : S16384x512.Idx) := by
    blk_ext [idx t]
  rw [e]
  have hp := point_v m c t r l ⟨t.val * 1024 + r.val, by omega⟩ rfl
  exact hp

/-- Result `gq`: the payload at an entry, the columns' block, and what the run leaves in the array. -/
theorem pay_gq (x0 : Vec Ideal S1024x1024 .f32) (x1 : Vec Ideal S1x1024 .f32) (xw : Vec Ideal S1024x256 .bf16) (r : Fin 1024) (l : Fin 256) :
    k0_pay1 (k0_pay6 x0 x1) xw (ix2 r l) = (∑ k : Fin 1024, k0_pay6 x0 x1 (ix2 r k) * xw (ix2 k l)) * Ideal.ofBits .f32 0x3E000000#32 := by
  pointwise [k0_pay1]

theorem blk_gq (c : Dev nD) (t : Fin cfg0.N) (k : Fin 1024) (l : Fin 256) (j : Fin 3088) (hj : j.val = 1536 + l.val) :
    (iblk m c 5 t : Vec Ideal S1024x256 .bf16) (ix2 k l) = m ((c : Thread nD τ).loc main_arg2) (ix3 0 k j) := by
  blk_ext! [iblk, V, idx t]

theorem point_gq (c : Dev nD) (t : Fin cfg0.N) (r : Fin 1024) (l : Fin 256) (R : Fin 16384) (hR : R.val = t.val * 1024 + r.val) :
    k0_pay1 (k0_pay6 (iblk m c 0 t) (iblk m c 1 t)) (iblk m c 5 t) (ix2 r l)
      = OUTGQ (m ((c : Thread nD τ).loc main_arg0)) (m ((c : Thread nD τ).loc main_arg1)) (m ((c : Thread nD τ).loc main_arg2)) (ix2 R l) := by
  rw [pay_gq]
  unfold OUTGQ PROJ
  refine congrArg (· * _) (sum_eq _ _ fun k => ?_)
  rw [norm_apply m c t r k R hR, blk_gq m c t k l ⟨1536 + l.val, by omega⟩ rfl]
  rfl

theorem final13 (c : Dev nD) : (dats m 0 c).arrAt 13 cfg0.N
    = OUTGQ (m ((c : Thread nD τ).loc main_arg0)) (m ((c : Thread nD τ).loc main_arg1)) (m ((c : Thread nD τ).loc main_arg2)) := by
  refine (dats m 0 c).arrAt_eq_of_covers 13 _ (by decide +kernel) fun t hf y => ?_
  blk_simp
  rw [after0_13]
  frame_out
  obtain ⟨r, l, rfl⟩ : ∃ (r : Fin 1024) (l : Fin 256), y = ix2 r l := ⟨y 0, y 1, eq_ix2 y⟩
  have ht : t.val < 16 := lt_of_lt_of_eq t.isLt N_0
  have e : ((cfg0.win 13).blk t).view.emb (ix2 r l) = (ix2 ⟨t.val * 1024 + r.val, by omega⟩ l : S16384x256.Idx) := by
    blk_ext [idx t]
  rw [e, pay10_eq]
  have hp := point_gq m c t r l ⟨t.val * 1024 + r.val, by omega⟩ rfl
  exact hp

/-- Result `gk`: the payload at an entry, the columns' block, and what the run leaves in the array. -/
theorem pay_gk (x0 : Vec Ideal S1024x1024 .f32) (x1 : Vec Ideal S1x1024 .f32) (xw : Vec Ideal S1024x256 .bf16) (r : Fin 1024) (l : Fin 256) :
    k0_pay2 (k0_pay6 x0 x1) xw (ix2 r l) = (∑ k : Fin 1024, k0_pay6 x0 x1 (ix2 r k) * xw (ix2 k l)) := by
  pointwise [k0_pay2]

theorem blk_gk (c : Dev nD) (t : Fin cfg0.N) (k : Fin 1024) (l : Fin 256) (j : Fin 3088) (hj : j.val = 1792 + l.val) :
    (iblk m c 6 t : Vec Ideal S1024x256 .bf16) (ix2 k l) = m ((c : Thread nD τ).loc main_arg2) (ix3 0 k j) := by
  blk_ext! [iblk, V, idx t]

theorem point_gk (c : Dev nD) (t : Fin cfg0.N) (r : Fin 1024) (l : Fin 256) (R : Fin 16384) (hR : R.val = t.val * 1024 + r.val) :
    k0_pay2 (k0_pay6 (iblk m c 0 t) (iblk m c 1 t)) (iblk m c 6 t) (ix2 r l)
      = OUTGK (m ((c : Thread nD τ).loc main_arg0)) (m ((c : Thread nD τ).loc main_arg1)) (m ((c : Thread nD τ).loc main_arg2)) (ix2 R l) := by
  rw [pay_gk]
  unfold OUTGK PROJ
  refine (sum_eq _ _ fun k => ?_)
  rw [norm_apply m c t r k R hR, blk_gk m c t k l ⟨1792 + l.val, by omega⟩ rfl]
  rfl

theorem final14 (c : Dev nD) : (dats m 0 c).arrAt 14 cfg0.N
    = OUTGK (m ((c : Thread nD τ).loc main_arg0)) (m ((c : Thread nD τ).loc main_arg1)) (m ((c : Thread nD τ).loc main_arg2)) := by
  refine (dats m 0 c).arrAt_eq_of_covers 14 _ (by decide +kernel) fun t hf y => ?_
  blk_simp
  rw [after0_14]
  frame_out
  obtain ⟨r, l, rfl⟩ : ∃ (r : Fin 1024) (l : Fin 256), y = ix2 r l := ⟨y 0, y 1, eq_ix2 y⟩
  have ht : t.val < 16 := lt_of_lt_of_eq t.isLt N_0
  have e : ((cfg0.win 14).blk t).view.emb (ix2 r l) = (ix2 ⟨t.val * 1024 + r.val, by omega⟩ l : S16384x256.Idx) := by
    blk_ext [idx t]
  rw [e, pay10_eq]
  have hp := point_gk m c t r l ⟨t.val * 1024 + r.val, by omega⟩ rfl
  exact hp

/-- Result `gv`: the payload at an entry, the columns' block, and what the run leaves in the array. -/
theorem pay_gv (x0 : Vec Ideal S1024x1024 .f32) (x1 : Vec Ideal S1x1024 .f32) (xw : Vec Ideal S1024x512 .bf16) (r : Fin 1024) (l : Fin 512) :
    k0_pay3 (k0_pay6 x0 x1) xw (ix2 r l) = (∑ k : Fin 1024, k0_pay6 x0 x1 (ix2 r k) * xw (ix2 k l)) := by
  pointwise [k0_pay3]

theorem blk_gv (c : Dev nD) (t : Fin cfg0.N) (k : Fin 1024) (l : Fin 512) (j : Fin 3088) (hj : j.val = 2048 + l.val) :
    (iblk m c 7 t : Vec Ideal S1024x512 .bf16) (ix2 k l) = m ((c : Thread nD τ).loc main_arg2) (ix3 0 k j) := by
  blk_ext! [iblk, V, idx t]

theorem point_gv (c : Dev nD) (t : Fin cfg0.N) (r : Fin 1024) (l : Fin 512) (R : Fin 16384) (hR : R.val = t.val * 1024 + r.val) :
    k0_pay3 (k0_pay6 (iblk m c 0 t) (iblk m c 1 t)) (iblk m c 7 t) (ix2 r l)
      = OUTGV (m ((c : Thread nD τ).loc main_arg0)) (m ((c : Thread nD τ).loc main_arg1)) (m ((c : Thread nD τ).loc main_arg2)) (ix2 R l) := by
  rw [pay_gv]
  unfold OUTGV PROJ
  refine (sum_eq _ _ fun k => ?_)
  rw [norm_apply m c t r k R hR, blk_gv m c t k l ⟨2048 + l.val, by omega⟩ rfl]
  rfl

theorem final15 (c : Dev nD) : (dats m 0 c).arrAt 15 cfg0.N
    = OUTGV (m ((c : Thread nD τ).loc main_arg0)) (m ((c : Thread nD τ).loc main_arg1)) (m ((c : Thread nD τ).loc main_arg2)) := by
  refine (dats m 0 c).arrAt_eq_of_covers 15 _ (by decide +kernel) fun t hf y => ?_
  blk_simp
  rw [after0_15]
  frame_out
  obtain ⟨r, l, rfl⟩ : ∃ (r : Fin 1024) (l : Fin 512), y = ix2 r l := ⟨y 0, y 1, eq_ix2 y⟩
  have ht : t.val < 16 := lt_of_lt_of_eq t.isLt N_0
  have e : ((cfg0.win 15).blk t).view.emb (ix2 r l) = (ix2 ⟨t.val * 1024 + r.val, by omega⟩ l : S16384x512.Idx) := by
    blk_ext [idx t]
  rw [e, pay10_eq]
  have hp := point_gv m c t r l ⟨t.val * 1024 + r.val, by omega⟩ rfl
  exact hp

/-- Result `gr`: the payload at an entry, the columns' block, and what the run leaves in the array. -/
theorem pay_gr (x0 : Vec Ideal S1024x1024 .f32) (x1 : Vec Ideal S1x1024 .f32) (xw : Vec Ideal S1024x512 .bf16) (r : Fin 1024) (l : Fin 512) :
    k0_pay4 (k0_pay6 x0 x1) xw (ix2 r l) = (∑ k : Fin 1024, k0_pay6 x0 x1 (ix2 r k) * xw (ix2 k l)) := by
  pointwise [k0_pay4]

theorem blk_gr (c : Dev nD) (t : Fin cfg0.N) (k : Fin 1024) (l : Fin 512) (j : Fin 3088) (hj : j.val = 2560 + l.val) :
    (iblk m c 8 t : Vec Ideal S1024x512 .bf16) (ix2 k l) = m ((c : Thread nD τ).loc main_arg2) (ix3 0 k j) := by
  blk_ext! [iblk, V, idx t]

theorem point_gr (c : Dev nD) (t : Fin cfg0.N) (r : Fin 1024) (l : Fin 512) (R : Fin 16384) (hR : R.val = t.val * 1024 + r.val) :
    k0_pay4 (k0_pay6 (iblk m c 0 t) (iblk m c 1 t)) (iblk m c 8 t) (ix2 r l)
      = OUTGR (m ((c : Thread nD τ).loc main_arg0)) (m ((c : Thread nD τ).loc main_arg1)) (m ((c : Thread nD τ).loc main_arg2)) (ix2 R l) := by
  rw [pay_gr]
  unfold OUTGR PROJ
  refine (sum_eq _ _ fun k => ?_)
  rw [norm_apply m c t r k R hR, blk_gr m c t k l ⟨2560 + l.val, by omega⟩ rfl]
  rfl

theorem final16 (c : Dev nD) : (dats m 0 c).arrAt 16 cfg0.N
    = OUTGR (m ((c : Thread nD τ).loc main_arg0)) (m ((c : Thread nD τ).loc main_arg1)) (m ((c : Thread nD τ).loc main_arg2)) := by
  refine (dats m 0 c).arrAt_eq_of_covers 16 _ (by decide +kernel) fun t hf y => ?_
  blk_simp
  rw [after0_16]
  frame_out
  obtain ⟨r, l, rfl⟩ : ∃ (r : Fin 1024) (l : Fin 512), y = ix2 r l := ⟨y 0, y 1, eq_ix2 y⟩
  have ht : t.val < 16 := lt_of_lt_of_eq t.isLt N_0
  have e : ((cfg0.win 16).blk t).view.emb (ix2 r l) = (ix2 ⟨t.val * 1024 + r.val, by omega⟩ l : S16384x512.Idx) := by
    blk_ext [idx t]
  rw [e, pay10_eq]
  have hp := point_gr m c t r l ⟨t.val * 1024 + r.val, by omega⟩ rfl
  exact hp

/-- Result `lr`: the payload at an entry, the columns' block, and what the run leaves in the array. -/
theorem pay_lr (x0 : Vec Ideal S1024x1024 .f32) (x1 : Vec Ideal S1x1024 .f32) (xw : Vec Ideal S1024x16 .bf16) (r : Fin 1024) (l : Fin 16) :
    k0_pay5 (k0_pay6 x0 x1) xw (ix2 r l) = (∑ k : Fin 1024, k0_pay6 x0 x1 (ix2 r k) * xw (ix2 k l)) := by
  pointwise [k0_pay5]

theorem blk_lr (c : Dev nD) (t : Fin cfg0.N) (k : Fin 1024) (l : Fin 16) (j : Fin 3088) (hj : j.val = 3072 + l.val) :
    (iblk m c 9 t : Vec Ideal S1024x16 .bf16) (ix2 k l) = m ((c : Thread nD τ).loc main_arg2) (ix3 0 k j) := by
  blk_ext! [iblk, V, idx t]

theorem point_lr (c : Dev nD) (t : Fin cfg0.N) (r : Fin 1024) (l : Fin 16) (R : Fin 16384) (hR : R.val = t.val * 1024 + r.val) :
    k0_pay5 (k0_pay6 (iblk m c 0 t) (iblk m c 1 t)) (iblk m c 9 t) (ix2 r l)
      = OUTLR (m ((c : Thread nD τ).loc main_arg0)) (m ((c : Thread nD τ).loc main_arg1)) (m ((c : Thread nD τ).loc main_arg2)) (ix2 R l) := by
  rw [pay_lr]
  unfold OUTLR PROJ
  refine (sum_eq _ _ fun k => ?_)
  rw [norm_apply m c t r k R hR, blk_lr m c t k l ⟨3072 + l.val, by omega⟩ rfl]
  rfl

theorem final17 (c : Dev nD) : (dats m 0 c).arrAt 17 cfg0.N
    = OUTLR (m ((c : Thread nD τ).loc main_arg0)) (m ((c : Thread nD τ).loc main_arg1)) (m ((c : Thread nD τ).loc main_arg2)) := by
  refine (dats m 0 c).arrAt_eq_of_covers 17 _ (by decide +kernel) fun t hf y => ?_
  blk_simp
  rw [after0_17]
  frame_out
  obtain ⟨r, l, rfl⟩ : ∃ (r : Fin 1024) (l : Fin 16), y = ix2 r l := ⟨y 0, y 1, eq_ix2 y⟩
  have ht : t.val < 16 := lt_of_lt_of_eq t.isLt N_0
  have e : ((cfg0.win 17).blk t).view.emb (ix2 r l) = (ix2 ⟨t.val * 1024 + r.val, by omega⟩ l : S16384x16.Idx) := by
    blk_ext [idx t]
  rw [e, pay10_eq]
  have hp := point_lr m c t r l ⟨t.val * 1024 + r.val, by omega⟩ rfl
  exact hp

end Cert.InProjIdeal.RefValue

namespace Cert.InProjRefIdeal.RefValue

open Cert.InProjRefIdeal Cert.InProjRefIdeal.Gen

/-- The reference's normalised activations. -/
def NORMREF (x : FVec Ideal S4x4096x1024 .f32) (g : FVec Ideal S1x1024 .f32) : FVec Ideal S4x4096x1024 .f32 :=
  mulf (mulf x (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf x x) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (shapeCast _ g shapeCasts_S1x1024_S1024)))

/-- The reference's projection onto all 3088 columns. -/
def PROJREF (x : FVec Ideal S4x4096x1024 .f32) (g : FVec Ideal S1x1024 .f32) (w : FVec Ideal S1x1024x3088 .f32) :
    FVec Ideal S4x4096x3088 .f32 :=
  Host.dotGeneral dot_S4x4096x1024_S1024x3088_S4x4096x3088_2_0_01_1_n_n none (NORMREF x g) (shapeCast _ w shapeCasts_S1x1024x3088_S1024x3088)

theorem norm_apply (x : FVec Ideal S4x4096x1024 .f32) (g : FVec Ideal S1x1024 .f32) (b : Fin 4) (s : Fin 4096) (k : Fin 1024) :
    NORMREF x g (ix3 b s k) = Cert.InProjIdeal.RefValue.NORM x g b s k := by
  pointwise [NORMREF, Cert.InProjIdeal.RefValue.NORM]

theorem proj_apply (x : FVec Ideal S4x4096x1024 .f32) (g : FVec Ideal S1x1024 .f32) (w : FVec Ideal S1x1024x3088 .f32)
    (b : Fin 4) (s : Fin 4096) (j : Fin 3088) :
    PROJREF x g w (ix3 b s j) = ∑ k : Fin 1024, Cert.InProjIdeal.RefValue.NORM x g b s k * w (ix3 0 k j) := by
  pointwise [PROJREF]
  simp only [norm_apply]

theorem ref_q (x : FVec Ideal S4x4096x1024 .f32) (g : FVec Ideal S1x1024 .f32) (w : FVec Ideal S1x1024x3088 .f32) :
    (truncf .bf16 (mulf (shapeCast _ (extractStridedSlice S4x4096x512 ![0, 0, 0] (PROJREF x g w) slices_S4x4096x3088_S4x4096x512_0_0_0) shapeCasts_S4x4096x512_S16384x512) (broadcastInDim S16384x512 ![] bcast_S_S16384x512 (constant S_ .f32 0x3E38AA3B#32))) bitsLt_bf16_f32 : FVec Ideal S16384x512 .bf16) = Cert.InProjIdeal.RefValue.OUTQ x g w := by
  funext i
  obtain ⟨r, l, rfl⟩ : ∃ (r : Fin 16384) (l : Fin 512), i = ix2 r l := ⟨i 0, i 1, eq_ix2 i⟩
  pointwise
  rw [proj_apply]
  rfl

theorem ref_k (x : FVec Ideal S4x4096x1024 .f32) (g : FVec Ideal S1x1024 .f32) (w : FVec Ideal S1x1024x3088 .f32) :
    (truncf .bf16 (shapeCast _ (extractStridedSlice S4x4096x512 ![0, 0, 512] (PROJREF x g w) slices_S4x4096x3088_S4x4096x512_0_0_512) shapeCasts_S4x4096x512_S16384x512) bitsLt_bf16_f32 : FVec Ideal S16384x512 .bf16) = Cert.InProjIdeal.RefValue.OUTK x g w := by
  funext i
  obtain ⟨r, l, rfl⟩ : ∃ (r : Fin 16384) (l : Fin 512), i = ix2 r l := ⟨i 0, i 1, eq_ix2 i⟩
  pointwise
  rw [proj_apply]
  rfl

theorem ref_v (x : FVec Ideal S4x4096x1024 .f32) (g : FVec Ideal S1x1024 .f32) (w : FVec Ideal S1x1024x3088 .f32) :
    (truncf .bf16 (shapeCast _ (extractStridedSlice S4x4096x512 ![0, 0, 1024] (PROJREF x g w) slices_S4x4096x3088_S4x4096x512_0_0_1024) shapeCasts_S4x4096x512_S16384x512) bitsLt_bf16_f32 : FVec Ideal S16384x512 .bf16) = Cert.InProjIdeal.RefValue.OUTV x g w := by
  funext i
  obtain ⟨r, l, rfl⟩ : ∃ (r : Fin 16384) (l : Fin 512), i = ix2 r l := ⟨i 0, i 1, eq_ix2 i⟩
  pointwise
  rw [proj_apply]
  rfl

theorem ref_gq (x : FVec Ideal S4x4096x1024 .f32) (g : FVec Ideal S1x1024 .f32) (w : FVec Ideal S1x1024x3088 .f32) :
    (mulf (shapeCast _ (extractStridedSlice S4x4096x256 ![0, 0, 1536] (PROJREF x g w) slices_S4x4096x3088_S4x4096x256_0_0_1536) shapeCasts_S4x4096x256_S16384x256) (broadcastInDim S16384x256 ![] bcast_S_S16384x256 (constant S_ .f32 0x3E000000#32)) : FVec Ideal S16384x256 .f32) = Cert.InProjIdeal.RefValue.OUTGQ x g w := by
  funext i
  obtain ⟨r, l, rfl⟩ : ∃ (r : Fin 16384) (l : Fin 256), i = ix2 r l := ⟨i 0, i 1, eq_ix2 i⟩
  pointwise
  rw [proj_apply]
  rfl

theorem ref_gk (x : FVec Ideal S4x4096x1024 .f32) (g : FVec Ideal S1x1024 .f32) (w : FVec Ideal S1x1024x3088 .f32) :
    (shapeCast _ (extractStridedSlice S4x4096x256 ![0, 0, 1792] (PROJREF x g w) slices_S4x4096x3088_S4x4096x256_0_0_1792) shapeCasts_S4x4096x256_S16384x256 : FVec Ideal S16384x256 .f32) = Cert.InProjIdeal.RefValue.OUTGK x g w := by
  funext i
  obtain ⟨r, l, rfl⟩ : ∃ (r : Fin 16384) (l : Fin 256), i = ix2 r l := ⟨i 0, i 1, eq_ix2 i⟩
  pointwise
  rw [proj_apply]
  rfl

theorem ref_gv (x : FVec Ideal S4x4096x1024 .f32) (g : FVec Ideal S1x1024 .f32) (w : FVec Ideal S1x1024x3088 .f32) :
    (truncf .bf16 (shapeCast _ (extractStridedSlice S4x4096x512 ![0, 0, 2048] (PROJREF x g w) slices_S4x4096x3088_S4x4096x512_0_0_2048) shapeCasts_S4x4096x512_S16384x512) bitsLt_bf16_f32 : FVec Ideal S16384x512 .bf16) = Cert.InProjIdeal.RefValue.OUTGV x g w := by
  funext i
  obtain ⟨r, l, rfl⟩ : ∃ (r : Fin 16384) (l : Fin 512), i = ix2 r l := ⟨i 0, i 1, eq_ix2 i⟩
  pointwise
  rw [proj_apply]
  rfl

theorem ref_gr (x : FVec Ideal S4x4096x1024 .f32) (g : FVec Ideal S1x1024 .f32) (w : FVec Ideal S1x1024x3088 .f32) :
    (shapeCast _ (extractStridedSlice S4x4096x512 ![0, 0, 2560] (PROJREF x g w) slices_S4x4096x3088_S4x4096x512_0_0_2560) shapeCasts_S4x4096x512_S16384x512 : FVec Ideal S16384x512 .f32) = Cert.InProjIdeal.RefValue.OUTGR x g w := by
  funext i
  obtain ⟨r, l, rfl⟩ : ∃ (r : Fin 16384) (l : Fin 512), i = ix2 r l := ⟨i 0, i 1, eq_ix2 i⟩
  pointwise
  rw [proj_apply]
  rfl

theorem ref_lr (x : FVec Ideal S4x4096x1024 .f32) (g : FVec Ideal S1x1024 .f32) (w : FVec Ideal S1x1024x3088 .f32) :
    (shapeCast _ (extractStridedSlice S4x4096x16 ![0, 0, 3072] (PROJREF x g w) slices_S4x4096x3088_S4x4096x16_0_0_3072) shapeCasts_S4x4096x16_S16384x16 : FVec Ideal S16384x16 .f32) = Cert.InProjIdeal.RefValue.OUTLR x g w := by
  funext i
  obtain ⟨r, l, rfl⟩ : ∃ (r : Fin 16384) (l : Fin 16), i = ix2 r l := ⟨i 0, i 1, eq_ix2 i⟩
  pointwise
  rw [proj_apply]
  rfl

end Cert.InProjRefIdeal.RefValue

namespace Cert.Proof.InProjClaims

/-- `Cert.quiescent_InProj` and its idealization: the run terminates without fault, the arguments unchanged, every
    semaphore back at zero. -/
theorem frame : Cert.quiescent_InProj := fun m ρ _ => Cert.InProj.Gen.frame m ρ
theorem frame_ideal : Cert.quiescent_InProjIdeal := fun m ρ _ => Cert.InProjIdeal.Gen.frame m ρ
/-- The reference is a host program: its run read at the arguments; it declares no semaphore. -/
theorem frame_ref : Cert.quiescent_InProjRefIdeal := fun m ρ _ =>
  (θ_run Cert.InProjRefIdeal.defs _ _).mono (fun r h => ⟨fun c => (h c).2.2.2.2.2.2.2.2,
      Idealize.ShloMosaic.sem_eq_zero_of_no_sems (by decide) r.2⟩)
    (Cert.InProjRefIdeal.Value.run (F := Ideal) m ρ)

open Cert.InProjIdeal.RefValue Cert.InProjRefIdeal.RefValue in
/-- At the ideal instance the kernel's eight results are the reference's. -/
theorem algebraic : Cert.algebraic_InProjIdeal_InProjRefIdeal := fun m ρ m' ρ' _ hag =>
  ⟨fun c => OUTQ (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTK (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTV (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTGQ (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTGK (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTGV (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTGR (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    fun c => OUTLR (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)),
    (θ_run Cert.InProjIdeal.defs _ _).mono (fun _ h c => ⟨(h c).1.trans (final10 m c),
        (h c).2.1.trans (final11 m c),
        (h c).2.2.1.trans (final12 m c),
        (h c).2.2.2.1.trans (final13 m c),
        (h c).2.2.2.2.1.trans (final14 m c),
        (h c).2.2.2.2.2.1.trans (final15 m c),
        (h c).2.2.2.2.2.2.1.trans (final16 m c),
        (h c).2.2.2.2.2.2.2.1.trans (final17 m c),
        (h c).2.2.2.2.2.2.2.2⟩) (Cert.InProjIdeal.Value.run_blocks (F := Ideal) m ρ),
    (θ_run Cert.InProjRefIdeal.defs _ _).mono (fun _ h c => ⟨(h c).1.trans (by rw [(hag c).1, (hag c).2.1, (hag c).2.2]; exact ref_q _ _ _),
        (h c).2.1.trans (by rw [(hag c).1, (hag c).2.1, (hag c).2.2]; exact ref_k _ _ _),
        (h c).2.2.1.trans (by rw [(hag c).1, (hag c).2.1, (hag c).2.2]; exact ref_v _ _ _),
        (h c).2.2.2.1.trans (by rw [(hag c).1, (hag c).2.1, (hag c).2.2]; exact ref_gq _ _ _),
        (h c).2.2.2.2.1.trans (by rw [(hag c).1, (hag c).2.1, (hag c).2.2]; exact ref_gk _ _ _),
        (h c).2.2.2.2.2.1.trans (by rw [(hag c).1, (hag c).2.1, (hag c).2.2]; exact ref_gv _ _ _),
        (h c).2.2.2.2.2.2.1.trans (by rw [(hag c).1, (hag c).2.1, (hag c).2.2]; exact ref_gr _ _ _),
        (h c).2.2.2.2.2.2.2.1.trans (by rw [(hag c).1, (hag c).2.1, (hag c).2.2]; exact ref_lr _ _ _),
        (h c).2.2.2.2.2.2.2.2⟩) (Cert.InProjRefIdeal.Value.run (F := Ideal) m' ρ')⟩

end Cert.Proof.InProjClaims

end
-- ==== Proof.IdealLogic.lean ====
/-
  What a stretch of the mixers' body does to the buffers the attention uses. `St` is the contents of those buffers (the queries',
  keys' and values' blocks, the attention's output block, and its three scratch tables); the other buffers, which the gated linear
  attention uses, are held at any contents. `Does X p Φ` says that `p`, started at the contents `X`, ends in contents and a value that
  `Φ` relates: a small logic with a rule for each operation the body is made of.
-/
module

public import proofs.«01_k».proof.Proof.Gen.MixersIdeal.Launch
public import proofs.«01_k».proof.Proof.Gen.MixersIdeal.Skeleton
public import proofs.«01_k».proof.Proof.Gen.MixersIdeal.Points
public import Idealize.ShloMosaic.Lib.Pipeline.FrameBody
public import Idealize.ShloMosaic.Lib.VecWindow
public import Idealize.ShloMosaic.Lib.Claim
public import Idealize.ShloMosaic.Lib.Tactic
public import Idealize.ShloMosaic.Lib.WordCmp

@[expose] public section

set_option maxRecDepth 16384

noncomputable section

namespace Cert.MixersIdeal.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F] [Named F]

local notation "𝕄" => MT nD τ sig Unit (Elt F) ℕ (UR sig nD τ) ℕ

/-- The body is run under the natural numbers as variants: its loops descend. -/
abbrev 𝒱₀ : Variants := Variants.nat

/-- The buffers the body is called with. -/
structure Bufs where
  a2 : Memref sig .tc .vmem S1x512x512 .bf16
  h2 : a2.IsWhole
  a3 : Memref sig .tc .vmem S1x4096x512 .bf16
  h3 : a3.IsWhole
  a4 : Memref sig .tc .vmem S1x4096x512 .bf16
  h4 : a4.IsWhole
  a5 : Memref sig .tc .vmem S512x256 .f32
  h5 : a5.IsWhole
  a6 : Memref sig .tc .vmem S512x256 .f32
  h6 : a6.IsWhole
  a7 : Memref sig .tc .vmem S512x512 .bf16
  h7 : a7.IsWhole
  a8 : Memref sig .tc .vmem S512x512 .f32
  h8 : a8.IsWhole
  a9 : Memref sig .tc .vmem S512x16 .f32
  h9 : a9.IsWhole
  a10 : Memref sig .tc .vmem S16x256 .f32
  h10 : a10.IsWhole
  a11 : Memref sig .tc .vmem S1x256 .f32
  h11 : a11.IsWhole
  a12 : Memref sig .tc .vmem S1x512 .f32
  h12 : a12.IsWhole
  a13 : Memref sig .tc .vmem S520x128 .bf16
  h13 : a13.IsWhole
  a14 : Memref sig .tc .vmem S384x64 .f32
  h14 : a14.IsWhole
  a15 : Memref sig .tc .vmem S1x512x512 .bf16
  h15 : a15.IsWhole
  a16 : Memref sig .tc .vmem S512x512 .bf16
  h16 : a16.IsWhole
  a17 : Memref sig .tc .vmem S4x512x128 .bf16
  h17 : a17.IsWhole
  a18 : Memref sig .tc .vmem S4x256x128 .f32
  h18 : a18.IsWhole
  a19 : Memref sig .tc .vmem S4x512x128 .f32
  h19 : a19.IsWhole
  a20 : Memref sig .tc .vmem S2x128x128 .f32
  h20 : a20.IsWhole

/-- What the attention's buffers hold: its three input blocks, its output block, the stacked queries, and the two running sums. -/
structure St (F : FTy → Type) [FloatOps F] [Named F] where
  q : S1x512x512.Idx → Elt F .bf16
  k : S1x4096x512.Idx → Elt F .bf16
  v : S1x4096x512.Idx → Elt F .bf16
  o : S1x512x512.Idx → Elt F .bf16
  qh : S4x512x128.Idx → Elt F .bf16
  acc : S4x256x128.Idx → Elt F .f32
  car : S4x512x128.Idx → Elt F .f32

/-- A buffer of the rest: its shape, its elements and where it lies. -/
abbrev Some1 := (s : Shape) × (e : EltTy) × Memref sig .tc .vmem s e

/-- The buffers only the gated linear attention uses. -/
abbrev Bufs.rest (M : Bufs) : List Some1 :=
  [⟨_, _, M.a5⟩, ⟨_, _, M.a6⟩, ⟨_, _, M.a7⟩, ⟨_, _, M.a8⟩, ⟨_, _, M.a9⟩, ⟨_, _, M.a10⟩, ⟨_, _, M.a11⟩, ⟨_, _, M.a12⟩, ⟨_, _, M.a13⟩,
    ⟨_, _, M.a14⟩, ⟨_, _, M.a16⟩, ⟨_, _, M.a20⟩]

variable (c : Dev nD)

section
variable {M : Bufs}
theorem mem_a5 : (⟨_, _, M.a5⟩ : Some1) ∈ M.rest := .head _
theorem mem_a6 : (⟨_, _, M.a6⟩ : Some1) ∈ M.rest := .tail _ (.head _)
theorem mem_a7 : (⟨_, _, M.a7⟩ : Some1) ∈ M.rest := .tail _ (.tail _ (.head _))
theorem mem_a8 : (⟨_, _, M.a8⟩ : Some1) ∈ M.rest := .tail _ (.tail _ (.tail _ (.head _)))
theorem mem_a9 : (⟨_, _, M.a9⟩ : Some1) ∈ M.rest := .tail _ (.tail _ (.tail _ (.tail _ (.head _))))
theorem mem_a10 : (⟨_, _, M.a10⟩ : Some1) ∈ M.rest := .tail _ (.tail _ (.tail _ (.tail _ (.tail _ (.head _)))))
theorem mem_a11 : (⟨_, _, M.a11⟩ : Some1) ∈ M.rest := .tail _ (.tail _ (.tail _ (.tail _ (.tail _ (.tail _ (.head _))))))
theorem mem_a12 : (⟨_, _, M.a12⟩ : Some1) ∈ M.rest := .tail _ (.tail _ (.tail _ (.tail _ (.tail _ (.tail _ (.tail _ (.head _)))))))
theorem mem_a13 : (⟨_, _, M.a13⟩ : Some1) ∈ M.rest := .tail _ (.tail _ (.tail _ (.tail _ (.tail _ (.tail _ (.tail _ (.tail _ (.head _))))))))
theorem mem_a14 : (⟨_, _, M.a14⟩ : Some1) ∈ M.rest := .tail _ (.tail _ (.tail _ (.tail _ (.tail _ (.tail _ (.tail _ (.tail _ (.tail _ (.head _)))))))))
theorem mem_a16 : (⟨_, _, M.a16⟩ : Some1) ∈ M.rest := .tail _ (.tail _ (.tail _ (.tail _ (.tail _ (.tail _ (.tail _ (.tail _ (.tail _ (.tail _ (.head _))))))))))
theorem mem_a20 : (⟨_, _, M.a20⟩ : Some1) ∈ M.rest := .tail _ (.tail _ (.tail _ (.tail _ (.tail _ (.tail _ (.tail _ (.tail _ (.tail _ (.tail _ (.tail _ (.head _)))))))))))
end

/-- The buffer is held whole at `X`. -/
abbrev Holds {s : Shape} {e : EltTy} (m : Memref sig .tc .vmem s e) (X : s.Idx → Elt F e) : sProp 𝕄 :=
  owns (c : Thread nD τ) m fullShare X

/-- Every buffer of a list is held at some contents. -/
def Junk : List Some1 → sProp 𝕄
  | [] => iprop(emp)
  | b :: L => iprop((∃ X : b.1.Idx → Elt F b.2.1, Holds c b.2.2 X) ∗ Junk L)

/-- A buffer of the list can be taken out, and put back at other contents. -/
theorem junk_take {L : List Some1} {s : Shape} {e : EltTy} {m : Memref sig .tc .vmem s e} (h : (⟨s, e, m⟩ : Some1) ∈ L) :
    (Junk c L : sProp 𝕄) ⊢ iprop(∃ X : s.Idx → Elt F e, Holds c m X ∗ (∀ Y : s.Idx → Elt F e, Holds c m Y -∗ Junk c L)) := by
  induction L with
  | nil => cases h
  | cons b L ih =>
    rcases List.mem_cons.mp h with rfl | h
    · unfold Junk
      iintro ⟨⟨%X, H⟩, HL⟩
      iexists X
      isplitl [H]; · iexact H
      iintro %Y HY
      isplitl [HY]
      · iexists Y; iexact HY
      iexact HL
    · unfold Junk
      iintro ⟨H, HL⟩
      ihave HL := (ih h) $$ HL
      icases HL with ⟨%X, HX, HL⟩
      iexists X
      isplitl [HX]; · iexact HX
      iintro %Y HY
      isplitl [H]; · iexact H
      iapply HL
      iexact HY

/-- The attention's buffers at `X`, the rest at anything. -/
def Own (M : Bufs) (X : St F) : sProp 𝕄 :=
  iprop(Holds c M.a2 X.q ∗ Holds c M.a3 X.k ∗ Holds c M.a4 X.v ∗ Holds c M.a15 X.o ∗ Holds c M.a17 X.qh ∗ Holds c M.a18 X.acc
    ∗ Holds c M.a19 X.car ∗ Junk c M.rest)

variable {c} {M : Bufs} {bd : Option ℕ} {α β : Type}

/-- `p`, started at the contents `X`, ends at contents and with a value that `Φ` relates. -/
def Does (c : Dev nD) (M : Bufs) (bd : Option ℕ) (X : St F) (p : Prog (TpuEff nD τ sig (Elt F) (Λ₀ F) .tc) α) (Φ : St F → α → Prop) : Prop :=
  ∀ K : α → sProp 𝕄, (∀ X' a, Φ X' a → Own c M X' ⊢ K a) →
    Own c M X ⊢ wp frame (wpE (defs₀ (F := F)) 𝒱₀ (c : Thread nD τ) bd) Set.univ p K

theorem Does.ret {X : St F} {a : α} {Φ : St F → α → Prop} (h : Φ X a) : Does c M bd X (pure a) Φ := by
  intro K hK
  rw [Prog.pure_eq_ret, wp_ret]
  iintro H; imodintro
  iapply (hK X a h) $$ H

theorem Does.mono {X : St F} {p : Prog (TpuEff nD τ sig (Elt F) (Λ₀ F) .tc) α} {Φ Ψ : St F → α → Prop} (h : Does c M bd X p Φ)
    (hΨ : ∀ X' a, Φ X' a → Ψ X' a) : Does c M bd X p Ψ :=
  fun K hK => h K fun X' a ha => hK X' a (hΨ X' a ha)

theorem Does.bind {X : St F} {p : Prog (TpuEff nD τ sig (Elt F) (Λ₀ F) .tc) α} {k : α → Prog (TpuEff nD τ sig (Elt F) (Λ₀ F) .tc) β}
    {Φ : St F → α → Prop} {Ψ : St F → β → Prop} (h : Does c M bd X p Φ) (hk : ∀ X' a, Φ X' a → Does c M bd X' (k a) Ψ) :
    Does c M bd X (p >>= k) Ψ := by
  intro K hK
  rw [wp_bind]
  exact h _ fun X' a ha => hk X' a ha K hK

/-- A stretch that ends at known contents with a known value. -/
abbrev Exact (c : Dev nD) (M : Bufs) (bd : Option ℕ) (X : St F) (p : Prog (TpuEff nD τ sig (Elt F) (Λ₀ F) .tc) α) (X' : St F) (a : α) : Prop :=
  Does c M bd X p fun Y b => Y = X' ∧ b = a

theorem Does.step {X X' : St F} {a : α} {p : Prog (TpuEff nD τ sig (Elt F) (Λ₀ F) .tc) α} {k : α → Prog (TpuEff nD τ sig (Elt F) (Λ₀ F) .tc) β}
    {Ψ : St F → β → Prop} (h : Exact c M bd X p X' a) (hk : Does c M bd X' (k a) Ψ) : Does c M bd X (p >>= k) Ψ :=
  h.bind fun _ _ e => by obtain ⟨rfl, rfl⟩ := e; exact hk

theorem Exact.ret {X : St F} {a : α} : Exact c M bd X (pure a) X a := Does.ret ⟨rfl, rfl⟩

/-- A stretch that leaves the attention's buffers alone. -/
abbrev Idle (c : Dev nD) (M : Bufs) (bd : Option ℕ) (p : Prog (TpuEff nD τ sig (Elt F) (Λ₀ F) .tc) α) : Prop :=
  ∀ X : St F, Does c M bd X p fun Y _ => Y = X

theorem Does.idle {X : St F} {p : Prog (TpuEff nD τ sig (Elt F) (Λ₀ F) .tc) α} {k : α → Prog (TpuEff nD τ sig (Elt F) (Λ₀ F) .tc) β}
    {Ψ : St F → β → Prop} (h : Idle c M bd p) (hk : ∀ a, Does c M bd X (k a) Ψ) : Does c M bd X (p >>= k) Ψ :=
  (h X).bind fun _ a e => by subst e; exact hk a

theorem Idle.ret {a : α} : Idle (F := F) c M bd (pure a) := fun _ => Does.ret rfl

theorem Idle.bind {p : Prog (TpuEff nD τ sig (Elt F) (Λ₀ F) .tc) α} {k : α → Prog (TpuEff nD τ sig (Elt F) (Λ₀ F) .tc) β}
    (h : Idle c M bd p) (hk : ∀ a, Idle c M bd (k a)) : Idle c M bd (p >>= k) :=
  fun X => Does.idle h fun a => hk a X

/-! ## Memory -/

/-- `m` is the attention's buffer that `g` reads and `s` replaces. -/
def Slot (c : Dev nD) (M : Bufs) {s : Shape} {e : EltTy} (m : Memref sig .tc .vmem s e) (g : St F → s.Idx → Elt F e)
    (u : St F → (s.Idx → Elt F e) → St F) : Prop :=
  ∀ X, Own c M X ⊢ iprop(Holds c m (g X) ∗ (∀ x, Holds c m x -∗ Own c M (u X x)))

theorem slot_q : Slot (F := F) c M M.a2 St.q (fun X x => { X with q := x }) := fun X => by
  unfold Own
  iintro ⟨H2, H⟩
  isplitl [H2]; · iexact H2
  iintro %x Hx
  isplitl [Hx]; · iexact Hx
  iexact H
theorem slot_k : Slot (F := F) c M M.a3 St.k (fun X x => { X with k := x }) := fun X => by
  unfold Own
  iintro ⟨H2, H3, H⟩
  isplitl [H3]; · iexact H3
  iintro %x Hx
  isplitl [H2]; · iexact H2
  isplitl [Hx]; · iexact Hx
  iexact H
theorem slot_v : Slot (F := F) c M M.a4 St.v (fun X x => { X with v := x }) := fun X => by
  unfold Own
  iintro ⟨H2, H3, H4, H⟩
  isplitl [H4]; · iexact H4
  iintro %x Hx
  isplitl [H2]; · iexact H2
  isplitl [H3]; · iexact H3
  isplitl [Hx]; · iexact Hx
  iexact H
theorem slot_o : Slot (F := F) c M M.a15 St.o (fun X x => { X with o := x }) := fun X => by
  unfold Own
  iintro ⟨H2, H3, H4, H15, H⟩
  isplitl [H15]; · iexact H15
  iintro %x Hx
  isplitl [H2]; · iexact H2
  isplitl [H3]; · iexact H3
  isplitl [H4]; · iexact H4
  isplitl [Hx]; · iexact Hx
  iexact H
theorem slot_qh : Slot (F := F) c M M.a17 St.qh (fun X x => { X with qh := x }) := fun X => by
  unfold Own
  iintro ⟨H2, H3, H4, H15, H17, H⟩
  isplitl [H17]; · iexact H17
  iintro %x Hx
  isplitl [H2]; · iexact H2
  isplitl [H3]; · iexact H3
  isplitl [H4]; · iexact H4
  isplitl [H15]; · iexact H15
  isplitl [Hx]; · iexact Hx
  iexact H
theorem slot_acc : Slot (F := F) c M M.a18 St.acc (fun X x => { X with acc := x }) := fun X => by
  unfold Own
  iintro ⟨H2, H3, H4, H15, H17, H18, H⟩
  isplitl [H18]; · iexact H18
  iintro %x Hx
  isplitl [H2]; · iexact H2
  isplitl [H3]; · iexact H3
  isplitl [H4]; · iexact H4
  isplitl [H15]; · iexact H15
  isplitl [H17]; · iexact H17
  isplitl [Hx]; · iexact Hx
  iexact H
theorem slot_car : Slot (F := F) c M M.a19 St.car (fun X x => { X with car := x }) := fun X => by
  unfold Own
  iintro ⟨H2, H3, H4, H15, H17, H18, H19, H⟩
  isplitl [H19]; · iexact H19
  iintro %x Hx
  isplitl [H2]; · iexact H2
  isplitl [H3]; · iexact H3
  isplitl [H4]; · iexact H4
  isplitl [H15]; · iexact H15
  isplitl [H17]; · iexact H17
  isplitl [H18]; · iexact H18
  isplitl [Hx]; · iexact Hx
  iexact H

/-- The rest, taken out of what is held. -/
theorem rest_take (X : St F) : Own c M X ⊢ iprop(Junk c M.rest ∗ (Junk c M.rest -∗ Own c M X)) := by
  unfold Own
  iintro ⟨H2, H3, H4, H15, H17, H18, H19, H⟩
  isplitl [H]; · iexact H
  iintro H
  isplitl [H2]; · iexact H2
  isplitl [H3]; · iexact H3
  isplitl [H4]; · iexact H4
  isplitl [H15]; · iexact H15
  isplitl [H17]; · iexact H17
  isplitl [H18]; · iexact H18
  isplitl [H19]; · iexact H19
  iexact H

/-- A load of a held buffer, at its head: the window of what it holds. -/
theorem wp_load_holds {s : Shape} {e : EltTy} {m : Memref sig .tc .vmem s e} {X : s.Idx → Elt F e} {off size : Fin s.rank → ℕ}
    {inb : ∀ a, off a + size a ≤ s.size a} {hl : m.view.LoadsAt (Rect.unit off size inb).toLoadRect}
    {K : ((Rect.unit off size inb).shape.Idx → Elt F e) → sProp 𝕄} :
    iprop(Holds c m X ∗ (Holds c m X -∗ K (window X off size inb)))
      ⊢ wp frame (wpE (defs₀ (F := F)) 𝒱₀ (c : Thread nD τ) bd) Set.univ (Prog.lift (.load m (Rect.unit off size inb).toLoadRect hl)) K := by
  unfold Holds owns Prog.lift
  iintro ⟨⟨%f, %hf, H⟩, HK⟩
  iapply (wp_load 𝒱₀ (c : Thread nD τ) bd Set.univ (m := m) (View.setOn_subset_set _ _)) $$ H
  iintro H
  rw [wp_ret]; imodintro
  have e : m.view.readAt (Elt F) (Rect.unit off size inb).toLoadRect f = window X off size inb := by subst hf; rfl
  rw [e]
  iapply HK
  iexists f
  isplitr; · ipureintro; exact hf
  iexact H

/-- A store into a held buffer: the payload put over its window. -/
theorem wp_store_holds {s : Shape} {e : EltTy} {m : Memref sig .tc .vmem s e} {X : s.Idx → Elt F e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {K : PUnit → sProp 𝕄} :
    iprop(Holds c m X ∗ (Holds c m (put X off size w) -∗ K ⟨⟩))
      ⊢ wp frame (wpE (defs₀ (F := F)) 𝒱₀ (c : Thread nD τ) bd) Set.univ (Prog.lift (.store m (Rect.unit off size inb) w Finset.univ hx hm)) K := by
  unfold Holds owns Prog.lift
  iintro ⟨⟨%f, %hf, H⟩, HK⟩
  have hs := wp_store (defs := defs₀ (F := F)) 𝒱₀ (c : Thread nD τ) bd Set.univ (Γ := .empty) (m := m) (r := Rect.unit off size inb) (w := w)
    (Mk := Finset.univ) (hx := hx) (hm := hm) (S := m.view.set) (f := f) (k := fun a => .ret a) (Q := K)
    (by rw [View.setOn_univ]; exact View.set_slice_subset _ _)
  replace hs : (m.view.loc (c : Thread nD τ) ↦[m.view.set]{fullShare} f : sProp 𝕄)
      ⊢ iprop(((m.view.loc (c : Thread nD τ) ↦[m.view.set]{fullShare} (m.access (Rect.unit off size inb)).write (Elt F) f w Finset.univ)
          -∗ wp frame (wpE (defs₀ (F := F)) 𝒱₀ (c : Thread nD τ) bd) Set.univ (.ret ⟨⟩) K)
        -∗ wp frame (wpE (defs₀ (F := F)) 𝒱₀ (c : Thread nD τ) bd) Set.univ (.op (.store m (Rect.unit off size inb) w Finset.univ hx hm) .ret) K) := hs
  iapply hs $$ H
  iintro H
  rw [wp_ret]; imodintro
  subst hf
  iapply HK
  iexists _
  isplitr
  · ipureintro
    exact View.read_writes_cons_put m.view f inb w [] rfl
  iexact H

/-- Loading from one of the attention's buffers. -/
theorem Slot.load {s : Shape} {e : EltTy} {m : Memref sig .tc .vmem s e} {g : St F → s.Idx → Elt F e} {u : St F → (s.Idx → Elt F e) → St F}
    (S : Slot c M m g u) (hu : ∀ X, u X (g X) = X) {X : St F} {off size : Fin s.rank → ℕ} {inb : ∀ a, off a + size a ≤ s.size a}
    {hl : m.view.LoadsAt (Rect.unit off size inb).toLoadRect} :
    Exact c M bd X (Prog.lift (.load m (Rect.unit off size inb).toLoadRect hl)) X (window (g X) off size inb) := by
  intro K hK
  refine (S X).trans (BIBase.Entails.trans ?_ (wp_load_holds (X := g X)))
  iintro ⟨H, HX⟩
  isplitl [H]; · iexact H
  iintro H
  iapply (hK X _ ⟨rfl, rfl⟩)
  ihave H := HX $$ %(g X) H
  rw [hu X]
  iexact H

/-- Storing into one of the attention's buffers. -/
theorem Slot.store {s : Shape} {e : EltTy} {m : Memref sig .tc .vmem s e} {g : St F → s.Idx → Elt F e} {u : St F → (s.Idx → Elt F e) → St F}
    (S : Slot c M m g u) {X : St F} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1} :
    Exact c M bd X (Prog.lift (.store m (Rect.unit off size inb) w Finset.univ hx hm)) (u X (put (g X) off size w)) ⟨⟩ := by
  intro K hK
  refine (S X).trans (BIBase.Entails.trans ?_ (wp_store_holds (X := g X)))
  iintro ⟨H, HX⟩
  isplitl [H]; · iexact H
  iintro H
  iapply (hK _ _ ⟨rfl, rfl⟩)
  iapply HX
  iexact H

/-- Loading from a buffer of the rest. -/
theorem Idle.load {s : Shape} {e : EltTy} {m : Memref sig .tc .vmem s e} (h : (⟨s, e, m⟩ : Some1) ∈ M.rest) {off size : Fin s.rank → ℕ}
    {inb : ∀ a, off a + size a ≤ s.size a} {hl : m.view.LoadsAt (Rect.unit off size inb).toLoadRect} :
    Idle (F := F) c M bd (Prog.lift (.load m (Rect.unit off size inb).toLoadRect hl)) := by
  intro X K hK
  refine (rest_take X).trans ?_
  iintro ⟨HJ, HX⟩
  ihave HJ := (junk_take c h) $$ HJ
  icases HJ with ⟨%Y, HY, HJ⟩
  iapply (wp_load_holds (bd := bd) (X := Y))
  isplitl [HY]; · iexact HY
  iintro HY
  iapply (hK X _ rfl)
  iapply HX
  iapply HJ
  iexact HY

/-- Storing into a buffer of the rest. -/
theorem Idle.store {s : Shape} {e : EltTy} {m : Memref sig .tc .vmem s e} (h : (⟨s, e, m⟩ : Some1) ∈ M.rest) {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1} :
    Idle c M bd (Prog.lift (.store m (Rect.unit off size inb) w Finset.univ hx hm)) := by
  intro X K hK
  refine (rest_take X).trans ?_
  iintro ⟨HJ, HX⟩
  ihave HJ := (junk_take c h) $$ HJ
  icases HJ with ⟨%Y, HY, HJ⟩
  iapply (wp_store_holds (bd := bd) (X := Y))
  isplitl [HY]; · iexact HY
  iintro HY
  iapply (hK X _ rfl)
  iapply HX
  iapply HJ
  iexact HY

/-- An assumption the body makes of what it computed, where it holds. -/
theorem Exact.assume {P : Prop} [Decidable P] {X : St F} (h : P) : Exact c M bd X (Prog.lift (.assume P)) X ⟨h⟩ := by
  intro K hK
  unfold Prog.lift
  refine BIBase.Entails.trans ?_ (wp_assume 𝒱₀ (c : Thread nD τ) bd Set.univ h)
  rw [wp_ret]
  iintro H; imodintro
  iapply (hK X _ ⟨rfl, rfl⟩) $$ H

/-- A call of a labelled program, at a variant below the caller's. -/
theorem Does.call {ℓ : (Λ₀ F).Label} {a : (Λ₀ F).Args ℓ} {X : St F} {n : ℕ} {Φ : St F → (Λ₀ F).Result ℓ → Prop}
    (hn : ∀ u ∈ bd, n < u) (h : Does c M (some n) X (defs₀ (F := F) .tc ℓ a) Φ) : Does c M bd X (Prog.lift (.call ℓ a)) Φ := by
  intro K hK
  unfold Prog.lift
  refine BIBase.Entails.trans (h (fun x => wp frame (wpE (defs₀ (F := F)) 𝒱₀ (c : Thread nD τ) bd) Set.univ (.ret x) K) fun X' x hx => ?_)
    (wp_call 𝒱₀ (c : Thread nD τ) bd Set.univ n hn)
  rw [wp_ret]
  iintro H; imodintro
  iapply (hK X' x hx) $$ H

theorem load_q {X : St F} {off size inb hl} : Exact c M bd X (Prog.lift (.load M.a2 (Rect.unit off size inb).toLoadRect hl)) X (window X.q off size inb) :=
  slot_q.load fun _ => rfl
theorem load_k {X : St F} {off size inb hl} : Exact c M bd X (Prog.lift (.load M.a3 (Rect.unit off size inb).toLoadRect hl)) X (window X.k off size inb) :=
  slot_k.load fun _ => rfl
theorem load_v {X : St F} {off size inb hl} : Exact c M bd X (Prog.lift (.load M.a4 (Rect.unit off size inb).toLoadRect hl)) X (window X.v off size inb) :=
  slot_v.load fun _ => rfl
theorem load_o {X : St F} {off size inb hl} : Exact c M bd X (Prog.lift (.load M.a15 (Rect.unit off size inb).toLoadRect hl)) X (window X.o off size inb) :=
  slot_o.load fun _ => rfl
theorem load_qh {X : St F} {off size inb hl} : Exact c M bd X (Prog.lift (.load M.a17 (Rect.unit off size inb).toLoadRect hl)) X (window X.qh off size inb) :=
  slot_qh.load fun _ => rfl
theorem load_acc {X : St F} {off size inb hl} : Exact c M bd X (Prog.lift (.load M.a18 (Rect.unit off size inb).toLoadRect hl)) X (window X.acc off size inb) :=
  slot_acc.load fun _ => rfl
theorem load_car {X : St F} {off size inb hl} : Exact c M bd X (Prog.lift (.load M.a19 (Rect.unit off size inb).toLoadRect hl)) X (window X.car off size inb) :=
  slot_car.load fun _ => rfl

theorem Does.assoc {γ : Type} {X : St F} {p : Prog (TpuEff nD τ sig (Elt F) (Λ₀ F) .tc) α} {k : α → Prog (TpuEff nD τ sig (Elt F) (Λ₀ F) .tc) β}
    {l : β → Prog (TpuEff nD τ sig (Elt F) (Λ₀ F) .tc) γ} {Ψ : St F → γ → Prop} (h : Does c M bd X (p >>= fun a => k a >>= l) Ψ) :
    Does c M bd X ((p >>= k) >>= l) Ψ := by
  intro K hK
  have := h K hK
  rw [wp_bind] at this
  rw [wp_bind, wp_bind]
  simpa only [wp_bind] using this

theorem Does.pureBind {X : St F} {a : α} {k : α → Prog (TpuEff nD τ sig (Elt F) (Λ₀ F) .tc) β} {Ψ : St F → β → Prop}
    (h : Does c M bd X (k a) Ψ) : Does c M bd X (pure a >>= k) Ψ := Does.step Exact.ret h

/-- The contents a stretch starts at, named another way. -/
theorem Does.at {X Y : St F} (e : X = Y) {p : Prog (TpuEff nD τ sig (Elt F) (Λ₀ F) .tc) α} {Ψ : St F → α → Prop} (h : Does c M bd Y p Ψ) :
    Does c M bd X p Ψ := e ▸ h

theorem Idle.ite {P : Prop} [Decidable P] {p q : Prog (TpuEff nD τ sig (Elt F) (Λ₀ F) .tc) α} (hp : Idle c M bd p) (hq : Idle c M bd q) :
    Idle c M bd (if P then p else q) := by split <;> assumption

theorem Idle.dite {P : Prop} [Decidable P] {p : P → Prog (TpuEff nD τ sig (Elt F) (Λ₀ F) .tc) α} {q : ¬ P → Prog (TpuEff nD τ sig (Elt F) (Λ₀ F) .tc) α}
    (hp : ∀ h, Idle c M bd (p h)) (hq : ∀ h, Idle c M bd (q h)) : Idle c M bd (if h : P then p h else q h) := by
  split
  · exact hp _
  · exact hq _

attribute [irreducible] Does

end Cert.MixersIdeal.Attn

end
-- ==== Proof.IdealLoop.lean ====
/-
  What the body of the mixers' kernel does to the attention's buffers, at any float interpretation: a half of a block of queries is
  stacked, the diagonal block of keys is taken in, the loop takes in the blocks of keys below it, and the sums are written out.
-/
module

public import proofs.«01_k».proof.Proof.IdealLogic

@[expose] public section

set_option maxRecDepth 65536

noncomputable section

namespace Cert.MixersIdeal.Attn

open Idealize.ShloMosaic Idealize.ShloMosaic.TcCoe
open Idealize.SL Idealize.SL.Sem
open Idealize.ShloMosaic.VecWindow
open Cert.MixersIdeal.Gen

variable {F : FTy → Type} [FloatOps F] [Named F] {c : Dev nD} {M : Bufs} {bd : Option ℕ}

/-! ## What one block of keys does -/

/-- The scores of the stacked queries of a pair of heads against a block of keys. -/
def score (Q : Vec F S1x512x128 .bf16) (K : Vec F S1x256x128 .bf16) : FVec F S512x256 .f32 := k0_pay236 Q K

/-- The output sum after a block of keys below the diagonal. -/
def accOff (later : FVec F S256x256 .bf16) (low : IVec S1x128 1) (z : FVec F S512x256 .f32) (V : Vec F S1x256x128 .bf16) (C : Vec F S1x512x128 .f32)
    (A : Vec F S1x256x128 .f32) : FVec F S1x256x128 .f32 :=
  k0_pay586 (k0_pay574 z) (k0_pay576 later z) (k0_pay584 low V) C A

/-- The carry after a block of keys below the diagonal. -/
def carOff (later : FVec F S256x256 .bf16) (z : FVec F S512x256 .f32) (C : Vec F S1x512x128 .f32) : FVec F S1x512x128 .f32 :=
  k0_pay587 (k0_pay575 z) (k0_pay576 later z) C

/-- The output sum after the diagonal block. -/
def accDiag (later : FVec F S256x256 .bf16) (low : IVec S1x128 1) (seen : IVec S512x256 1) (z : FVec F S512x256 .f32) (V : Vec F S1x256x128 .bf16)
    (C : Vec F S1x512x128 .f32) (A : Vec F S1x256x128 .f32) : FVec F S1x256x128 .f32 :=
  k0_pay251 low seen (k0_pay241 seen z) (k0_pay243 later seen z) V C A

/-- The carry after the diagonal block. -/
def carDiag (later : FVec F S256x256 .bf16) (seen : IVec S512x256 1) (z : FVec F S512x256 .f32) (C : Vec F S1x512x128 .f32) : FVec F S1x512x128 .f32 :=
  k0_pay253 (k0_pay252 (k0_pay242 seen z) (k0_pay243 later seen z) C)

/-- One pair of heads takes in the block of keys and values at `off`. -/
def pair (fa : FVec F S512x256 .f32 → Vec F S1x256x128 .bf16 → Vec F S1x512x128 .f32 → Vec F S1x256x128 .f32 → FVec F S1x256x128 .f32)
    (fc : FVec F S512x256 .f32 → Vec F S1x512x128 .f32 → FVec F S1x512x128 .f32) (p : ℕ)
    (hq : ∀ a, (![p, 0, 0] : Fin 3 → ℕ) a + S1x512x128.size a ≤ S4x512x128.size a)
    (ha : ∀ a, (![p, 0, 0] : Fin 3 → ℕ) a + S1x256x128.size a ≤ S4x256x128.size a)
    (off : Fin 3 → ℕ) (ho : ∀ a, off a + S1x256x128.size a ≤ S1x4096x512.size a) (X : St F) : St F :=
  { X with
    acc := put X.acc ![p, 0, 0] S1x256x128.size
      (fa (score (window X.qh ![p, 0, 0] S1x512x128.size hq) (window X.k off S1x256x128.size ho)) (window X.v off S1x256x128.size ho)
        (window X.car ![p, 0, 0] S1x512x128.size hq) (window X.acc ![p, 0, 0] S1x256x128.size ha))
    car := put X.car ![p, 0, 0] S1x512x128.size
      (fc (score (window X.qh ![p, 0, 0] S1x512x128.size hq) (window X.k off S1x256x128.size ho)) (window X.car ![p, 0, 0] S1x512x128.size hq)) }

/-- The four pairs of heads take in a block of keys and values, each its own columns. -/
def pairs (fa : FVec F S512x256 .f32 → Vec F S1x256x128 .bf16 → Vec F S1x512x128 .f32 → Vec F S1x256x128 .f32 → FVec F S1x256x128 .f32)
    (fc : FVec F S512x256 .f32 → Vec F S1x512x128 .f32 → FVec F S1x512x128 .f32)
    (off : Fin 4 → Fin 3 → ℕ) (ho : ∀ p a, off p a + S1x256x128.size a ≤ S1x4096x512.size a) (X : St F) : St F :=
  pair fa fc 3 inb_S4x512x128_S1x512x128_3_0_0 inb_S4x256x128_S1x256x128_3_0_0 (off 3) (ho 3)
    (pair fa fc 2 inb_S4x512x128_S1x512x128_2_0_0 inb_S4x256x128_S1x256x128_2_0_0 (off 2) (ho 2)
      (pair fa fc 1 inb_S4x512x128_S1x512x128_1_0_0 inb_S4x256x128_S1x256x128_1_0_0 (off 1) (ho 1)
        (pair fa fc 0 inb_S4x512x128_S1x512x128_0_0_0 inb_S4x256x128_S1x256x128_0_0_0 (off 0) (ho 0) X)))

/-- The least carry. -/
def least (X : St F) : F .f32 :=
  k0_pay280 (k0_pay278 (window X.car ![0, 0, 0] S1x512x128.size inb_S4x512x128_S1x512x128_0_0_0)
      (window X.car ![1, 0, 0] S1x512x128.size inb_S4x512x128_S1x512x128_1_0_0) (window X.car ![2, 0, 0] S1x512x128.size inb_S4x512x128_S1x512x128_2_0_0))
    (k0_pay279 (window X.car ![3, 0, 0] S1x512x128.size inb_S4x512x128_S1x512x128_3_0_0))

/-- Where the blocks of keys the loop takes in lie: by the block's number, a word. -/
def loopOff (w : BitVec 32) : Fin 4 → Fin 3 → ℕ := ![k0_off5 w, k0_off6 w, k0_off7 w, k0_off8 w]

theorem loopOff_inb (w : BitVec 32) (h : k0_chk1 w) : ∀ p a, loopOff w p a + S1x256x128.size a ≤ S1x4096x512.size a :=
  fun p => match p with
    | 0 => k0_off5_inb w h
    | 1 => k0_off6_inb w h
    | 2 => k0_off7_inb w h
    | 3 => k0_off8_inb w h

/-- The loop over the blocks of keys below number `n`, from the last down, while the least carry is small. -/
def loop (later : FVec F S256x256 .bf16) (low : IVec S1x128 1) : ℕ → St F → F .f32 → St F
  | 0, X, _ => X
  | n + 1, X, m =>
    if Scalar.cmpf .olt m (Named.named κ "zero_weight" 0x43200000#32) = 1#1 then
      if h : k0_chk1 (BitVec.ofNat 32 n) then
        loop later low n (pairs (accOff later low) (carOff later) (loopOff (BitVec.ofNat 32 n)) (loopOff_inb _ h) X)
          (least (pairs (accOff later low) (carOff later) (loopOff (BitVec.ofNat 32 n)) (loopOff_inb _ h) X))
      else X
    else X

theorem chk_of_lt : ∀ n : Fin 16, k0_chk1 (BitVec.ofNat 32 n.val) := by decide +kernel

/-- The loop's program, at the number of the block before `n`, is `loop` at `n`. -/
theorem while1_does (i : grid0.Coords) (later : FVec F S256x256 .bf16) (low : IVec S1x128 1) :
    ∀ n : ℕ, n < 16 → ∀ (X : St F) (w : BitVec 32) (m : F .f32), w = BitVec.ofNat 32 n - 1#32 →
      Does c M (some n) X (defs₀ (F := F) .tc (1 : (Λ₀ F).Label) ⟨i, M.a17, M.h17, M.a3, M.h3, later, M.a4, M.h4, low, M.a19, M.h19, M.a18, M.h18, w, m⟩)
        (fun Y _ => Y = loop later low n X m) := by
  intro n
  induction n with
  | zero =>
    intro hn X w m hw
    show Does c M (some 0) X (cc0_while1 i M.a17 M.h17 M.a3 M.h3 later M.a4 M.h4 low M.a19 M.h19 M.a18 M.h18 w m) _
    rw [cc0_while1_eq_skeleton]
    unfold cc0_while1_skel
    subst hw
    have hc : Scalar.cmpi .sge (BitVec.ofNat 32 0 - 1#32) 0#32 = 0#1 := by decide +kernel
    rw [if_neg (by rw [hc]; generalize Scalar.cmpf .olt m (Named.named κ "zero_weight" 0x43200000#32) = b; revert b; decide)]
    exact Does.ret rfl
  | succ n ih =>
      intro hn X w m hw
      show Does c M (some (n + 1)) X (cc0_while1 i M.a17 M.h17 M.a3 M.h3 later M.a4 M.h4 low M.a19 M.h19 M.a18 M.h18 w m) _
      rw [cc0_while1_eq_skeleton]
      unfold cc0_while1_skel
      have hw' : w = BitVec.ofNat 32 n := by subst hw; apply BitVec.eq_of_toNat_eq; simp; omega
      subst hw'
      have hc : Scalar.cmpi .sge (BitVec.ofNat 32 n) 0#32 = 1#1 := by
        have : ∀ n : Fin 16, Scalar.cmpi .sge (BitVec.ofNat 32 n.val) 0#32 = 1#1 := by decide +kernel
        exact this ⟨n, by omega⟩
      have h1 : k0_chk1 (BitVec.ofNat 32 n) := chk_of_lt ⟨n, by omega⟩
      simp only [loop]
      rw [dif_pos h1]
      by_cases hm : Scalar.cmpf .olt m (Named.named κ "zero_weight" 0x43200000#32) = 1#1
      · rw [if_pos hm, if_pos (by rw [hc, hm]; rfl)]
        simp only [k0_part108_eq_skeleton, k0_part109_eq_skeleton, k0_part110_eq_skeleton, k0_part111_eq_skeleton, k0_part112_eq_skeleton, k0_part113_eq_skeleton]
        unfold k0_part108_skel k0_part109_skel k0_part110_skel k0_part111_skel k0_part112_skel k0_part113_skel
        repeat
          first
          | with_reducible refine Does.assoc ?_
          | with_reducible refine Does.pureBind ?_
          | refine Does.step (Slot.load (by first | with_reducible exact slot_q | with_reducible exact slot_k | with_reducible exact slot_v | with_reducible exact slot_o | with_reducible exact slot_qh | with_reducible exact slot_acc | with_reducible exact slot_car) (by intro _; rfl)) ?_
          | refine Does.step (Slot.store (by first | with_reducible exact slot_q | with_reducible exact slot_k | with_reducible exact slot_v | with_reducible exact slot_o | with_reducible exact slot_qh | with_reducible exact slot_acc | with_reducible exact slot_car)) ?_
          | refine Does.step (Exact.assume h1) ?_
        refine (Does.call (n := n) (fun u hu => by cases hu; omega) (ih (by omega) _ _ _ rfl)).mono fun Y _ h => ?_
        rw [h]
        exact congrArg₂ (loop later low n) rfl rfl
      · rw [if_neg hm, if_neg (by rw [hc]; revert hm; generalize Scalar.cmpf .olt m (Named.named κ "zero_weight" 0x43200000#32) = b; revert b; decide)]
        exact Does.ret rfl

/-- The loop's program, at the number of the block before `n`, is `loop` at `n`. -/
theorem while2_does (i : grid0.Coords) (later : FVec F S256x256 .bf16) (low : IVec S1x128 1) :
    ∀ n : ℕ, n < 16 → ∀ (X : St F) (w : BitVec 32) (m : F .f32), w = BitVec.ofNat 32 n - 1#32 →
      Does c M (some n) X (defs₀ (F := F) .tc (2 : (Λ₀ F).Label) ⟨i, M.a17, M.h17, M.a3, M.h3, later, M.a4, M.h4, low, M.a19, M.h19, M.a18, M.h18, w, m⟩)
        (fun Y _ => Y = loop later low n X m) := by
  intro n
  induction n with
  | zero =>
    intro hn X w m hw
    show Does c M (some 0) X (cc0_while2 i M.a17 M.h17 M.a3 M.h3 later M.a4 M.h4 low M.a19 M.h19 M.a18 M.h18 w m) _
    rw [cc0_while2_eq_skeleton]
    unfold cc0_while2_skel
    subst hw
    have hc : Scalar.cmpi .sge (BitVec.ofNat 32 0 - 1#32) 0#32 = 0#1 := by decide +kernel
    rw [if_neg (by rw [hc]; generalize Scalar.cmpf .olt m (Named.named κ "zero_weight" 0x43200000#32) = b; revert b; decide)]
    exact Does.ret rfl
  | succ n ih =>
      intro hn X w m hw
      show Does c M (some (n + 1)) X (cc0_while2 i M.a17 M.h17 M.a3 M.h3 later M.a4 M.h4 low M.a19 M.h19 M.a18 M.h18 w m) _
      rw [cc0_while2_eq_skeleton]
      unfold cc0_while2_skel
      have hw' : w = BitVec.ofNat 32 n := by subst hw; apply BitVec.eq_of_toNat_eq; simp; omega
      subst hw'
      have hc : Scalar.cmpi .sge (BitVec.ofNat 32 n) 0#32 = 1#1 := by
        have : ∀ n : Fin 16, Scalar.cmpi .sge (BitVec.ofNat 32 n.val) 0#32 = 1#1 := by decide +kernel
        exact this ⟨n, by omega⟩
      have h1 : k0_chk1 (BitVec.ofNat 32 n) := chk_of_lt ⟨n, by omega⟩
      simp only [loop]
      rw [dif_pos h1]
      by_cases hm : Scalar.cmpf .olt m (Named.named κ "zero_weight" 0x43200000#32) = 1#1
      · rw [if_pos hm, if_pos (by rw [hc, hm]; rfl)]
        simp only [k0_part114_eq_skeleton, k0_part115_eq_skeleton, k0_part116_eq_skeleton, k0_part117_eq_skeleton, k0_part118_eq_skeleton, k0_part119_eq_skeleton]
        unfold k0_part114_skel k0_part115_skel k0_part116_skel k0_part117_skel k0_part118_skel k0_part119_skel
        repeat
          first
          | with_reducible refine Does.assoc ?_
          | with_reducible refine Does.pureBind ?_
          | refine Does.step (Slot.load (by first | with_reducible exact slot_q | with_reducible exact slot_k | with_reducible exact slot_v | with_reducible exact slot_o | with_reducible exact slot_qh | with_reducible exact slot_acc | with_reducible exact slot_car) (by intro _; rfl)) ?_
          | refine Does.step (Slot.store (by first | with_reducible exact slot_q | with_reducible exact slot_k | with_reducible exact slot_v | with_reducible exact slot_o | with_reducible exact slot_qh | with_reducible exact slot_acc | with_reducible exact slot_car)) ?_
          | refine Does.step (Exact.assume h1) ?_
        refine (Does.call (n := n) (fun u hu => by cases hu; omega) (ih (by omega) _ _ _ rfl)).mono fun Y _ h => ?_
        rw [h]
        exact congrArg₂ (loop later low n) rfl rfl
      · rw [if_neg hm, if_neg (by rw [hc]; revert hm; generalize Scalar.cmpf .olt m (Named.named κ "zero_weight" 0x43200000#32) = b; revert b; decide)]
        exact Does.ret rfl

end Cert.MixersIdeal.Attn

end
-- ==== Proof.IdealBody.lean ====
/-
  The body of the mixers' kernel, from its first operation to its last: what it leaves in the attention's output block.
-/
module

public import proofs.«01_k».proof.Proof.IdealLoop

@[expose] public section

set_option maxRecDepth 65536

noncomputable section

namespace Cert.MixersIdeal.Attn

open Idealize.ShloMosaic Idealize.ShloMosaic.TcCoe
open Idealize.SL Idealize.SL.Sem
open Idealize.ShloMosaic.VecWindow
open Cert.MixersIdeal.Gen

variable {F : FTy → Type} [FloatOps F] [Named F] {c : Dev nD} {M : Bufs} {bd : Option ℕ}

/-! ## A half of a block of queries -/

/-- A pair of heads' queries, stacked: the first head's columns over the second's. -/
def putQ (x : S4x512x128.Idx → Elt F .bf16) (p : ℕ) (w : Vec F S1x256x128 .bf16) : S4x512x128.Idx → Elt F .bf16 :=
  put (put x ![p, 0, 0] S1x256x128.size (k0_pay12 w)) ![p, 256, 0] S1x256x128.size (k0_pay13 w)

/-- Where the four pairs' columns lie in the rows from `r`. -/
def rowOff (r : ℕ) : Fin 4 → Fin 3 → ℕ := ![![0, r, 0], ![0, r, 128], ![0, r, 256], ![0, r, 384]]

/-- The half of the queries from row `r` stacked, and the running sums at zero. -/
def stackQ (r : ℕ) (hr : ∀ p a, rowOff r p a + S1x256x128.size a ≤ S1x512x512.size a) (X : St F) : St F :=
  { X with
    qh := putQ (putQ (putQ (putQ X.qh 0 (window X.q (rowOff r 0) S1x256x128.size (hr 0))) 1 (window X.q (rowOff r 1) S1x256x128.size (hr 1)))
      2 (window X.q (rowOff r 2) S1x256x128.size (hr 2))) 3 (window X.q (rowOff r 3) S1x256x128.size (hr 3))
    acc := put X.acc ![0, 0, 0] S4x256x128.size (k0_pay27 (F := F))
    car := put X.car ![0, 0, 0] S4x512x128.size (k0_pay28 (F := F)) }

/-- The output sums written to the half of the output from row `r`. -/
def writeO (r : ℕ) (X : St F) : St F :=
  { X with
    o := put (put (put (put X.o (rowOff r 0) S1x256x128.size (k0_pay281 (window X.acc ![0, 0, 0] S1x256x128.size inb_S4x256x128_S1x256x128_0_0_0)))
          (rowOff r 1) S1x256x128.size (k0_pay281 (window X.acc ![1, 0, 0] S1x256x128.size inb_S4x256x128_S1x256x128_1_0_0)))
        (rowOff r 2) S1x256x128.size (k0_pay281 (window X.acc ![2, 0, 0] S1x256x128.size inb_S4x256x128_S1x256x128_2_0_0)))
      (rowOff r 3) S1x256x128.size (k0_pay281 (window X.acc ![3, 0, 0] S1x256x128.size inb_S4x256x128_S1x256x128_3_0_0)) }

/-- Where the diagonal block of keys lies: the half `b` of grid point `i`. -/
def diagOff (i : grid0.Coords) (b : BitVec 32) : Fin 4 → Fin 3 → ℕ := ![k0_off1 i b, k0_off2 i b, k0_off3 i b, k0_off4 i b]

theorem diagOff_inb (i : grid0.Coords) (b : Fin 2) : ∀ p a, diagOff i (BitVec.ofNat 32 b.val) p a + S1x256x128.size a ≤ S1x4096x512.size a :=
  fun p => match p with
    | 0 => k0_off1_inb i b
    | 1 => k0_off2_inb i b
    | 2 => k0_off3_inb i b
    | 3 => k0_off4_inb i b

theorem rowOff_inb (b : Fin 2) : ∀ p a, rowOff (256 * b.val) p a + S1x256x128.size a ≤ S1x512x512.size a := by
  revert b; decide

/-- The sums after the diagonal block, of the half `b` of grid point `i`. -/
def diag (i : grid0.Coords) (b : Fin 2) (X : St F) : St F :=
  pairs (accDiag (k0_pay8 (F := F)) k0_pay9 (k0_pay29 k0_pay7)) (carDiag (k0_pay8 (F := F)) (k0_pay29 k0_pay7)) (diagOff i (BitVec.ofNat 32 b.val))
    (diagOff_inb i b) (stackQ (256 * b.val) (rowOff_inb b) X)

/-- The half `b` of grid point `i`. -/
def half (i : grid0.Coords) (b : Fin 2) (X : St F) : St F :=
  writeO (256 * b.val) (loop (k0_pay8 (F := F)) k0_pay9 (2 * (i 1).val + b.val) (diag i b X) (least (diag i b X)))

theorem word0 (i : grid0.Coords) :
    Scalar.subi (Scalar.addi (Scalar.muli (BitVec.ofNat 32 (i 1).val) 2#32) 0#32) 1#32 = BitVec.ofNat 32 (2 * (i 1).val) - 1#32 := by
  have h : ∀ n : Fin 8, Scalar.subi (Scalar.addi (Scalar.muli (BitVec.ofNat 32 n.val) 2#32) 0#32) 1#32 = BitVec.ofNat 32 (2 * n.val) - 1#32 := by
    decide +kernel
  exact h (i 1)

theorem word1 (i : grid0.Coords) :
    Scalar.subi (Scalar.addi (Scalar.muli (BitVec.ofNat 32 (i 1).val) 2#32) 1#32) 1#32 = BitVec.ofNat 32 (2 * (i 1).val + 1) - 1#32 := by
  have h : ∀ n : Fin 8, Scalar.subi (Scalar.addi (Scalar.muli (BitVec.ofNat 32 n.val) 2#32) 1#32) 1#32 = BitVec.ofNat 32 (2 * n.val + 1) - 1#32 := by
    decide +kernel
  exact h (i 1)

theorem n_lt (i : grid0.Coords) (b : Fin 2) : 2 * (i 1).val + b.val < 16 := by
  have h : (i 1).val < 8 := (i 1).isLt
  omega

/-- The first stretch clears the gated linear attention's state at the first block, and stacks the first pair's queries. -/
theorem part1_does (i : grid0.Coords) (X : St F) :
    Exact c M none X (k0_part1 (F := F) i M.a2 M.h2 M.a3 M.h3 M.a4 M.h4 M.a5 M.h5 M.a6 M.h6 M.a7 M.h7 M.a8 M.h8 M.a9 M.h9 M.a10 M.h10 M.a11 M.h11
      M.a12 M.h12 M.a13 M.h13 M.a14 M.h14 M.a15 M.h15 M.a16 M.h16 M.a17 M.h17 M.a18 M.h18 M.a19 M.h19 M.a20 M.h20)
      { X with qh := putQ X.qh 0 (window X.q ![0, 0, 0] S1x256x128.size inb_S1x512x512_S1x256x128_0_0_0) }
      ⟨BitVec.ofNat 32 (i 1).val, Scalar.addi (Scalar.muli (BitVec.ofNat 32 (i 1).val) 2#32) 0#32, k0_pay7, k0_pay8 (F := F), k0_pay9,
        k0_pay14 (window X.q ![0, 0, 128] S1x256x128.size inb_S1x512x512_S1x256x128_0_0_128), k0_pay15 (F := F),
        k0_pay16 (window X.q ![0, 0, 128] S1x256x128.size inb_S1x512x512_S1x256x128_0_0_128)⟩ := by
  rw [k0_part1_eq_skeleton]
  unfold k0_part1_skel
  dsimp only
  split
  · repeat
      first
        | with_reducible refine Does.assoc ?_
        | with_reducible refine Does.pureBind ?_
        | refine Does.step (Slot.load (by first | with_reducible exact slot_q | with_reducible exact slot_k | with_reducible exact slot_v | with_reducible exact slot_o | with_reducible exact slot_qh | with_reducible exact slot_acc | with_reducible exact slot_car) (by intro _; rfl)) ?_
        | refine Does.step (Slot.store (by first | with_reducible exact slot_q | with_reducible exact slot_k | with_reducible exact slot_v | with_reducible exact slot_o | with_reducible exact slot_qh | with_reducible exact slot_acc | with_reducible exact slot_car)) ?_
        | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
        | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
    exact Does.ret ⟨rfl, rfl⟩
  · repeat
      first
        | with_reducible refine Does.assoc ?_
        | with_reducible refine Does.pureBind ?_
        | refine Does.step (Slot.load (by first | with_reducible exact slot_q | with_reducible exact slot_k | with_reducible exact slot_v | with_reducible exact slot_o | with_reducible exact slot_qh | with_reducible exact slot_acc | with_reducible exact slot_car) (by intro _; rfl)) ?_
        | refine Does.step (Slot.store (by first | with_reducible exact slot_q | with_reducible exact slot_k | with_reducible exact slot_v | with_reducible exact slot_o | with_reducible exact slot_qh | with_reducible exact slot_acc | with_reducible exact slot_car)) ?_
        | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
        | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
    exact Does.ret ⟨rfl, rfl⟩

set_option maxHeartbeats 4000000 in
/-- The first half of the body, to the stacked queries of the second. -/
theorem part106_does (i : grid0.Coords) (X : St F) :
    Does c M none X (k0_part106 (F := F) i M.a2 M.h2 M.a3 M.h3 M.a4 M.h4 M.a5 M.h5 M.a6 M.h6 M.a7 M.h7 M.a8 M.h8 M.a9 M.h9 M.a10 M.h10 M.a11 M.h11
      M.a12 M.h12 M.a13 M.h13 M.a14 M.h14 M.a15 M.h15 M.a16 M.h16 M.a17 M.h17 M.a18 M.h18 M.a19 M.h19 M.a20 M.h20) (fun Y a => Y = stackQ 256 (rowOff_inb 1) (half i 0 X)
        ∧ a.1 = Scalar.addi (Scalar.muli (BitVec.ofNat 32 (i 1).val) 2#32) 1#32 ∧ a.2.1 = k0_pay8 (F := F) ∧ a.2.2.1 = k0_pay9
        ∧ a.2.2.2.1 = k0_pay29 k0_pay7) := by
  rw [k0_part106_eq_skeleton]
  unfold k0_part106_skel
  simp only [k0_part2_eq_skeleton, k0_part3_eq_skeleton, k0_part46_eq_skeleton, k0_part47_eq_skeleton, k0_part48_eq_skeleton, k0_part49_eq_skeleton,
    k0_part50_eq_skeleton, k0_part51_eq_skeleton, k0_part52_eq_skeleton, k0_part53_eq_skeleton, k0_part54_eq_skeleton, k0_part55_eq_skeleton,
    k0_part56_eq_skeleton]
  unfold k0_part2_skel k0_part3_skel k0_part46_skel k0_part47_skel k0_part48_skel k0_part49_skel k0_part50_skel k0_part51_skel
    k0_part52_skel k0_part53_skel k0_part54_skel k0_part55_skel k0_part56_skel
  refine Does.step (part1_does i X) ?_
  dsimp only
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  refine Does.at (Y := stackQ 0 (rowOff_inb 0) X) rfl ?_
  dsimp only
  repeat
    first
      | with_reducible refine Does.assoc ?_
      | with_reducible refine Does.pureBind ?_
      | refine Does.idle (by simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part57_eq_skeleton, k0_part58_eq_skeleton, k0_part59_eq_skeleton, k0_part60_eq_skeleton]; simp only [k0_part4_skel, k0_part5_skel, k0_part6_skel, k0_part7_skel, k0_part8_skel, k0_part9_skel, k0_part10_skel, k0_part11_skel, k0_part12_skel, k0_part13_skel, k0_part14_skel, k0_part15_skel, k0_part16_skel, k0_part17_skel, k0_part18_skel, k0_part19_skel, k0_part20_skel, k0_part21_skel, k0_part22_skel, k0_part23_skel, k0_part24_skel, k0_part25_skel, k0_part26_skel, k0_part27_skel, k0_part28_skel, k0_part29_skel, k0_part30_skel, k0_part31_skel, k0_part32_skel, k0_part33_skel, k0_part34_skel, k0_part35_skel, k0_part36_skel, k0_part37_skel, k0_part38_skel, k0_part39_skel, k0_part40_skel, k0_part41_skel, k0_part42_skel, k0_part43_skel, k0_part44_skel, k0_part45_skel, k0_part57_skel, k0_part58_skel, k0_part59_skel, k0_part60_skel]; repeat' first | with_reducible refine Idle.bind ?_ fun _ => ?_ | with_reducible exact Idle.ret | refine Idle.load ?_ | refine Idle.store ?_ | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20) fun _ => ?_
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  refine Does.at (Y := diag i 0 X) rfl ?_
  refine Does.bind (Does.call (n := 2 * (i 1).val + 0) (fun _ h => by cases h) (while1_does i _ _ _ (n_lt i 0) _ _ _ (word0 i))) ?_
  rintro _ _ rfl
  refine Does.at (Y := loop (k0_pay8 (F := F)) k0_pay9 (2 * (i 1).val + 0) (diag i 0 X) (least (diag i 0 X))) rfl ?_
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  refine Does.at (Y := stackQ 256 (rowOff_inb 1) (half i 0 X)) rfl ?_
  generalize half i 0 X = Z
  dsimp only
  repeat
    first
      | with_reducible refine Does.assoc ?_
      | with_reducible refine Does.pureBind ?_
      | refine Does.idle (by simp only [k0_part57_eq_skeleton, k0_part58_eq_skeleton, k0_part59_eq_skeleton, k0_part60_eq_skeleton]; simp only [k0_part57_skel, k0_part58_skel, k0_part59_skel, k0_part60_skel]; repeat' first | with_reducible refine Idle.bind ?_ fun _ => ?_ | with_reducible exact Idle.ret | refine Idle.load ?_ | refine Idle.store ?_ | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20) fun _ => ?_
  exact Does.ret ⟨rfl, rfl, rfl, rfl, rfl⟩

/-- The sums of the second half of grid point `i`. -/
def second (i : grid0.Coords) (Z : St F) : St F :=
  loop (k0_pay8 (F := F)) k0_pay9 (2 * (i 1).val + 1) (diag i 1 Z) (least (diag i 1 Z))

set_option maxHeartbeats 4000000 in
/-- The second half of the body, to the first pair's columns of the output. -/
theorem part107_does (i : grid0.Coords) (Z : St F) (x1 : IVec S1x128 1) (x2 : IVec S64x64 1) (x3 : FVec F S520x1024 .f32) (x4 : FVec F S128x128 .f32)
    (x5 : FVec F S64x128 .f32) (x6 : FVec F S64x128 .bf16) (x7 : FVec F S1x128 .f32) (x8 : FVec F S128x64 .f32) (x9 : FVec F S128x128 .bf16)
    (x10 : FVec F S64x128 .f32) :
    Exact c M none (stackQ 256 (rowOff_inb 1) Z) (k0_part107 (F := F) i M.a2 M.h2 M.a3 M.h3 M.a4 M.h4 M.a5 M.h5 M.a6 M.h6 M.a7 M.h7 M.a8 M.h8 M.a9 M.h9 M.a10 M.h10 M.a11 M.h11
      M.a12 M.h12 M.a13 M.h13 M.a14 M.h14 M.a15 M.h15 M.a16 M.h16 M.a17 M.h17 M.a18 M.h18 M.a19 M.h19 M.a20 M.h20
      (Scalar.addi (Scalar.muli (BitVec.ofNat 32 (i 1).val) 2#32) 1#32) (k0_pay8 (F := F)) k0_pay9 (k0_pay29 k0_pay7) x1 x2 x3 x4 x5 x6 x7 x8 x9 x10)
      { second i Z with o := put (second i Z).o ![0, 256, 0] S1x256x128.size (k0_pay281 (window (second i Z).acc ![0, 0, 0] S1x256x128.size
        inb_S4x256x128_S1x256x128_0_0_0)) }
      (window (second i Z).acc ![1, 0, 0] S1x256x128.size inb_S4x256x128_S1x256x128_1_0_0) := by
  rw [k0_part107_eq_skeleton]
  unfold k0_part107_skel
  simp only [k0_part99_eq_skeleton, k0_part100_eq_skeleton, k0_part101_eq_skeleton, k0_part102_eq_skeleton, k0_part103_eq_skeleton,
    k0_part104_eq_skeleton, k0_part105_eq_skeleton]
  unfold k0_part99_skel k0_part100_skel k0_part101_skel k0_part102_skel k0_part103_skel k0_part104_skel k0_part105_skel
  repeat
    first
      | with_reducible refine Does.assoc ?_
      | with_reducible refine Does.pureBind ?_
      | refine Does.idle (by simp only [k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton]; simp only [k0_part61_skel, k0_part62_skel, k0_part63_skel, k0_part64_skel, k0_part65_skel, k0_part66_skel, k0_part67_skel, k0_part68_skel, k0_part69_skel, k0_part70_skel, k0_part71_skel, k0_part72_skel, k0_part73_skel, k0_part74_skel, k0_part75_skel, k0_part76_skel, k0_part77_skel, k0_part78_skel, k0_part79_skel, k0_part80_skel, k0_part81_skel, k0_part82_skel, k0_part83_skel, k0_part84_skel, k0_part85_skel, k0_part86_skel, k0_part87_skel, k0_part88_skel, k0_part89_skel, k0_part90_skel, k0_part91_skel, k0_part92_skel, k0_part93_skel, k0_part94_skel, k0_part95_skel, k0_part96_skel, k0_part97_skel, k0_part98_skel]; repeat' first | with_reducible refine Idle.bind ?_ fun _ => ?_ | with_reducible exact Idle.ret | refine Idle.load ?_ | refine Idle.store ?_ | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20) fun _ => ?_
  dsimp only
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  refine Does.at (Y := diag i 1 Z) rfl ?_
  refine Does.bind (Does.call (n := 2 * (i 1).val + 1) (fun _ h => by cases h) (while2_does i _ _ _ (n_lt i 1) _ _ _ (word1 i))) ?_
  rintro _ _ rfl
  refine Does.at (Y := second i Z) rfl ?_
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  exact Does.ret ⟨rfl, rfl⟩

/-- The body, from its first operation to the last. -/
theorem body_does (i : grid0.Coords) (X : St F) :
    Does c M none X (cc0_mixers (F := F) i M.a2 M.h2 M.a3 M.h3 M.a4 M.h4 M.a5 M.h5 M.a6 M.h6 M.a7 M.h7 M.a8 M.h8 M.a9 M.h9 M.a10 M.h10 M.a11 M.h11
      M.a12 M.h12 M.a13 M.h13 M.a14 M.h14 M.a15 M.h15 M.a16 M.h16 M.a17 M.h17 M.a18 M.h18 M.a19 M.h19 M.a20 M.h20) (fun Y _ => Y = half i 1 (half i 0 X)) := by
  rw [cc0_mixers_eq_skeleton]
  unfold cc0_mixers_skel
  refine Does.bind (part106_does i X) ?_
  rintro _ ⟨y1, y2, y3, y4, x1, x2, x3, x4, x5, x6, x7, x8, x9, x10⟩ ⟨rfl, h1, h2, h3, h4⟩
  dsimp only at h1 h2 h3 h4
  subst h1 h2 h3 h4
  generalize half i 0 X = Z
  refine Does.step (part107_does i Z x1 x2 x3 x4 x5 x6 x7 x8 x9 x10) ?_
  repeat
    first
      | with_reducible refine Does.assoc ?_
      | with_reducible refine Does.pureBind ?_
      | refine Does.step (Slot.load (by first | with_reducible exact slot_q | with_reducible exact slot_k | with_reducible exact slot_v | with_reducible exact slot_o | with_reducible exact slot_qh | with_reducible exact slot_acc | with_reducible exact slot_car) (by intro _; rfl)) ?_
      | refine Does.step (Slot.store (by first | with_reducible exact slot_q | with_reducible exact slot_k | with_reducible exact slot_v | with_reducible exact slot_o | with_reducible exact slot_qh | with_reducible exact slot_acc | with_reducible exact slot_car)) ?_
      | refine Does.idle (Idle.load (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
      | refine Does.idle (Idle.store (by first | with_reducible exact mem_a5 | with_reducible exact mem_a6 | with_reducible exact mem_a7 | with_reducible exact mem_a8 | with_reducible exact mem_a9 | with_reducible exact mem_a10 | with_reducible exact mem_a11 | with_reducible exact mem_a12 | with_reducible exact mem_a13 | with_reducible exact mem_a14 | with_reducible exact mem_a16 | with_reducible exact mem_a20)) fun _ => ?_
  exact Does.ret rfl

end Cert.MixersIdeal.Attn

end
-- ==== Proof.IdealRun.lean ====
/-
  The mixers' call run: the launch, what every buffer holds at the end, and that the arguments end unchanged.
-/
module

public import proofs.«01_k».proof.Proof.IdealBody
public import proofs.«01_k».proof.Proof.Gen.MixersIdeal.Launch
public import proofs.«01_k».proof.Proof.Gen.MixersIdeal.Points
public import Idealize.ShloMosaic.Lib.Pipeline.FrameBody
public import Idealize.ShloMosaic.Lib.Pipeline.ArrRel
public import Idealize.ShloMosaic.Lib.Claim

@[expose] public section

set_option maxRecDepth 16384

noncomputable section

namespace Cert.MixersIdeal.Attn

open Cert.MixersIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The program up to its call -/

/-- What the buffers hold when the call begins. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshapes before the call write none of the arguments. -/
theorem V_of_ne (c : Dev nD) (b : Ref sig .tc) (h : b ≠ main_v0 ∧ b ≠ main_v1 ∧ b ≠ main_v2 ∧ b ≠ main_v3 ∧ b ≠ main_v4) :
    V m c b = m ((c : Thread nD τ).loc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h.1, StableHlo.devRef_ne_of_ne h.2.1, StableHlo.devRef_ne_of_ne h.2.2.1, StableHlo.devRef_ne_of_ne h.2.2.2.1,
      StableHlo.devRef_ne_of_ne h.2.2.2.2⟩))

/-! ## What a grid point finds and leaves -/

/-- A window's block of its array, at a grid point. -/
abbrev blockAt (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The attention's output block at a grid point: the two halves, over its blocks of queries, keys and values. -/
def Left (c : Dev nD) (t : Fin (cfg0 (F := F)).N) (x : S1x512x512.Idx → Elt F .bf16) : Prop :=
  ∃ Z : St F, Z.q = blockAt m c 0 t ∧ Z.k = blockAt m c 1 t ∧ Z.v = blockAt m c 2 t
    ∧ x = (half (grid0.coords t) 1 (half (grid0.coords t) 0 Z)).o

/-- What the body leaves in each window's buffer: the queries, keys and values as found, the attention's output computed; of the others
    nothing is said. -/
def leaves (c : Dev nD) : (w : Fin (cfg0 (F := F)).W) → Fin (cfg0 (F := F)).N →
    (Y X : ((cfg0 (F := F)).win w).block.Idx → Elt F ((cfg0 (F := F)).win w).elt) → Prop
  | ⟨0, _⟩ => fun _ Y X => X = Y
  | ⟨1, _⟩ => fun _ Y X => X = Y
  | ⟨2, _⟩ => fun _ Y X => X = Y
  | ⟨13, _⟩ => fun t _ X => Left m c t X
  | _ => fun _ _ _ => True

/-- The call's proof data. -/
def data (c : Dev nD) : RDat τ (Elt F) Unit ℕ (UR sig nD τ) ℕ (cfg0 (F := F)) c where
  A w := V m c (Pipeline.arrRef spec0 w)
  after := leaves m c
  Φ _ := Pipeline.ΦA spec0 c
  q _ := fullShare
  owed _ := 0

/-- The buffers at a grid point. -/
def bufsAt (t : Fin (cfg0 (F := F)).N) : Bufs :=
  { a2 := st0_0 t, h2 := hstage0_0 (((cfg0 (F := F)).slots t 0).cast nbuf0_0),
    a3 := st0_1 t, h3 := hstage0_1 (((cfg0 (F := F)).slots t 1).cast nbuf0_1),
    a4 := st0_2 t, h4 := hstage0_2 (((cfg0 (F := F)).slots t 2).cast nbuf0_2),
    a5 := st0_3 t, h5 := hstage0_3 (((cfg0 (F := F)).slots t 3).cast nbuf0_3),
    a6 := st0_4 t, h6 := hstage0_4 (((cfg0 (F := F)).slots t 4).cast nbuf0_4),
    a7 := st0_5 t, h7 := hstage0_5 (((cfg0 (F := F)).slots t 5).cast nbuf0_5),
    a8 := st0_6 t, h8 := hstage0_6 (((cfg0 (F := F)).slots t 6).cast nbuf0_6),
    a9 := st0_7 t, h9 := hstage0_7 (((cfg0 (F := F)).slots t 7).cast nbuf0_7),
    a10 := st0_8 t, h10 := hstage0_8 (((cfg0 (F := F)).slots t 8).cast nbuf0_8),
    a11 := st0_9 t, h11 := hstage0_9 (((cfg0 (F := F)).slots t 9).cast nbuf0_9),
    a12 := st0_10 t, h12 := hstage0_10 (((cfg0 (F := F)).slots t 10).cast nbuf0_10),
    a13 := st0_11 t, h13 := hstage0_11 (((cfg0 (F := F)).slots t 11).cast nbuf0_11),
    a14 := st0_12 t, h14 := hstage0_12 (((cfg0 (F := F)).slots t 12).cast nbuf0_12),
    a15 := st0_13 t, h15 := hstage0_13 (((cfg0 (F := F)).slots t 13).cast nbuf0_13),
    a16 := st0_14 t, h16 := hstage0_14 (((cfg0 (F := F)).slots t 14).cast nbuf0_14),
    a17 := Memref.whole cc0_scratch0, h17 := Memref.isWhole_whole _,
    a18 := Memref.whole cc0_scratch1, h18 := Memref.isWhole_whole _,
    a19 := Memref.whole cc0_scratch2, h19 := Memref.isWhole_whole _,
    a20 := Memref.whole cc0_scratch3, h20 := Memref.isWhole_whole _ }

theorem found (c : Dev nD) (w : Fin (cfg0 (F := F)).W) (hw : ((cfg0 (F := F)).win w).isOut = false)
    (hclip : ∀ t t' : Fin (cfg0 (F := F)).N, ((cfg0 (F := F)).win w).index t = ((cfg0 (F := F)).win w).index t' →
      ((cfg0 (F := F)).win w).clip ((cfg0 (F := F)).grid.coords t) = ((cfg0 (F := F)).win w).clip ((cfg0 (F := F)).grid.coords t'))
    (hk : ∀ t Y X, leaves m c w t Y X → X = Y) (t : Fin (cfg0 (F := F)).N) (Y) (h : (data m c).Finds w t Y) :
    ∃ d, Y = (data m c).fetched w t d :=
  RDat.finds_in_eq_fetched (data m c) w hw hclip hk t Y h

theorem found0 (c : Dev nD) (t : Fin (cfg0 (F := F)).N) (Y) (h : (data m c).Finds 0 t Y) : Y = blockAt m c 0 t := by
  obtain ⟨d, rfl⟩ := found m c 0 rfl (fun _ _ _ => rfl) (fun _ _ _ h => h) t Y h
  rfl
theorem found1 (c : Dev nD) (t : Fin (cfg0 (F := F)).N) (Y) (h : (data m c).Finds 1 t Y) : Y = blockAt m c 1 t := by
  obtain ⟨d, rfl⟩ := found m c 1 rfl (fun _ _ _ => rfl) (fun _ _ _ h => h) t Y h
  rfl
theorem found2 (c : Dev nD) (t : Fin (cfg0 (F := F)).N) (Y) (h : (data m c).Finds 2 t Y) : Y = blockAt m c 2 t := by
  obtain ⟨d, rfl⟩ := found m c 2 rfl (fun _ _ _ => rfl) (fun _ _ _ h => h) t Y h
  rfl

/-! ## The halves leave the queries, the keys and the values -/

theorem loop_keeps (later : FVec F S256x256 .bf16) (low : IVec S1x128 1) (n : ℕ) : ∀ (X : St F) (w : F .f32),
    (loop later low n X w).q = X.q ∧ (loop later low n X w).k = X.k ∧ (loop later low n X w).v = X.v := by
  induction n with
  | zero => intro X w; exact ⟨rfl, rfl, rfl⟩
  | succ n ih =>
    intro X w
    simp only [loop]
    split
    · split
      · exact ⟨(ih _ _).1.trans rfl, (ih _ _).2.1.trans rfl, (ih _ _).2.2.trans rfl⟩
      · exact ⟨rfl, rfl, rfl⟩
    · exact ⟨rfl, rfl, rfl⟩

theorem half_keeps (i : grid0.Coords) (b : Fin 2) (X : St F) : (half i b X).q = X.q ∧ (half i b X).k = X.k ∧ (half i b X).v = X.v :=
  have h := loop_keeps (k0_pay8 (F := F)) k0_pay9 (2 * (i 1).val + b.val) (diag i b X) (least (diag i b X))
  ⟨h.1.trans rfl, h.2.1.trans rfl, h.2.2.trans rfl⟩

theorem defs₀_row (t : Fin (cfg0 (F := F)).N) :
    defs₀ (F := F) .tc cfg0.body (cfg0.bodyArgs t (cfg0.slots t)) = bodyAt0 t := by
  unfold defs₀; rw [Defs.onTc_tc]

theorem Does.run {c : Dev nD} {M : Bufs} {α : Type} {X : St F} {p : Prog (TpuEff nD τ sig (Elt F) (Λ₀ F) .tc) α} {Φ : St F → α → Prop}
    (h : Does c M none X p Φ) (K : α → sProp 𝕄) (hK : ∀ X' a, Φ X' a → Own c M X' ⊢ K a) :
    Own c M X ⊢ wp frame (wpE (defs₀ (F := F)) 𝒱₀ (c : Thread nD τ) none) Set.univ p K := by
  unfold Does at h
  exact h K hK

set_option maxHeartbeats 4000000 in
/-- The body's triple at a grid point. -/
theorem body_obligation (c : Dev nD) : (data m c).BodyObligation (defs₀ (F := F)) 𝒱₀ () Set.univ := fun t Y hY => by
  have e0 := found0 m c t (Y 0) (hY 0)
  have e1 := found1 m c t (Y 1) (hY 1)
  have e2 := found2 m c t (Y 2) (hY 2)
  rw [defs₀_row, show (data m c).owesAt () t.succ = (data m c).owesAt () t.castSucc from rfl, bigSep_W0, bigSep_W0]
  show iprop(Pipeline.ΦA spec0 c ∗ _ ∗ _) ⊢ wp _ _ _ _ fun _ => iprop(Pipeline.ΦA spec0 c ∗ _ ∗ _)
  unfold Pipeline.ΦA
  rw [scopedRest0_eq]
  iintro ⟨⟨⟨⟨%f0, G0⟩, ⟨%f1, G1⟩, ⟨%f2, G2⟩, ⟨%f3, G3⟩⟩, HP⟩, HO, H0, H1, H2, H3, H4, H5, H6, H7, H8, H9, H10, H11, H12, H13, H14⟩
  ihave G0 := (BIBase.Entails.of_eq (owns_whole (c : Thread nD τ) cc0_scratch0 fullShare f0).symm) $$ G0
  ihave G1 := (BIBase.Entails.of_eq (owns_whole (c : Thread nD τ) cc0_scratch1 fullShare f1).symm) $$ G1
  ihave G2 := (BIBase.Entails.of_eq (owns_whole (c : Thread nD τ) cc0_scratch2 fullShare f2).symm) $$ G2
  ihave G3 := (BIBase.Entails.of_eq (owns_whole (c : Thread nD τ) cc0_scratch3 fullShare f3).symm) $$ G3
  have key := Does.run (body_does (c := c) (M := bufsAt t) (grid0.coords t) { q := Y 0, k := Y 1, v := Y 2, o := Y 13, qh := f0, acc := f1, car := f2 }) _ (fun X' _ h => by subst h; exact .rfl)
  obtain ⟨kq, kk, kv⟩ := half_keeps (grid0.coords t) 1 (half (grid0.coords t) 0 { q := Y 0, k := Y 1, v := Y 2, o := Y 13, qh := f0, acc := f1, car := f2 })
  obtain ⟨kq', kk', kv'⟩ := half_keeps (grid0.coords t) 0 { q := Y 0, k := Y 1, v := Y 2, o := Y 13, qh := f0, acc := f1, car := f2 }
  have hl : Left m c t (half (grid0.coords t) 1 (half (grid0.coords t) 0 { q := Y 0, k := Y 1, v := Y 2, o := Y 13, qh := f0, acc := f1, car := f2 })).o := ⟨_, e0, e1, e2, rfl⟩
  rw [kq'] at kq
  rw [kk'] at kk
  rw [kv'] at kv
  generalize half (grid0.coords t) 1 (half (grid0.coords t) 0 { q := Y 0, k := Y 1, v := Y 2, o := Y 13, qh := f0, acc := f1, car := f2 }) = Z at key kq kk kv hl
  iapply (wp_wand_r _ _ _)
  isplitl [H0 H1 H2 H13 G0 G1 G2 H3 H4 H5 H6 H7 H8 H9 H10 H11 H12 H14 G3]
  · iapply key
    unfold Own
    simp only [Bufs.rest, Junk, bufsAt]
    isplitl [H0]; · iexact H0
    isplitl [H1]; · iexact H1
    isplitl [H2]; · iexact H2
    isplitl [H13]; · iexact H13
    isplitl [G0]; · iexact G0
    isplitl [G1]; · iexact G1
    isplitl [G2]; · iexact G2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H14]; · iexists _; iexact H14
    isplitl [G3]; · iexists _; iexact G3
    iempintro
  iintro %_ HE
  unfold Own
  simp only [Bufs.rest, Junk, bufsAt]
  icases HE with ⟨H0, H1, H2, H13, G0, G1, G2, H3, H4, H5, H6, H7, H8, H9, H10, H11, H12, H14, G3, -⟩
  isplitl [G0 G1 G2 G3 HP]
  · isplitr [HP]
    · isplitl [G0]; · iexists _; iapply (BIBase.Entails.of_eq (owns_whole (c : Thread nD τ) cc0_scratch0 fullShare _)) $$ G0
      isplitl [G1]; · iexists _; iapply (BIBase.Entails.of_eq (owns_whole (c : Thread nD τ) cc0_scratch1 fullShare _)) $$ G1
      isplitl [G2]; · iexists _; iapply (BIBase.Entails.of_eq (owns_whole (c : Thread nD τ) cc0_scratch2 fullShare _)) $$ G2
      icases G3 with ⟨%x3, G3⟩
      iexists _; iapply (BIBase.Entails.of_eq (owns_whole (c : Thread nD τ) cc0_scratch3 fullShare _)) $$ G3
    iexact HP
  isplitl [HO]; · iexact HO
  isplitl [H0]
  · iexists Z.q; isplitr; · ipureintro; exact kq
    iexact H0
  isplitl [H1]
  · iexists Z.k; isplitr; · ipureintro; exact kk
    iexact H1
  isplitl [H2]
  · iexists Z.v; isplitr; · ipureintro; exact kv
    iexact H2
  isplitl [H3]
  · icases H3 with ⟨%x, H3⟩
    iexists x; isplitr; · ipureintro; trivial
    iexact H3
  isplitl [H4]
  · icases H4 with ⟨%x, H4⟩
    iexists x; isplitr; · ipureintro; trivial
    iexact H4
  isplitl [H5]
  · icases H5 with ⟨%x, H5⟩
    iexists x; isplitr; · ipureintro; trivial
    iexact H5
  isplitl [H6]
  · icases H6 with ⟨%x, H6⟩
    iexists x; isplitr; · ipureintro; trivial
    iexact H6
  isplitl [H7]
  · icases H7 with ⟨%x, H7⟩
    iexists x; isplitr; · ipureintro; trivial
    iexact H7
  isplitl [H8]
  · icases H8 with ⟨%x, H8⟩
    iexists x; isplitr; · ipureintro; trivial
    iexact H8
  isplitl [H9]
  · icases H9 with ⟨%x, H9⟩
    iexists x; isplitr; · ipureintro; trivial
    iexact H9
  isplitl [H10]
  · icases H10 with ⟨%x, H10⟩
    iexists x; isplitr; · ipureintro; trivial
    iexact H10
  isplitl [H11]
  · icases H11 with ⟨%x, H11⟩
    iexists x; isplitr; · ipureintro; trivial
    iexact H11
  isplitl [H12]
  · icases H12 with ⟨%x, H12⟩
    iexists x; isplitr; · ipureintro; trivial
    iexact H12
  isplitl [H13]
  · iexists Z.o; isplitr; · ipureintro; exact hl
    iexact H13
  icases H14 with ⟨%x, H14⟩
  iexists x; isplitr; · ipureintro; trivial
  iexact H14

/-! ## The launch -/

set_option backward.isDefEq.respectTransparency.types false in
set_option maxHeartbeats 1600000 in
/-- Every run of the program ends, with each array at contents its blocks make, the rest as the call found it, and the counters at zero. -/
theorem run_quiescent : θ_run defs (onTc (τ := τ) (main (F := F))) (s₀ m ρ)
    (fun r => RDat.FramePost (cfg0 (F := F)) (data m) (V m) r ∧ r.2.sem = fun _ => 0) :=
  RDat.θ_run_frame (Q' := _) cfgs (0 : Fin 1) launch0 defs₀ 𝒱₀ (data m) m ρ main (hbody := body_obligation m)
    (hshare := fun c w => by unfold RDat.share; split <;> rfl) (howed := fun _ _ => rfl) (V := V m) (hmain := hmain m) (hA := fun _ _ => rfl)
    (hΦ := fun _ _ => rfl)

/-- The arguments, of a final state. -/
theorem unchanged (r : PUnit × MemSt nD τ sig (Elt F)) (h : RDat.FramePost (cfg0 (F := F)) (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).2 main_arg0 (show main_arg0 ∈ Pipeline.restRefs sig spec0 from Pipeline.mem_restRefs_of main_arg0 (by decide) (by decide))).trans (V_of_ne m c main_arg0 (by decide)),
      ((h c).2 main_arg1 (show main_arg1 ∈ Pipeline.restRefs sig spec0 from Pipeline.mem_restRefs_of main_arg1 (by decide) (by decide))).trans (V_of_ne m c main_arg1 (by decide)),
      ((h c).2 main_arg2 (show main_arg2 ∈ Pipeline.restRefs sig spec0 from Pipeline.mem_restRefs_of main_arg2 (by decide) (by decide))).trans (V_of_ne m c main_arg2 (by decide)),
      (h.arr_in c 3 rfl).trans (V_of_ne m c main_arg3 (by decide)),
      (h.arr_in c 4 rfl).trans (V_of_ne m c main_arg4 (by decide)),
      (h.arr_in c 5 rfl).trans (V_of_ne m c main_arg5 (by decide)),
      (h.arr_in c 6 rfl).trans (V_of_ne m c main_arg6 (by decide)),
      (h.arr_in c 7 rfl).trans (V_of_ne m c main_arg7 (by decide)),
      (h.arr_in c 8 rfl).trans (V_of_ne m c main_arg8 (by decide)),
      ((h c).2 main_arg9 (show main_arg9 ∈ Pipeline.restRefs sig spec0 from Pipeline.mem_restRefs_of main_arg9 (by decide) (by decide))).trans (V_of_ne m c main_arg9 (by decide)),
      ((h c).2 main_arg10 (show main_arg10 ∈ Pipeline.restRefs sig spec0 from Pipeline.mem_restRefs_of main_arg10 (by decide) (by decide))).trans (V_of_ne m c main_arg10 (by decide)),
      (h.arr_in c 11 rfl).trans (V_of_ne m c main_arg11 (by decide)),
      (h.arr_in c 12 rfl).trans (V_of_ne m c main_arg12 (by decide))⟩

/-- Every run of the program ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c => unchanged m r h.1 c, h.2⟩) (run_quiescent m ρ)

end Cert.MixersIdeal.Attn

end
-- ==== Proof.AttnClaims.lean ====
/- The attention's call: that every run of the kernel, of its idealization and of the reference ends, leaves the arguments
   unchanged and every semaphore at zero; and that the idealization only names constants. -/
module

public import proofs.«01_k».proof.Defs
public import proofs.«01_k».proof.Proof.MixersRun
public import proofs.«01_k».proof.Proof.IdealRun
public import proofs.«01_k».proof.Proof.Gen.AttentionIdeal.Run
public import Idealize.ShloMosaic.Lib.Claim
public import Idealize.ShloMosaic.Lib.Quiescent

@[expose] public section

set_option maxRecDepth 16384

noncomputable section

open Idealize.ShloMosaic Idealize.ShloMosaic.TcCoe Idealize.SL.Sem

namespace Cert.Proof.AttnClaims

theorem frame : Cert.quiescent_Mixers := fun m ρ _ => Cert.Mixers.Attn.frame m ρ

theorem frame_ideal : Cert.quiescent_MixersIdeal := fun m ρ _ => Cert.MixersIdeal.Attn.frame m ρ

/-- The reference is a host program: its run read at the arguments; it declares no semaphore. -/
theorem frame_ref : Cert.quiescent_AttentionIdeal := fun m ρ _ =>
  (θ_run Cert.AttentionIdeal.defs _ _).mono (fun r h => ⟨fun c => (h c).2, Idealize.ShloMosaic.sem_eq_zero_of_no_sems (by decide) r.2⟩)
    (Cert.AttentionIdeal.Value.run (F := Ideal) m ρ)

theorem preserves : Cert.preserves_Mixers_MixersIdeal :=
  ⟨IdealRules.named_const.statement _ _ _ _ _ rfl, IdealRules.named_const.statement _ _ _ _ _ rfl, IdealRules.named_const.statement _ _ _ _ _ rfl⟩

end Cert.Proof.AttnClaims

end
-- ==== Proof.AttnMath.lean ====
/- Stick-breaking attention of one query, its scores anything from minus to plus infinity: the softplus base two, and sums over
   blocks of 256 keys. -/
module

public import Idealize.ShloMosaic.PureOps
public import Idealize.ShloMosaic.Lib.Pointwise
public import Mathlib.Algebra.BigOperators.Intervals
public import Mathlib.Analysis.SpecialFunctions.Pow.Real

@[expose] public section

noncomputable section

namespace Cert.StickBreaking

open Idealize.ShloMosaic

/-- The softplus of a score, base two. -/
def sp (z : ℝ) : ℝ := Real.log (1 + (2 : ℝ) ^ z) * (Real.log 2)⁻¹

/-- The same as the kernel writes it. -/
def SP (z : EReal) : EReal := max z (Ideal.log (1 + Ideal.exp2 z) * (((Real.log 2)⁻¹ : ℝ) : EReal))

theorem one_add_pos (z : ℝ) : (0 : ℝ) < 1 + (2 : ℝ) ^ z := by
  have := Real.rpow_pos_of_pos (two_pos (α := ℝ)) z
  linarith

theorem le_sp (z : ℝ) : z ≤ sp z := by
  have h2 : 0 < Real.log 2 := Real.log_pos one_lt_two
  unfold sp
  rw [← div_eq_mul_inv, le_div_iff₀ h2, ← Real.log_rpow two_pos]
  exact Real.log_le_log (Real.rpow_pos_of_pos two_pos z) (by linarith)

theorem SP_coe (z : ℝ) : SP (z : EReal) = (sp z : EReal) := by
  have e : (1 : EReal) + Ideal.exp2 (z : EReal) = ((1 + (2 : ℝ) ^ z : ℝ) : EReal) := rfl
  unfold SP
  rw [e, Ideal.log_coe, if_neg (not_le.mpr (one_add_pos z)), ← EReal.coe_mul]
  exact max_eq_right (EReal.coe_le_coe_iff.mpr (le_sp z))

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem SP_top : SP ⊤ = ⊤ := max_eq_left le_top

theorem SP_bot : SP ⊥ = 0 := by
  have e : (1 : EReal) + Ideal.exp2 ⊥ = ((1 : ℝ) : EReal) := add_zero _
  unfold SP
  rw [e, Ideal.log_coe, if_neg (by norm_num), Real.log_one]
  simp

theorem SP_nonneg (z : EReal) : 0 ≤ SP z := by
  induction z using EReal.rec with
  | bot => exact SP_bot.ge
  | top => rw [SP_top]; exact le_top
  | coe z =>
    have h2 : 0 < Real.log 2 := Real.log_pos one_lt_two
    rw [SP_coe]
    refine EReal.coe_nonneg.mpr (mul_nonneg (Real.log_nonneg ?_) (inv_nonneg.mpr h2.le))
    have := Real.rpow_pos_of_pos (two_pos (α := ℝ)) z
    linarith

theorem ne_bot_of_nonneg {a : EReal} (ha : 0 ≤ a) : a ≠ ⊥ := fun e => absurd (e ▸ ha) (by simp)

/-- Taking away two amounts, one after the other or together. -/
theorem sub_sub_nonneg (z : EReal) {a b : EReal} (ha : 0 ≤ a) (hb : 0 ≤ b) : z - a - b = z - (a + b) := by
  rw [sub_eq_add_neg, sub_eq_add_neg, sub_eq_add_neg, add_assoc, EReal.neg_add (Or.inl (ne_bot_of_nonneg ha)) (Or.inr (ne_bot_of_nonneg hb)),
    sub_eq_add_neg]

/-! ## The reference's softplus -/

/-- The softplus the reference's `log_sigmoid` computes. -/
def refSP (x : EReal) : EReal :=
  Scalar.select (Ideal.cmp .une (x - 0) (x - 0)) (x + 0) (max x 0 + Ideal.log1p (Ideal.exp (-max (x - 0) (-(x - 0)))))

theorem refSP_coe (x : ℝ) : refSP (x : EReal) = ((Real.log (1 + Real.exp x) : ℝ) : EReal) := by
  have hne : Ideal.cmp .une ((x : EReal) - 0) ((x : EReal) - 0) = 0#1 := by simp [Ideal.cmp]
  have hsub : (x : EReal) - 0 = ((x : ℝ) : EReal) := by rw [sub_zero]
  have hmax : ∀ a b : ℝ, max (a : EReal) (b : EReal) = ((max a b : ℝ) : EReal) := fun a b => by
    rcases le_total a b with h | h
    · rw [max_eq_right h, max_eq_right (EReal.coe_le_coe_iff.mpr h)]
    · rw [max_eq_left h, max_eq_left (EReal.coe_le_coe_iff.mpr h)]
  unfold refSP
  rw [hne, hsub]
  have h0 : (0 : EReal) = ((0 : ℝ) : EReal) := rfl
  have hpos : ∀ y : ℝ, (0 : ℝ) < 1 + Real.exp y := fun y => by have := Real.exp_pos y; linarith
  have e : Ideal.log1p (Ideal.exp (-max (x : EReal) (-(x : EReal)))) = ((Real.log (1 + Real.exp (-max x (-x))) : ℝ) : EReal) := by
    rw [← EReal.coe_neg, hmax, ← EReal.coe_neg]
    show Ideal.log (((1 + Real.exp (-max x (-x)) : ℝ) : EReal)) = _
    rw [Ideal.log_coe, if_neg (not_le.mpr (hpos _))]
  rw [e, h0, hmax]
  show ((max x 0 : ℝ) : EReal) + ((Real.log (1 + Real.exp (-max x (-x))) : ℝ) : EReal) = _
  rw [← EReal.coe_add]
  congr 1
  rcases le_total 0 x with h | h
  · rw [max_eq_left h, max_eq_left (by linarith : -x ≤ x)]
    have : 1 + Real.exp x = Real.exp x * (1 + Real.exp (-x)) := by
      rw [mul_add, mul_one, ← Real.exp_add, add_neg_cancel, Real.exp_zero, add_comm]
    rw [this, Real.log_mul (Real.exp_pos x).ne' (hpos _).ne', Real.log_exp]
  · rw [max_eq_right h, max_eq_right (by linarith : x ≤ -x), neg_neg, zero_add]

theorem exp_mul_log_two (z : ℝ) : Real.exp (z * Real.log 2) = (2 : ℝ) ^ z := by
  rw [Real.rpow_def_of_pos two_pos, mul_comm]

/-- The softplus of a score times log 2. -/
theorem log_one_add_exp (z : ℝ) : Real.log (1 + Real.exp (z * Real.log 2)) = sp z * Real.log 2 := by
  have h2 : Real.log 2 ≠ 0 := (Real.log_pos one_lt_two).ne'
  rw [exp_mul_log_two]
  unfold sp
  rw [mul_assoc, inv_mul_cancel₀ h2, mul_one]

theorem log_one_add_exp_neg (z : ℝ) : Real.log (1 + Real.exp (-(z * Real.log 2))) = (sp z - z) * Real.log 2 := by
  rw [sub_mul, ← log_one_add_exp]
  have hpos : ∀ y : ℝ, (0 : ℝ) < 1 + Real.exp y := fun y => by have := Real.exp_pos y; linarith
  have : 1 + Real.exp (z * Real.log 2) = Real.exp (z * Real.log 2) * (1 + Real.exp (-(z * Real.log 2))) := by
    rw [mul_add, mul_one, ← Real.exp_add, add_neg_cancel, Real.exp_zero, add_comm]
  rw [this, Real.log_mul (Real.exp_pos _).ne' (hpos _).ne', Real.log_exp]
  ring

theorem refSP_top : refSP ⊤ = ⊤ := by
  have e : Ideal.log1p (Ideal.exp (-max ((⊤ : EReal) - 0) (-((⊤ : EReal) - 0)))) = 0 := by
    have : Ideal.exp (-max ((⊤ : EReal) - 0) (-((⊤ : EReal) - 0))) = ((0 : ℝ) : EReal) := by simp
    rw [this]
    show Ideal.log (((1 + 0 : ℝ) : EReal)) = _
    rw [Ideal.log_coe, if_neg (by norm_num)]
    simp
  unfold refSP
  rw [e]
  simp [Ideal.cmp, Scalar.select]

theorem refSP_bot : refSP ⊥ = 0 := by
  have e : Ideal.log1p (Ideal.exp (-max ((⊥ : EReal) - 0) (-((⊥ : EReal) - 0)))) = 0 := by
    have : Ideal.exp (-max ((⊥ : EReal) - 0) (-((⊥ : EReal) - 0))) = ((0 : ℝ) : EReal) := by simp
    rw [this]
    show Ideal.log (((1 + 0 : ℝ) : EReal)) = _
    rw [Ideal.log_coe, if_neg (by norm_num)]
    simp
  unfold refSP
  rw [e]
  simp [Ideal.cmp, Scalar.select]

/-- The reference's softplus of a score times log 2 is the softplus base two times log 2. -/
theorem refSP_mul (z : EReal) : refSP (z * ((Real.log 2 : ℝ) : EReal)) = SP z * ((Real.log 2 : ℝ) : EReal) := by
  have h2 : 0 < Real.log 2 := Real.log_pos one_lt_two
  induction z using EReal.rec with
  | bot => rw [EReal.bot_mul_coe_of_pos h2, refSP_bot, SP_bot, zero_mul]
  | top => rw [EReal.top_mul_coe_of_pos h2, refSP_top, SP_top, EReal.top_mul_coe_of_pos h2]
  | coe z => rw [← EReal.coe_mul, refSP_coe, log_one_add_exp, SP_coe, EReal.coe_mul]

/-- The reference's exponent of a weight, in logarithms to the base e, and the kernel's, to the base 2. -/
theorem ref_exponent (z B : EReal) (hB : 0 ≤ B) :
    Ideal.exp (-refSP (-(z * ((Real.log 2 : ℝ) : EReal))) + (-((SP z + B) * ((Real.log 2 : ℝ) : EReal)) - -(SP z * ((Real.log 2 : ℝ) : EReal))))
      = Ideal.exp2 (z - (SP z + B)) := by
  have h2 : 0 < Real.log 2 := Real.log_pos one_lt_two
  have hT : (⊤ : EReal) + B = ⊤ := EReal.top_add_of_ne_bot (ne_bot_of_nonneg hB)
  induction z using EReal.rec with
  | bot =>
    rw [EReal.bot_mul_coe_of_pos h2, EReal.neg_bot, refSP_top, EReal.neg_top, EReal.bot_add, EReal.bot_sub]
    rfl
  | top =>
    rw [SP_top, hT, EReal.top_mul_coe_of_pos h2, EReal.neg_top, EReal.bot_sub, EReal.add_bot]
    rfl
  | coe z =>
    rw [SP_coe]
    induction B using EReal.rec with
    | bot => exact absurd hB (by simp)
    | top =>
      rw [EReal.coe_add_top, EReal.top_mul_coe_of_pos h2, EReal.neg_top, EReal.bot_sub, EReal.add_bot]
      rfl
    | coe B =>
      rw [← EReal.coe_mul, ← EReal.coe_neg, refSP_coe, log_one_add_exp_neg, ← EReal.coe_add, ← EReal.coe_mul, ← EReal.coe_mul, ← EReal.coe_neg,
        ← EReal.coe_neg, ← EReal.coe_neg, ← EReal.coe_sub, ← EReal.coe_add, ← EReal.coe_sub, Ideal.exp_coe]
      refine congrArg (fun w : ℝ => (w : EReal)) (Eq.trans (congrArg Real.exp ?_) (exp_mul_log_two _))
      ring

theorem sum_nonneg_mul {ι : Type} (s : Finset ι) (f : ι → EReal) (hf : ∀ i, 0 ≤ f i) (L : ℝ) (hL : 0 < L) :
    ∑ i ∈ s, -(f i * (L : EReal)) = -((∑ i ∈ s, f i) * (L : EReal)) := by
  classical
  induction s using Finset.induction_on with
  | empty => simp
  | insert a s h ih =>
    have hs : 0 ≤ ∑ i ∈ s, f i := Finset.sum_nonneg fun i _ => hf i
    have hl : (0 : EReal) ≤ (L : EReal) := EReal.coe_nonneg.mpr hL.le
    rw [Finset.sum_insert h, Finset.sum_insert h, ih, EReal.right_distrib_of_nonneg (hf a) hs,
      EReal.neg_add (Or.inl (ne_bot_of_nonneg (mul_nonneg (hf a) hl))) (Or.inr (ne_bot_of_nonneg (mul_nonneg hs hl))), sub_eq_add_neg]

/-! ## Sums over blocks of keys -/

theorem block_sum {M : Type} [AddCommMonoid M] (f : ℕ → M) (n : ℕ) :
    ∑ c : Fin 256, f (256 * n + c.val) = ∑ s ∈ Finset.Ico (256 * n) (256 * (n + 1)), f s := by
  rw [Finset.sum_Ico_eq_sum_range, show 256 * (n + 1) - 256 * n = 256 by omega]
  exact (Finset.sum_range (fun c => f (256 * n + c))).symm

/-- A key's softplus, those of the later keys of its block and those of the later blocks. -/
theorem block_run (g : ℕ → EReal) (n e : ℕ) (he : 256 * (n + 1) ≤ e) (c : Fin 256) :
    g (256 * n + c.val) + (∑ a : Fin 256, if c.val < a.val then g (256 * n + a.val) else 0) + ∑ s ∈ Finset.Ico (256 * (n + 1)) e, g s
      = ∑ s ∈ Finset.Ico (256 * n + c.val) e, g s := by
  have hc := c.isLt
  rw [← Finset.sum_Ico_consecutive g (show 256 * n + c.val ≤ 256 * (n + 1) by omega) he,
    Finset.sum_eq_sum_Ico_succ_bot (show 256 * n + c.val < 256 * (n + 1) by omega)]
  congr 2
  have h1 : (∑ a : Fin 256, if c.val < a.val then g (256 * n + a.val) else 0)
      = ∑ a ∈ Finset.range 256, if c.val < a then g (256 * n + a) else 0 :=
    (Finset.sum_range (fun a => if c.val < a then g (256 * n + a) else 0)).symm
  have h2 : (Finset.range 256).filter (fun a => c.val < a) = Finset.Ico (c.val + 1) 256 := by
    ext a; simp only [Finset.mem_filter, Finset.mem_range, Finset.mem_Ico]; omega
  rw [h1, ← Finset.sum_filter, h2, Finset.sum_Ico_eq_sum_range, Finset.sum_Ico_eq_sum_range]
  refine Finset.sum_congr (by congr 1; omega) fun k _ => ?_
  congr 1; omega

/-- A sum over 512 columns in two halves. -/
theorem sum_halves (f g : Fin 256 → EReal) :
    (∑ x : Fin 512, if h : x.val < 256 then f ⟨x.val, h⟩ else g ⟨x.val - 256, by omega⟩) = ∑ c, f c + ∑ c, g c := by
  refine (Fin.sum_univ_add (a := 256) (b := 256) (fun x : Fin (256 + 256) => if h : x.val < 256 then f ⟨x.val, h⟩ else g ⟨x.val - 256, by omega⟩)).trans ?_
  congr 1

/-- The row of the stacked scores that belongs to the column `l` of a pair of heads, at the row `r` of its block of queries. -/
def rowOf (l : Fin 128) (r : Fin 256) : Fin 512 := if l.val < 64 then ⟨r.val, by omega⟩ else ⟨256 + r.val, by omega⟩

/-- The product of the weights side by side with the stacked values is the product of the head's own. -/
theorem stacked_product (W : Fin 512 → Fin 256 → EReal) (V : Fin 256 → EReal) (l : Fin 128) (r : Fin 256) :
    (∑ x : Fin 512, (if h : x.val < 256 then W ⟨r.val, by omega⟩ ⟨x.val, h⟩ else W ⟨256 + r.val, by omega⟩ ⟨x.val - 256, by omega⟩)
        * (if h : x.val < 256 then (if l.val < 64 then V ⟨x.val, h⟩ else 0) else (if l.val < 64 then 0 else V ⟨x.val - 256, by omega⟩)))
      = ∑ c, W (rowOf l r) c * V c := by
  have hs := sum_halves (fun c => W ⟨r.val, by omega⟩ c * (if l.val < 64 then V c else 0)) (fun c => W ⟨256 + r.val, by omega⟩ c * (if l.val < 64 then 0 else V c))
  refine Eq.trans (Finset.sum_congr rfl fun x _ => ?_) (hs.trans ?_)
  · by_cases h : x.val < 256
    · simp only [dif_pos h]
    · simp only [dif_neg h]
  · unfold rowOf
    by_cases hl : l.val < 64
    · simp only [if_pos hl, mul_zero, Finset.sum_const_zero, add_zero]
    · simp only [if_neg hl, mul_zero, Finset.sum_const_zero, zero_add]

/-! ## One query's weights -/

variable (qi : ℕ) (zz : Fin 4 → Fin 512 → ℕ → EReal)

/-- The softplus of a key's score, zero from the query on. -/
def spm (p : Fin 4) (ρ : Fin 512) (s : ℕ) : EReal := if s < 256 * qi + ρ.val % 256 then SP (zz p ρ s) else 0

theorem spm_nonneg (p : Fin 4) (ρ : Fin 512) (s : ℕ) : 0 ≤ spm qi zz p ρ s := by
  unfold spm
  split
  · exact SP_nonneg _
  · exact le_rfl

/-- A key's weight, zero from the query on. -/
def wt (p : Fin 4) (ρ : Fin 512) (s : ℕ) : EReal :=
  if s < 256 * qi + ρ.val % 256 then Ideal.exp2 (zz p ρ s - ∑ j ∈ Finset.Ico s (256 * (qi + 1)), spm qi zz p ρ j) else 0

/-- Where the softpluses of the later keys add up to infinity a key weighs nothing. -/
theorem wt_zero (p : Fin 4) (ρ : Fin 512) (s n : ℕ) (hs : s ≤ n) (hn : n ≤ 256 * (qi + 1))
    (h : ∑ j ∈ Finset.Ico n (256 * (qi + 1)), spm qi zz p ρ j = ⊤) : wt qi zz p ρ s = 0 := by
  unfold wt
  rw [← Finset.sum_Ico_consecutive _ hs hn, h,
    EReal.add_top_of_ne_bot (ne_bot_of_nonneg (Finset.sum_nonneg fun j _ => spm_nonneg qi zz p ρ j)), sub_eq_add_neg, EReal.neg_top, EReal.add_bot]
  split <;> rfl

end Cert.StickBreaking

end
-- ==== Proof.AttnStep.lean ====
/- One block of keys, entry by entry: what the scores, the running sums and the weights of a pair of heads are, and that one
   block moves them from one stage to the next. -/
module

public import proofs.«01_k».proof.Proof.IdealBody
public import proofs.«01_k».proof.Proof.AttnMath
public import Idealize.ShloMosaic.Lib.Pointwise
public import Idealize.ShloMosaic.Lib.Pipeline.ValueKit

@[expose] public section

set_option maxRecDepth 16384

noncomputable section

namespace Cert.MixersIdeal.Attn

open Cert.MixersIdeal Cert.MixersIdeal.Gen Cert.StickBreaking Idealize.ShloMosaic

/-! ## The pieces at an entry -/

theorem lt_word : ∀ a b : Fin 256, IntOp.cmpi .slt (BitVec.ofNat 32 a.val) (BitVec.ofNat 32 b.val) = if a.val < b.val then 1#1 else 0#1 := by
  intro a b
  have ha := a.isLt
  have hb := b.isLt
  show BitVec.ofBool ((BitVec.ofNat 32 a.val).slt (BitVec.ofNat 32 b.val)) = _
  have e : (BitVec.ofNat 32 a.val).slt (BitVec.ofNat 32 b.val) = decide (a.val < b.val) := by
    rw [BitVec.slt_eq_decide]
    have h1 : ∀ n, n < 256 → (BitVec.ofNat 32 n).toInt = n := fun n hn => by
      rw [BitVec.toInt_eq_toNat_of_lt (by rw [BitVec.toNat_ofNat]; omega), BitVec.toNat_ofNat, Nat.mod_eq_of_lt (by omega)]
    rw [h1 _ ha, h1 _ hb]
    simp
  rw [e]
  by_cases h : a.val < b.val
  · simp [h]
  · simp [h]

theorem later_apply (a b : Fin 256) : k0_pay8 (F := Ideal) (ix2 a b) = if b.val < a.val then 1 else 0 := by
  pointwise [k0_pay8]
  rw [show IntOp.cmpi .sgt (BitVec.ofNat 32 a.val) (BitVec.ofNat 32 b.val) = IntOp.cmpi .slt (BitVec.ofNat 32 b.val) (BitVec.ofNat 32 a.val) from rfl, lt_word]
  by_cases h : b.val < a.val
  · rw [if_pos h, if_pos h]
    simp [FloatOps.sitofp]
  · rw [if_neg h, if_neg h]
    simp [FloatOps.sitofp]

theorem low_apply (l : Fin 128) : k0_pay9 (ix2 0 l) = if l.val < 64 then 1#1 else 0#1 := by
  pointwise [k0_pay9]
  exact lt_word ⟨l.val, by omega⟩ ⟨64, by omega⟩

theorem seen_apply (r : Fin 512) (c : Fin 256) : k0_pay29 k0_pay7 (ix2 r c) = if c.val < r.val % 256 then 1#1 else 0#1 := by
  pointwise [k0_pay29, k0_pay7]
  by_cases h : r.val < 256
  · rw [dif_pos h, Nat.mod_eq_of_lt h]
    exact lt_word c ⟨r.val, h⟩
  · rw [dif_neg h, show r.val % 256 = r.val - 256 by omega]
    exact lt_word c ⟨r.val - 256, by omega⟩

theorem pay573_apply (z : FVec Ideal S512x256 .f32) (r : Fin 512) (c : Fin 256) : k0_pay573 z (ix2 r c) = SP (z (ix2 r c)) := by
  pointwise [k0_pay573]
  rw [IdealRules.named_const.ideal_named_scalar κ "clamp" _ ⊤ rfl, IdealRules.named_const.ideal_named_scalar κ "inv_ln2" _ _ rfl, min_eq_left le_top]
  rfl

theorem pay240_apply (B : IVec S512x256 1) (z : FVec Ideal S512x256 .f32) (r : Fin 512) (c : Fin 256) :
    k0_pay240 B z (ix2 r c) = if B (ix2 r c) = 1#1 then SP (z (ix2 r c)) else 0 := by
  pointwise [k0_pay240]
  simp only [IdealRules.named_const.ideal_named_scalar κ "clamp" _ ⊤ rfl, IdealRules.named_const.ideal_named_scalar κ "inv_ln2" _ _ rfl, min_eq_left le_top]
  rfl

theorem score_apply (Q : Vec Ideal S1x512x128 .bf16) (K : Vec Ideal S1x256x128 .bf16) (r : Fin 512) (c : Fin 256) :
    score Q K (ix2 r c) = ∑ l : Fin 128, Q (ix3 0 r l) * K (ix3 0 c l) := by
  pointwise [score, k0_pay236]

theorem runOff_apply (L : FVec Ideal S256x256 .bf16) (z : FVec Ideal S512x256 .f32) (r : Fin 512) (c : Fin 256) :
    k0_pay576 L z (ix2 r c) = ∑ a : Fin 256, k0_pay573 z (ix2 r a) * L (ix2 a c) := by
  pointwise [k0_pay576]

theorem runDiag_apply (L : FVec Ideal S256x256 .bf16) (B : IVec S512x256 1) (z : FVec Ideal S512x256 .f32) (r : Fin 512) (c : Fin 256) :
    k0_pay243 L B z (ix2 r c) = ∑ a : Fin 256, k0_pay240 B z (ix2 r a) * L (ix2 a c) := by
  pointwise [k0_pay243]

theorem carOff_apply (L : FVec Ideal S256x256 .bf16) (z : FVec Ideal S512x256 .f32) (C : Vec Ideal S1x512x128 .f32) (r : Fin 512) (l : Fin 128) :
    carOff L z C (ix3 0 r l) = C (ix3 0 r l) + (k0_pay576 L z (ix2 r 0) + k0_pay573 z (ix2 r 0)) := by
  pointwise [carOff, k0_pay587, k0_pay585, k0_pay575]

theorem carDiag_apply (L : FVec Ideal S256x256 .bf16) (B : IVec S512x256 1) (z : FVec Ideal S512x256 .f32) (C : Vec Ideal S1x512x128 .f32) (r : Fin 512) (l : Fin 128) :
    carDiag L B z C (ix3 0 r l) = C (ix3 0 r l) + (k0_pay243 L B z (ix2 r 0) + k0_pay240 B z (ix2 r 0)) := by
  pointwise [carDiag, k0_pay253, k0_pay252, k0_pay250, k0_pay242]

theorem stack_apply (V : Vec Ideal S1x256x128 .bf16) (x : Fin 512) (l : Fin 128) :
    k0_pay584 (F := Ideal) k0_pay9 V (ix2 x l) = if h : x.val < 256 then (if l.val < 64 then V (ix3 0 ⟨x.val, h⟩ l) else 0)
      else (if l.val < 64 then 0 else V (ix3 0 ⟨x.val - 256, by omega⟩ l)) := by
  pointwise [k0_pay584]
  rw [low_apply]
  by_cases hl : l.val < 64
  · simp only [if_pos hl]; rfl
  · simp only [if_neg hl]; rfl

/-- Two columns of 256 one above the other. -/
def two (f g : Fin 256 → EReal) (x : Fin 512) : EReal := if h : x.val < 256 then f ⟨x.val, h⟩ else g ⟨x.val - 256, by omega⟩

theorem acc586_apply (o u : FVec Ideal S512x256 .f32) (S : FVec Ideal S512x128 .bf16) (C : Vec Ideal S1x512x128 .f32)
    (A : Vec Ideal S1x256x128 .f32) (cc : Fin 512 → EReal) (hC : ∀ ρ l, C (ix3 0 ρ l) = cc ρ) (r : Fin 256) (l : Fin 128) :
    k0_pay586 o u S C A (ix3 0 r l) = A (ix3 0 r l) + ∑ x : Fin 512,
      two (fun c => Ideal.exp2 (o (ix2 ⟨r.val, by omega⟩ c) - u (ix2 ⟨r.val, by omega⟩ c) - cc ⟨r.val, by omega⟩))
        (fun c => Ideal.exp2 (o (ix2 ⟨256 + r.val, by omega⟩ c) - u (ix2 ⟨256 + r.val, by omega⟩ c) - cc ⟨256 + r.val, by omega⟩)) x * S (ix2 x l) := by
  pointwise [k0_pay586, k0_pay585]
  simp only [hC]
  refine congrArg₂ (· + ·) rfl (Finset.sum_congr rfl fun x _ => congrArg₂ (· * ·) ?_ rfl)
  unfold two
  by_cases h : x.val < 256
  · rw [dif_pos h, dif_pos h]
    split <;> rfl
  · rw [dif_neg h, dif_neg h]
    split <;> rfl

theorem acc251_apply (B : IVec S512x256 1) (o u : FVec Ideal S512x256 .f32) (V : Vec Ideal S1x256x128 .bf16) (C : Vec Ideal S1x512x128 .f32)
    (A : Vec Ideal S1x256x128 .f32) (cc : Fin 512 → EReal) (hC : ∀ ρ l, C (ix3 0 ρ l) = cc ρ) (r : Fin 256) (l : Fin 128) :
    k0_pay251 k0_pay9 B o u V C A (ix3 0 r l) = A (ix3 0 r l) + ∑ x : Fin 512,
      two (fun c => if B (ix2 ⟨r.val, by omega⟩ c) = 1#1 then Ideal.exp2 (o (ix2 ⟨r.val, by omega⟩ c) - u (ix2 ⟨r.val, by omega⟩ c) - cc ⟨r.val, by omega⟩) else 0)
        (fun c => if B (ix2 ⟨256 + r.val, by omega⟩ c) = 1#1 then Ideal.exp2 (o (ix2 ⟨256 + r.val, by omega⟩ c) - u (ix2 ⟨256 + r.val, by omega⟩ c) - cc ⟨256 + r.val, by omega⟩) else 0) x
        * two (fun c => if l.val < 64 then V (ix3 0 c l) else 0) (fun c => if l.val < 64 then 0 else V (ix3 0 c l)) x := by
  pointwise [k0_pay251, k0_pay250]
  simp only [hC]
  rw [low_apply]
  refine congrArg₂ (· + ·) rfl (Finset.sum_congr rfl fun x _ => congrArg₂ (· * ·) ?_ ?_)
  · unfold two
    by_cases h : x.val < 256
    · rw [dif_pos h, dif_pos h]
      split <;> rfl
    · rw [dif_neg h, dif_neg h]
      split <;> rfl
  · unfold two
    by_cases hl : l.val < 64
    · simp only [if_pos hl]; rfl
    · simp only [if_neg hl]; rfl

/-! ## One block moves the sums on -/

section Block
variable (qi : ℕ) (zz : Fin 4 → Fin 512 → ℕ → EReal) (p : Fin 4) (n : ℕ)

/-- The scores of a block, taken to be those of the keys from `256 n`, and the softpluses `S` of it. -/
theorem run_eq (S : Fin 512 → Fin 256 → EReal) (hS : ∀ ρ c, S ρ c = (spm qi zz p ρ (256 * n + c.val) : EReal)) (ρ : Fin 512) (c : Fin 256) :
    (∑ a : Fin 256, S ρ a * k0_pay8 (F := Ideal) (ix2 a c)) = ((∑ a : Fin 256, if c.val < a.val then spm qi zz p ρ (256 * n + a.val) else 0 : EReal)) := by
  refine Finset.sum_congr rfl fun a _ => ?_
  rw [later_apply, hS]
  by_cases h : c.val < a.val
  · rw [if_pos h, if_pos h, mul_one]
  · rw [if_neg h, if_neg h, mul_zero]

/-- The exponent of a key's weight. -/
theorem exponent (hn : n ≤ qi) (ρ : Fin 512) (c : Fin 256) :
    ((zz p ρ (256 * n + c.val) : EReal) - (spm qi zz p ρ (256 * n + c.val) : EReal)
      - ((∑ a : Fin 256, if c.val < a.val then spm qi zz p ρ (256 * n + a.val) else 0 : EReal)))
      - ((∑ s ∈ Finset.Ico (256 * (n + 1)) (256 * (qi + 1)), spm qi zz p ρ s : EReal))
      = ((zz p ρ (256 * n + c.val) - ∑ j ∈ Finset.Ico (256 * n + c.val) (256 * (qi + 1)), spm qi zz p ρ j : EReal)) := by
  have h0 := spm_nonneg qi zz p ρ
  have h1 : 0 ≤ ∑ a : Fin 256, if c.val < a.val then spm qi zz p ρ (256 * n + a.val) else 0 :=
    Finset.sum_nonneg fun a _ => by
      split
      · exact h0 _
      · exact le_rfl
  rw [sub_sub_nonneg _ (h0 _) h1, sub_sub_nonneg _ (add_nonneg (h0 _) h1) (Finset.sum_nonneg fun s _ => h0 s),
    block_run (spm qi zz p ρ) n (256 * (qi + 1)) (by omega) c]

theorem weight (hn : n ≤ qi) (ρ : Fin 512) (c : Fin 256) (hs : 256 * n + c.val < 256 * qi + ρ.val % 256) :
    Ideal.exp2 (((zz p ρ (256 * n + c.val) : EReal) - (spm qi zz p ρ (256 * n + c.val) : EReal)
      - ((∑ a : Fin 256, if c.val < a.val then spm qi zz p ρ (256 * n + a.val) else 0 : EReal)))
      - ((∑ s ∈ Finset.Ico (256 * (n + 1)) (256 * (qi + 1)), spm qi zz p ρ s : EReal)))
      = (wt qi zz p ρ (256 * n + c.val) : EReal) := by
  rw [exponent qi zz p n hn]
  unfold wt
  rw [if_pos hs]

/-- The carry takes in a block. -/
theorem carry (hn : n ≤ qi) (ρ : Fin 512) :
    ((∑ s ∈ Finset.Ico (256 * (n + 1)) (256 * (qi + 1)), spm qi zz p ρ s : EReal))
      + (((∑ a : Fin 256, if (0 : Fin 256).val < a.val then spm qi zz p ρ (256 * n + a.val) else 0 : EReal)) + (spm qi zz p ρ (256 * n + (0 : Fin 256).val) : EReal))
      = ((∑ s ∈ Finset.Ico (256 * n) (256 * (qi + 1)), spm qi zz p ρ s : EReal)) := by
  have h := block_run (spm qi zz p ρ) n (256 * (qi + 1)) (by omega) 0
  rw [show 256 * n + (0 : Fin 256).val = 256 * n from rfl] at h ⊢
  rw [← h]
  abel

variable (vv : Fin 4 → ℕ → Fin 128 → EReal)

/-- The output sum takes in a block. -/
theorem outsum (hn : n ≤ qi) (ρ : Fin 512) (l : Fin 128) :
    (∑ s ∈ Finset.Ico (256 * (n + 1)) (256 * (qi + 1)), (wt qi zz p ρ s : EReal) * vv p s l)
      + ∑ c : Fin 256, (wt qi zz p ρ (256 * n + c.val) : EReal) * vv p (256 * n + c.val) l
      = ∑ s ∈ Finset.Ico (256 * n) (256 * (qi + 1)), (wt qi zz p ρ s : EReal) * vv p s l := by
  rw [block_sum (fun s => (wt qi zz p ρ s : EReal) * vv p s l) n, add_comm, Finset.sum_Ico_consecutive _ (by omega) (by omega)]

variable (z : FVec Ideal S512x256 .f32) (hz : ∀ ρ c, z (ix2 ρ c) = (zz p ρ (256 * n + c.val) : EReal))
  (V : Vec Ideal S1x256x128 .bf16) (hV : ∀ c l, V (ix3 0 c l) = vv p (256 * n + c.val) l)
  (C : Vec Ideal S1x512x128 .f32) (hC : ∀ ρ l, C (ix3 0 ρ l) = ((∑ s ∈ Finset.Ico (256 * (n + 1)) (256 * (qi + 1)), spm qi zz p ρ s : EReal)))
  (A : Vec Ideal S1x256x128 .f32)
  (hA : ∀ r l, A (ix3 0 r l) = ∑ s ∈ Finset.Ico (256 * (n + 1)) (256 * (qi + 1)), (wt qi zz p (rowOf l r) s : EReal) * vv p s l)

include hz in
theorem spOff (hn : n < qi) (ρ : Fin 512) (c : Fin 256) : k0_pay573 z (ix2 ρ c) = (spm qi zz p ρ (256 * n + c.val) : EReal) := by
  have hc := c.isLt
  rw [pay573_apply, hz]
  unfold spm
  rw [if_pos (by omega)]

include hz in
theorem spDiag (hn : n = qi) (ρ : Fin 512) (c : Fin 256) : k0_pay240 (k0_pay29 k0_pay7) z (ix2 ρ c) = (spm qi zz p ρ (256 * n + c.val) : EReal) := by
  rw [pay240_apply, hz, seen_apply]
  unfold spm
  by_cases h : c.val < ρ.val % 256
  · rw [if_pos h, if_pos rfl, if_pos (by omega)]
  · rw [if_neg h, if_neg (by decide), if_neg (by omega)]

include hz hC in
theorem carOff_eq (hn : n < qi) (ρ : Fin 512) (l : Fin 128) :
    carOff (k0_pay8 (F := Ideal)) z C (ix3 0 ρ l) = ((∑ s ∈ Finset.Ico (256 * n) (256 * (qi + 1)), spm qi zz p ρ s : EReal)) := by
  rw [carOff_apply, runOff_apply, run_eq qi zz p n (fun ρ c => k0_pay573 z (ix2 ρ c)) (spOff qi zz p n z hz hn), spOff qi zz p n z hz hn, hC]
  exact carry qi zz p n hn.le ρ

include hz hC in
theorem carDiag_eq (hn : n = qi) (ρ : Fin 512) (l : Fin 128) :
    carDiag (k0_pay8 (F := Ideal)) (k0_pay29 k0_pay7) z C (ix3 0 ρ l) = ((∑ s ∈ Finset.Ico (256 * n) (256 * (qi + 1)), spm qi zz p ρ s : EReal)) := by
  rw [carDiag_apply, runDiag_apply, run_eq qi zz p n (fun ρ c => k0_pay240 (k0_pay29 k0_pay7) z (ix2 ρ c)) (spDiag qi zz p n z hz hn), spDiag qi zz p n z hz hn, hC]
  exact carry qi zz p n hn.le ρ

include hz hV hC hA in
theorem accOff_eq (hn : n < qi) (r : Fin 256) (l : Fin 128) :
    accOff (k0_pay8 (F := Ideal)) k0_pay9 z V C A (ix3 0 r l)
      = ∑ s ∈ Finset.Ico (256 * n) (256 * (qi + 1)), (wt qi zz p (rowOf l r) s : EReal) * vv p s l := by
  have hw : ∀ ρ c, Ideal.exp2 (k0_pay574 z (ix2 ρ c) - k0_pay576 (k0_pay8 (F := Ideal)) z (ix2 ρ c)
      - ((∑ s ∈ Finset.Ico (256 * (n + 1)) (256 * (qi + 1)), spm qi zz p ρ s : EReal))) = (wt qi zz p ρ (256 * n + c.val) : EReal) := fun ρ c => by
    have hc := c.isLt
    rw [runOff_apply, run_eq qi zz p n (fun ρ c => k0_pay573 z (ix2 ρ c)) (spOff qi zz p n z hz hn),
      show k0_pay574 z (ix2 ρ c) = z (ix2 ρ c) - k0_pay573 z (ix2 ρ c) from rfl, spOff qi zz p n z hz hn, hz]
    exact weight qi zz p n hn.le ρ c (by omega)
  unfold accOff
  rw [acc586_apply _ _ _ _ _ _ hC, hA]
  simp only [stack_apply, hw, hV]
  rw [← outsum qi zz p n vv hn.le]
  exact congrArg _ (stacked_product (fun ρ c => (wt qi zz p ρ (256 * n + c.val) : EReal)) (fun c => vv p (256 * n + c.val) l) l r)

include hz hV hC hA in
theorem accDiag_eq (hn : n = qi) (r : Fin 256) (l : Fin 128) :
    accDiag (k0_pay8 (F := Ideal)) k0_pay9 (k0_pay29 k0_pay7) z V C A (ix3 0 r l)
      = ∑ s ∈ Finset.Ico (256 * n) (256 * (qi + 1)), (wt qi zz p (rowOf l r) s : EReal) * vv p s l := by
  have hw : ∀ ρ c, (if k0_pay29 k0_pay7 (ix2 ρ c) = 1#1 then Ideal.exp2 (k0_pay241 (k0_pay29 k0_pay7) z (ix2 ρ c)
      - k0_pay243 (k0_pay8 (F := Ideal)) (k0_pay29 k0_pay7) z (ix2 ρ c)
      - ((∑ s ∈ Finset.Ico (256 * (n + 1)) (256 * (qi + 1)), spm qi zz p ρ s : EReal))) else 0) = (wt qi zz p ρ (256 * n + c.val) : EReal) := fun ρ c => by
    rw [runDiag_apply, run_eq qi zz p n (fun ρ c => k0_pay240 (k0_pay29 k0_pay7) z (ix2 ρ c)) (spDiag qi zz p n z hz hn),
      show k0_pay241 (k0_pay29 k0_pay7) z (ix2 ρ c) = z (ix2 ρ c) - k0_pay240 (k0_pay29 k0_pay7) z (ix2 ρ c) from rfl, spDiag qi zz p n z hz hn, hz,
      seen_apply]
    by_cases h : c.val < ρ.val % 256
    · rw [if_pos h, if_pos rfl]
      exact weight qi zz p n hn.le ρ c (by omega)
    · rw [if_neg h, if_neg (by decide)]
      unfold wt
      rw [if_neg (by omega)]
  unfold accDiag
  rw [acc251_apply _ _ _ _ _ _ _ hC, hA]
  simp only [hw, hV]
  rw [← outsum qi zz p n vv hn.le]
  exact congrArg _ (stacked_product (fun ρ c => (wt qi zz p ρ (256 * n + c.val) : EReal)) (fun c => vv p (256 * n + c.val) l) l r)

end Block

end Cert.MixersIdeal.Attn

end
-- ==== Proof.AttnState.lean ====
/- What the attention's buffers hold from stage to stage: the stacked queries, the running sums after each block of keys, and the
   output block at the end. -/
module

public import proofs.«01_k».proof.Proof.AttnStep

@[expose] public section

set_option maxRecDepth 16384

noncomputable section

namespace Cert.MixersIdeal.Attn

open Cert.MixersIdeal Cert.MixersIdeal.Gen Cert.StickBreaking Idealize.ShloMosaic
open Idealize.ShloMosaic.VecWindow

/-! ## Windows at an entry -/

section Windows
variable {α : Type}

theorem window_ix3 {A B C a b c : ℕ} (x : (⟨3, ![A, B, C]⟩ : Shape).Idx → α) (off : Fin 3 → ℕ)
    (inb : ∀ t, off t + (![a, b, c] : Fin 3 → ℕ) t ≤ (⟨3, ![A, B, C]⟩ : Shape).size t) (i : Fin a) (j : Fin b) (k : Fin c) (i' : Fin A) (j' : Fin B) (k' : Fin C)
    (h0 : i'.val = off 0 + i.val) (h1 : j'.val = off 1 + j.val) (h2 : k'.val = off 2 + k.val) :
    window x off ![a, b, c] inb (ix3 i j k) = x (ix3 i' j' k') := by
  refine congrArg x (funext fun t => Fin.ext ?_)
  match t with
  | 0 => show off 0 + 1 * i.val = i'.val; omega
  | 1 => show off 1 + 1 * j.val = j'.val; omega
  | 2 => show off 2 + 1 * k.val = k'.val; omega

theorem put_in {A B C a b c : ℕ} (x : (⟨3, ![A, B, C]⟩ : Shape).Idx → α) (off : Fin 3 → ℕ) (w : ((t : Fin 3) → Fin ((![a, b, c] : Fin 3 → ℕ) t)) → α)
    (i : Fin a) (j : Fin b) (k : Fin c) (i' : Fin A) (j' : Fin B) (k' : Fin C)
    (h0 : i'.val = off 0 + i.val) (h1 : j'.val = off 1 + j.val) (h2 : k'.val = off 2 + k.val) :
    put (s := ⟨3, ![A, B, C]⟩) x off ![a, b, c] w (ix3 i' j' k') = w (ix3 i j k) := by
  have hi := i.isLt
  have hj := j.isLt
  have hk := k.isLt
  have h : ∀ t : Fin 3, off t ≤ ((ix3 i' j' k' : (⟨3, ![A, B, C]⟩ : Shape).Idx) t).val ∧ ((ix3 i' j' k' : (⟨3, ![A, B, C]⟩ : Shape).Idx) t).val < off t + (![a, b, c] : Fin 3 → ℕ) t := fun t => by
    match t with
    | 0 => show off 0 ≤ i'.val ∧ i'.val < off 0 + a; omega
    | 1 => show off 1 ≤ j'.val ∧ j'.val < off 1 + b; omega
    | 2 => show off 2 ≤ k'.val ∧ k'.val < off 2 + c; omega
  unfold put
  rw [dif_pos h]
  refine congrArg w (funext fun t => Fin.ext ?_)
  match t with
  | 0 => show i'.val - off 0 = i.val; omega
  | 1 => show j'.val - off 1 = j.val; omega
  | 2 => show k'.val - off 2 = k.val; omega

theorem put_out {s : Shape} (x : s.Idx → α) (off size : Fin s.rank → ℕ) (w : ((t : Fin s.rank) → Fin (size t)) → α) (y : s.Idx) (t : Fin s.rank)
    (h : (y t).val < off t ∨ off t + size t ≤ (y t).val) : put x off size w y = x y := by
  unfold put
  rw [dif_neg fun hh => by have := hh t; omega]

end Windows

/-! ## The running sums -/

section Stages
variable (qi : ℕ) (zz : Fin 4 → Fin 512 → ℕ → EReal) (vv : Fin 4 → ℕ → Fin 128 → EReal)

/-- The buffers hold queries and keys of scores `zz`, and the values `vv`. -/
structure Reads (X : St Ideal) : Prop where
  z : ∀ (p : Fin 4) (ρ : Fin 512) (s : Fin 4096),
    (∑ l : Fin 128, (X.qh (ix3 p ρ l) : EReal) * (X.k (ix3 0 s ⟨128 * p.val + l.val, by omega⟩) : EReal)) = (zz p ρ s.val : EReal)
  v : ∀ (p : Fin 4) (s : Fin 4096) (l : Fin 128), X.v (ix3 0 s ⟨128 * p.val + l.val, by omega⟩) = vv p s.val l

/-- The keys from `256 n` on are in the sums of pair `p`. -/
structure Stage (n : ℕ) (p : Fin 4) (X : St Ideal) : Prop where
  acc : ∀ (r : Fin 256) (l : Fin 128), X.acc (ix3 p r l) = ∑ s ∈ Finset.Ico (256 * n) (256 * (qi + 1)), (wt qi zz p (rowOf l r) s : EReal) * vv p s l
  car : ∀ (ρ : Fin 512) (l : Fin 128), X.car (ix3 p ρ l) = ((∑ s ∈ Finset.Ico (256 * n) (256 * (qi + 1)), spm qi zz p ρ s : EReal))

/-- The steps `fa` and `fc` take block `n` into the sums. -/
def Moves (n : ℕ) (fa : FVec Ideal S512x256 .f32 → Vec Ideal S1x256x128 .bf16 → Vec Ideal S1x512x128 .f32 → Vec Ideal S1x256x128 .f32 → FVec Ideal S1x256x128 .f32)
    (fc : FVec Ideal S512x256 .f32 → Vec Ideal S1x512x128 .f32 → FVec Ideal S1x512x128 .f32) : Prop :=
  ∀ (p : Fin 4) (z : FVec Ideal S512x256 .f32) (V : Vec Ideal S1x256x128 .bf16) (C : Vec Ideal S1x512x128 .f32) (A : Vec Ideal S1x256x128 .f32),
    (∀ ρ c, z (ix2 ρ c) = (zz p ρ (256 * n + c.val) : EReal)) → (∀ c l, V (ix3 0 c l) = vv p (256 * n + c.val) l) →
    (∀ ρ l, C (ix3 0 ρ l) = ((∑ s ∈ Finset.Ico (256 * (n + 1)) (256 * (qi + 1)), spm qi zz p ρ s : EReal))) →
    (∀ r l, A (ix3 0 r l) = ∑ s ∈ Finset.Ico (256 * (n + 1)) (256 * (qi + 1)), (wt qi zz p (rowOf l r) s : EReal) * vv p s l) →
    (∀ r l, fa z V C A (ix3 0 r l) = ∑ s ∈ Finset.Ico (256 * n) (256 * (qi + 1)), (wt qi zz p (rowOf l r) s : EReal) * vv p s l) ∧
    ∀ ρ l, fc z C (ix3 0 ρ l) = ((∑ s ∈ Finset.Ico (256 * n) (256 * (qi + 1)), spm qi zz p ρ s : EReal))

theorem moves_off (n : ℕ) (hn : n < qi) : Moves qi zz vv n (accOff (k0_pay8 (F := Ideal)) k0_pay9) (carOff (k0_pay8 (F := Ideal))) :=
  fun p z V C A hz hV hC hA => ⟨accOff_eq qi zz p n vv z hz V hV C hC A hA hn, carOff_eq qi zz p n z hz C hC hn⟩

theorem moves_diag : Moves qi zz vv qi (accDiag (k0_pay8 (F := Ideal)) k0_pay9 (k0_pay29 k0_pay7)) (carDiag (k0_pay8 (F := Ideal)) (k0_pay29 k0_pay7)) :=
  fun p z V C A hz hV hC hA => ⟨accDiag_eq qi zz p qi vv z hz V hV C hC A hA rfl, carDiag_eq qi zz p qi z hz C hC rfl⟩

variable {qi zz vv}
variable {fa : FVec Ideal S512x256 .f32 → Vec Ideal S1x256x128 .bf16 → Vec Ideal S1x512x128 .f32 → Vec Ideal S1x256x128 .f32 → FVec Ideal S1x256x128 .f32}
  {fc : FVec Ideal S512x256 .f32 → Vec Ideal S1x512x128 .f32 → FVec Ideal S1x512x128 .f32} {n : ℕ} {X : St Ideal}

theorem pair_stage (hm : Moves qi zz vv n fa fc) (hn : n < 16) (p : Fin 4) (hq ha) (off : Fin 3 → ℕ) (ho) (h0 : off 0 = 0) (h1 : off 1 = 256 * n) (h2 : off 2 = 128 * p.val)
    (hR : Reads zz vv X) (hS : Stage qi zz vv (n + 1) p X) : Stage qi zz vv n p (pair fa fc p.val hq ha off ho X) := by
  have key := hm p (score (window X.qh ![p.val, 0, 0] S1x512x128.size hq) (window X.k off S1x256x128.size ho)) (window X.v off S1x256x128.size ho)
    (window X.car ![p.val, 0, 0] S1x512x128.size hq) (window X.acc ![p.val, 0, 0] S1x256x128.size ha)
    (fun ρ c => by
      have hc := c.isLt
      rw [score_apply]
      refine Eq.trans (Finset.sum_congr rfl fun l _ => congrArg₂ (· * ·) ?_ ?_) (hR.z p ρ ⟨256 * n + c.val, by omega⟩)
      · exact window_ix3 X.qh ![p.val, 0, 0] hq 0 ρ l p ρ l (by simp) (by simp) (by simp)
      · exact window_ix3 X.k off ho 0 c l 0 ⟨256 * n + c.val, by omega⟩ ⟨128 * p.val + l.val, by omega⟩ (by simp [h0]) (by simp [h1]) (by simp [h2]))
    (fun c l => by
      have hc := c.isLt
      exact (window_ix3 X.v off ho 0 c l 0 ⟨256 * n + c.val, by omega⟩ ⟨128 * p.val + l.val, by omega⟩ (by simp [h0]) (by simp [h1]) (by simp [h2])).trans (hR.v p _ l))
    (fun ρ l => (window_ix3 X.car ![p.val, 0, 0] hq 0 ρ l p ρ l (by simp) (by simp) (by simp)).trans (hS.car ρ l))
    (fun r l => (window_ix3 X.acc ![p.val, 0, 0] ha 0 r l p r l (by simp) (by simp) (by simp)).trans (hS.acc r l))
  exact ⟨fun r l => (put_in X.acc ![p.val, 0, 0] _ 0 r l p r l (by simp) (by simp) (by simp)).trans (key.1 r l),
    fun ρ l => (put_in X.car ![p.val, 0, 0] _ 0 ρ l p ρ l (by simp) (by simp) (by simp)).trans (key.2 ρ l)⟩

theorem pair_other {m : ℕ} (p : ℕ) (p' : Fin 4) (hne : p'.val ≠ p) (hq ha) (off : Fin 3 → ℕ) (ho) (hS : Stage qi zz vv m p' X) :
    Stage qi zz vv m p' (pair fa fc p hq ha off ho X) :=
  ⟨fun r l => (put_out X.acc ![p, 0, 0] _ _ _ 0 (show p'.val < p ∨ p + 1 ≤ p'.val by omega)).trans (hS.acc r l),
    fun ρ l => (put_out X.car ![p, 0, 0] _ _ _ 0 (show p'.val < p ∨ p + 1 ≤ p'.val by omega)).trans (hS.car ρ l)⟩

theorem pair_reads (p : ℕ) (hq ha) (off : Fin 3 → ℕ) (ho) (hR : Reads zz vv X) : Reads zz vv (pair fa fc p hq ha off ho X) := ⟨hR.z, hR.v⟩

theorem pairs_reads (off : Fin 4 → Fin 3 → ℕ) (ho) (hR : Reads zz vv X) : Reads zz vv (pairs fa fc off ho X) := ⟨hR.z, hR.v⟩

theorem pairs_stage (hm : Moves qi zz vv n fa fc) (hn : n < 16) (off : Fin 4 → Fin 3 → ℕ) (ho) (hoff : ∀ p a, off p a = (![0, 256 * n, 128 * p.val] : Fin 3 → ℕ) a)
    (hR : Reads zz vv X) (hS : ∀ p, Stage qi zz vv (n + 1) p X) : ∀ p, Stage qi zz vv n p (pairs fa fc off ho X) := by
  intro p
  unfold pairs
  match p with
  | 0 =>
    exact pair_other 3 0 (by decide) _ _ _ _ (pair_other 2 0 (by decide) _ _ _ _ (pair_other 1 0 (by decide) _ _ _ _
      (pair_stage hm hn 0 _ _ _ _ (hoff 0 0) (hoff 0 1) (hoff 0 2) hR (hS 0))))
  | 1 =>
    exact pair_other 3 1 (by decide) _ _ _ _ (pair_other 2 1 (by decide) _ _ _ _
      (pair_stage hm hn 1 _ _ _ _ (hoff 1 0) (hoff 1 1) (hoff 1 2) (pair_reads 0 _ _ _ _ hR) (pair_other 0 1 (by decide) _ _ _ _ (hS 1))))
  | 2 =>
    exact pair_other 3 2 (by decide) _ _ _ _ (pair_stage hm hn 2 _ _ _ _ (hoff 2 0) (hoff 2 1) (hoff 2 2) (pair_reads 1 _ _ _ _ (pair_reads 0 _ _ _ _ hR))
      (pair_other 1 2 (by decide) _ _ _ _ (pair_other 0 2 (by decide) _ _ _ _ (hS 2))))
  | 3 =>
    exact pair_stage hm hn 3 _ _ _ _ (hoff 3 0) (hoff 3 1) (hoff 3 2) (pair_reads 2 _ _ _ _ (pair_reads 1 _ _ _ _ (pair_reads 0 _ _ _ _ hR)))
      (pair_other 2 3 (by decide) _ _ _ _ (pair_other 1 3 (by decide) _ _ _ _ (pair_other 0 3 (by decide) _ _ _ _ (hS 3))))

/-! ## The least carry, and the loop -/

theorem least_le (X : St Ideal) (p : Fin 4) (ρ : Fin 512) (l : Fin 128) : (least X : EReal) ≤ X.car (ix3 p ρ l) := by
  have key : ∀ (a b c d : Vec Ideal S1x512x128 .f32), (k0_pay280 (k0_pay278 a b c) (k0_pay279 d) : EReal)
      ≤ min (min (min (a (ix3 0 ρ l)) (b (ix3 0 ρ l))) (c (ix3 0 ρ l))) (d (ix3 0 ρ l)) := by
    intro a b c d
    have hall : ∀ (w : FVec Ideal S1x512x128 .f32) (j : S1.Idx),
        (multiReduction .minimumf [1, 2] S1 w 0x7F800000#32 reduces_S1x512x128_S1 (.inl rfl) rfl j : EReal) ≤ w (ix3 0 ρ l) := by
      intro w j
      refine le_of_eq_of_le (multiReduction_minimumf_eq_fold w _ _ _ _ j) ?_
      refine (Finset.fold_min_le (w (ix3 0 ρ l) : EReal)).mpr (Or.inr ⟨ix3 0 ρ l, ?_, le_rfl⟩)
      refine Finset.mem_filter.mpr ⟨Finset.mem_univ _, funext fun t => Fin.ext ?_⟩
      match t with
      | 0 =>
        have h1 : (reduces_S1x512x128_S1.drop (ix3 0 ρ l) 0).val < 1 := (reduces_S1x512x128_S1.drop (ix3 0 ρ l) 0).isLt
        have h2 : (j 0).val < 1 := (j 0).isLt
        omega
    have hx : ∀ (u : FVec Ideal S1 .f32) (e : EReal), (∀ j, (u j : EReal) ≤ e) → (extractAt ![0, 0, 0] (shapeCast S1x1x1 u shapeCasts_S1_S1x1x1) inpos_S1x1x1_p0_0_0 : EReal) ≤ e :=
      fun u e hu => hu _
    unfold k0_pay280
    refine hx _ _ fun j => (hall _ j).trans (le_of_eq ?_)
    pointwise [k0_pay278, k0_pay279]
  have hcar : ∀ (p : Fin 4) (hw), window X.car ![p.val, 0, 0] S1x512x128.size hw (ix3 0 ρ l) = X.car (ix3 p ρ l) := fun p hw =>
    window_ix3 X.car ![p.val, 0, 0] hw 0 ρ l p ρ l (by simp) (by simp) (by simp)
  refine (key _ _ _ _).trans ?_
  match p with
  | 0 => exact ((min_le_left _ _).trans ((min_le_left _ _).trans (min_le_left _ _))).trans (le_of_eq (hcar 0 _))
  | 1 => exact ((min_le_left _ _).trans ((min_le_left _ _).trans (min_le_right _ _))).trans (le_of_eq (hcar 1 _))
  | 2 => exact ((min_le_left _ _).trans (min_le_right _ _)).trans (le_of_eq (hcar 2 _))
  | 3 => exact (min_le_right _ _).trans (le_of_eq (hcar 3 _))

/-- The least carry is finite, or every carry is infinite. -/
theorem least_or (X : St Ideal) : (least X : EReal) < ⊤ ∨ ∀ p ρ l, X.car (ix3 p ρ l) = (⊤ : EReal) := by
  rcases lt_or_eq_of_le (le_top : (least X : EReal) ≤ ⊤) with h | h
  · exact Or.inl h
  · exact Or.inr fun p ρ l => top_le_iff.mp (h ▸ least_le X p ρ l)

theorem loopOff_eq : ∀ (n : Fin 16) (p : Fin 4) (a : Fin 3), loopOff (BitVec.ofNat 32 n.val) p a = (![0, 256 * n.val, 128 * p.val] : Fin 3 → ℕ) a := by
  decide +kernel

/-- Once every carry is infinite the keys not yet taken in weigh nothing. -/
theorem acc_done (hn : n ≤ qi + 1) (hS : ∀ p, Stage qi zz vv n p X) (hc : ∀ p ρ l, X.car (ix3 p ρ l) = (⊤ : EReal)) (p : Fin 4) (r : Fin 256) (l : Fin 128) :
    X.acc (ix3 p r l) = ∑ s ∈ Finset.Ico (256 * 0) (256 * (qi + 1)), (wt qi zz p (rowOf l r) s : EReal) * vv p s l := by
  have htop := ((hS p).car (rowOf l r) 0).symm.trans (hc p (rowOf l r) 0)
  rw [(hS p).acc, ← Finset.sum_Ico_consecutive _ (show 256 * 0 ≤ 256 * n by omega) (show 256 * n ≤ 256 * (qi + 1) by omega),
    Finset.sum_eq_zero (s := Finset.Ico (256 * 0) (256 * n)), zero_add]
  intro s hs
  rw [wt_zero qi zz p (rowOf l r) s (256 * n) (Finset.mem_Ico.mp hs).2.le (by omega) htop, zero_mul]

/-- The loop runs over the blocks of keys before the queries' own, or stops where the rest weighs nothing. -/
theorem loop_acc (hqi : qi < 16) : ∀ (n : ℕ) (X : St Ideal) (m : EReal), n ≤ qi → Reads zz vv X → (∀ p, Stage qi zz vv n p X) →
    (m < ⊤ ∨ ∀ p ρ l, X.car (ix3 p ρ l) = (⊤ : EReal)) → ∀ p r l, (loop (k0_pay8 (F := Ideal)) k0_pay9 n X m).acc (ix3 p r l)
      = ∑ s ∈ Finset.Ico (256 * 0) (256 * (qi + 1)), (wt qi zz p (rowOf l r) s : EReal) * vv p s l := by
  intro n
  induction n with
  | zero => exact fun X m _ _ hS _ p => (hS p).acc
  | succ n ih =>
    intro X m hn hR hS hm
    have hcmp : Scalar.cmpf (F := Ideal) (φ := .f32) .olt m (Named.named κ "zero_weight" 0x43200000#32) = BitVec.ofBool (decide (m < ⊤)) := by
      rw [IdealRules.named_const.ideal_named_scalar κ "zero_weight" _ ⊤ rfl, Ideal.scalar_cmpf_def]
      rfl
    have hchk : k0_chk1 (BitVec.ofNat 32 n) := chk_of_lt ⟨n, by omega⟩
    unfold loop
    by_cases hlt : m < ⊤
    · rw [if_pos (by rw [hcmp, decide_eq_true hlt]; rfl), dif_pos hchk]
      have hst := pairs_stage (moves_off qi zz vv n (by omega)) (by omega) (loopOff (BitVec.ofNat 32 n)) (loopOff_inb _ hchk)
        (fun p a => loopOff_eq ⟨n, by omega⟩ p a) hR hS
      exact ih _ _ (by omega) (pairs_reads _ _ hR) hst (least_or _)
    · rw [if_neg (by rw [hcmp, decide_eq_false hlt]; decide)]
      exact acc_done (by omega) hS (hm.resolve_left hlt)

theorem loop_blocks (later : FVec Ideal S256x256 .bf16) (low : IVec S1x128 1) : ∀ (n : ℕ) (X : St Ideal) (m : EReal),
    (loop later low n X m).q = X.q ∧ (loop later low n X m).k = X.k ∧ (loop later low n X m).v = X.v ∧ (loop later low n X m).o = X.o := by
  intro n
  induction n with
  | zero => exact fun X m => ⟨rfl, rfl, rfl, rfl⟩
  | succ n ih =>
    intro X m
    unfold loop
    split
    · split
      · exact ih _ _
      · exact ⟨rfl, rfl, rfl, rfl⟩
    · exact ⟨rfl, rfl, rfl, rfl⟩

end Stages

end Cert.MixersIdeal.Attn

end
-- ==== Proof.AttnHalf.lean ====
/- A half of a block of queries from its first step to its last, and the output block: each entry the sum over the keys before the
   query of the stick-breaking weight times the value. -/
module

public import proofs.«01_k».proof.Proof.AttnState

@[expose] public section

set_option maxRecDepth 16384

noncomputable section

namespace Cert.StickBreaking

open Idealize.ShloMosaic

/-- The score of query `t` and key `s` in head `h`: the product of their 64 columns. -/
def dot (qr kr : ℕ → ℕ → EReal) (h t s : ℕ) : EReal := ∑ d : Fin 64, qr t (64 * h + d.val) * kr s (64 * h + d.val)

/-- The weight of key `s` for the query at position `T` with scores `z`: 2 to the power of the score less the softpluses of
    the scores from `s` up to the query; zero from the query on. -/
def weightAt (z : ℕ → EReal) (T s : ℕ) : EReal := if s < T then Ideal.exp2 (z s - ∑ j ∈ Finset.Ico s T, SP (z j)) else 0

theorem wt_eq (qi : ℕ) (zz : Fin 4 → Fin 512 → ℕ → EReal) (p : Fin 4) (ρ : Fin 512) (s : ℕ) :
    wt qi zz p ρ s = weightAt (zz p ρ) (256 * qi + ρ.val % 256) s := by
  unfold wt weightAt
  by_cases h : s < 256 * qi + ρ.val % 256
  · rw [if_pos h, if_pos h]
    congr 2
    rw [← Finset.sum_Ico_consecutive _ h.le (by omega : 256 * qi + ρ.val % 256 ≤ 256 * (qi + 1))]
    have h2 : ∑ j ∈ Finset.Ico (256 * qi + ρ.val % 256) (256 * (qi + 1)), spm qi zz p ρ j = 0 := Finset.sum_eq_zero fun j hj => by
      have := (Finset.mem_Ico.mp hj).1
      unfold spm
      rw [if_neg (by omega)]
    rw [h2, add_zero]
    refine Finset.sum_congr rfl fun j hj => ?_
    unfold spm
    rw [if_pos (Finset.mem_Ico.mp hj).2]
  · rw [if_neg h, if_neg h]

/-- A sum of weights times values, over a stretch of keys that holds all before the query. -/
theorem sum_all (z : ℕ → EReal) (T N : ℕ) (hT : T ≤ N) (hN : N ≤ 4096) (v : ℕ → EReal) :
    ∑ s ∈ Finset.Ico 0 N, (weightAt z T s : EReal) * v s = ∑ s : Fin 4096, (weightAt z T s.val : EReal) * v s.val := by
  rw [Fin.sum_univ_eq_sum_range (fun s => (weightAt z T s : EReal) * v s) 4096, Finset.range_eq_Ico,
    ← Finset.sum_Ico_consecutive _ (Nat.zero_le N) hN]
  have h2 : ∑ j ∈ Finset.Ico N 4096, (weightAt z T j : EReal) * v j = 0 := Finset.sum_eq_zero fun j hj => by
    have := (Finset.mem_Ico.mp hj).1
    unfold weightAt
    rw [if_neg (by omega)]
    exact zero_mul _
  rw [h2, add_zero]

end Cert.StickBreaking

namespace Cert.MixersIdeal.Attn

open Cert.MixersIdeal Cert.MixersIdeal.Gen Cert.StickBreaking Idealize.ShloMosaic
open Idealize.ShloMosaic.VecWindow

/-! ## The stacked queries -/

theorem pay12_apply (w : Vec Ideal S1x256x128 .bf16) (r : Fin 256) (l : Fin 128) :
    k0_pay12 w (ix3 0 r l) = if l.val < 64 then w (ix3 0 r l) else 0 := by
  pointwise [k0_pay12, k0_pay10, k0_pay11]
  rw [low_apply]
  by_cases hl : l.val < 64
  · simp only [if_pos hl]; rfl
  · simp only [if_neg hl]; rfl

theorem pay13_apply (w : Vec Ideal S1x256x128 .bf16) (r : Fin 256) (l : Fin 128) :
    k0_pay13 w (ix3 0 r l) = if l.val < 64 then 0 else w (ix3 0 r l) := by
  pointwise [k0_pay13, k0_pay10, k0_pay11]
  rw [low_apply]
  by_cases hl : l.val < 64
  · simp only [if_pos hl]; rfl
  · simp only [if_neg hl]; rfl

theorem pay27_apply (y : S4x256x128.Idx) : k0_pay27 (F := Ideal) y = (0 : EReal) := by
  show Ideal.ofBits .f32 0 = 0
  simp

theorem pay28_apply (y : S4x512x128.Idx) : k0_pay28 (F := Ideal) y = (0 : EReal) := by
  show Ideal.ofBits .f32 0 = 0
  simp

theorem pay281_apply (w : Vec Ideal S1x256x128 .f32) (r : Fin 256) (l : Fin 128) : k0_pay281 w (ix3 0 r l) = w (ix3 0 r l) := by
  pointwise [k0_pay281]

/-- The head of row `ρ` of the stacked scores of pair `p`. -/
def headOf (p : Fin 4) (ρ : Fin 512) : ℕ := 2 * p.val + ρ.val / 256

/-- A pair's stacked queries at an entry: the row's own head's columns, and zero at the other's. -/
theorem putQ_same (x : S4x512x128.Idx → Elt Ideal .bf16) (p : Fin 4) (w : Vec Ideal S1x256x128 .bf16) (ρ : Fin 512) (l : Fin 128) :
    putQ x p.val w (ix3 p ρ l) = if l.val / 64 = ρ.val / 256 then w (ix3 0 ⟨ρ.val % 256, by omega⟩ l) else 0 := by
  have hl := l.isLt
  have hρ := ρ.isLt
  unfold putQ
  by_cases h : ρ.val < 256
  · refine (put_out (s := S4x512x128) _ ![p.val, 256, 0] S1x256x128.size _ (ix3 p ρ l) 1 (Or.inl h)).trans ?_
    refine (put_in x ![p.val, 0, 0] _ 0 ⟨ρ.val % 256, by omega⟩ l p ρ l (by simp) (show ρ.val = 0 + ρ.val % 256 by omega) (by simp)).trans ?_
    rw [pay12_apply]
    by_cases h2 : l.val < 64
    · rw [if_pos h2, if_pos (by omega)]
    · rw [if_neg h2, if_neg (by omega)]
  · refine (put_in _ ![p.val, 256, 0] _ 0 ⟨ρ.val % 256, by omega⟩ l p ρ l (by simp) (show ρ.val = 256 + ρ.val % 256 by omega) (by simp)).trans ?_
    rw [pay13_apply]
    by_cases h2 : l.val < 64
    · rw [if_pos h2, if_neg (by omega)]
    · rw [if_neg h2, if_pos (by omega)]

theorem putQ_other (x : S4x512x128.Idx → Elt Ideal .bf16) (p : ℕ) (p' : Fin 4) (hne : p'.val ≠ p) (w : Vec Ideal S1x256x128 .bf16) (ρ : Fin 512) (l : Fin 128) :
    putQ x p w (ix3 p' ρ l) = x (ix3 p' ρ l) := by
  unfold putQ
  exact (put_out (s := S4x512x128) _ ![p, 256, 0] S1x256x128.size _ (ix3 p' ρ l) 0 (show p'.val < p ∨ p + 1 ≤ p'.val by omega)).trans
    (put_out (s := S4x512x128) _ ![p, 0, 0] S1x256x128.size _ (ix3 p' ρ l) 0 (show p'.val < p ∨ p + 1 ≤ p'.val by omega))

theorem rowOff_eq (R : ℕ) (p : Fin 4) (a : Fin 3) : rowOff R p a = (![0, R, 128 * p.val] : Fin 3 → ℕ) a := by
  fin_cases p <;> fin_cases a <;> rfl

section Half
variable (qr kr : ℕ → ℕ → EReal) (vr : ℕ → ℕ → EReal)

/-- The scores of the half of the queries from row `R`. -/
def scores (R : ℕ) (p : Fin 4) (ρ : Fin 512) (s : ℕ) : EReal := dot qr kr (headOf p ρ) (R + ρ.val % 256) s

/-- The values of a pair of heads. -/
def vals (p : Fin 4) (s : ℕ) (l : Fin 128) : EReal := vr s (128 * p.val + l.val)

/-- The input blocks hold the queries, keys and values. -/
structure Inputs (X : St Ideal) : Prop where
  q : ∀ (r c : Fin 512), X.q (ix3 0 r c) = (qr r.val c.val : EReal)
  k : ∀ (s : Fin 4096) (c : Fin 512), X.k (ix3 0 s c) = (kr s.val c.val : EReal)
  v : ∀ (s : Fin 4096) (c : Fin 512), X.v (ix3 0 s c) = vr s.val c.val

variable {qr kr vr}

theorem stackQ_qh (R : ℕ) (hR : R + 256 ≤ 512) (hr) (X : St Ideal) (hX : Inputs qr kr vr X) (p : Fin 4) (ρ : Fin 512) (l : Fin 128) :
    (stackQ R hr X).qh (ix3 p ρ l) = if l.val / 64 = ρ.val / 256 then (qr (R + ρ.val % 256) (128 * p.val + l.val) : EReal) else 0 := by
  have hw : ∀ p : Fin 4, window X.q (rowOff R p) S1x256x128.size (hr p) (ix3 0 ⟨ρ.val % 256, by omega⟩ l) = (qr (R + ρ.val % 256) (128 * p.val + l.val) : EReal) := fun p =>
    (window_ix3 X.q (rowOff R p) (hr p) 0 ⟨ρ.val % 256, by omega⟩ l 0 ⟨R + ρ.val % 256, by omega⟩ ⟨128 * p.val + l.val, by omega⟩
      (by rw [rowOff_eq]; rfl) (by rw [rowOff_eq]; rfl) (by rw [rowOff_eq]; rfl)).trans (hX.q _ _)
  have hs : ∀ (x : S4x512x128.Idx → Elt Ideal .bf16) (p : Fin 4), putQ x p.val (window X.q (rowOff R p) S1x256x128.size (hr p)) (ix3 p ρ l)
      = if l.val / 64 = ρ.val / 256 then (qr (R + ρ.val % 256) (128 * p.val + l.val) : EReal) else 0 := fun x p => by
    rw [putQ_same, hw]
  unfold stackQ
  dsimp only
  match p with
  | 0 => exact (putQ_other _ 3 0 (by decide) _ ρ l).trans ((putQ_other _ 2 0 (by decide) _ ρ l).trans ((putQ_other _ 1 0 (by decide) _ ρ l).trans (hs _ 0)))
  | 1 => exact (putQ_other _ 3 1 (by decide) _ ρ l).trans ((putQ_other _ 2 1 (by decide) _ ρ l).trans (hs _ 1))
  | 2 => exact (putQ_other _ 3 2 (by decide) _ ρ l).trans (hs _ 2)
  | 3 => exact hs _ 3

theorem stackQ_reads (R : ℕ) (hR : R + 256 ≤ 512) (hr) (X : St Ideal) (hX : Inputs qr kr vr X) :
    Reads (scores qr kr R) (vals vr) (stackQ R hr X) := by
  refine ⟨fun p ρ s => ?_, fun p s l => hX.v s _⟩
  have hρ := ρ.isLt
  have hterm : ∀ l : Fin 128, ((stackQ R hr X).qh (ix3 p ρ l) : EReal) * ((stackQ R hr X).k (ix3 0 s ⟨128 * p.val + l.val, by omega⟩) : EReal)
      = if l.val / 64 = ρ.val / 256 then ((qr (R + ρ.val % 256) (128 * p.val + l.val) * kr s.val (128 * p.val + l.val) : EReal)) else 0 := fun l => by
    rw [stackQ_qh R hR hr X hX]
    rw [show (stackQ R hr X).k (ix3 0 s ⟨128 * p.val + l.val, by omega⟩) = (kr s.val (128 * p.val + l.val) : EReal) from hX.k _ _]
    by_cases h : l.val / 64 = ρ.val / 256
    · rw [if_pos h, if_pos h]
    · rw [if_neg h, if_neg h, zero_mul]
  rw [Finset.sum_congr rfl fun l _ => hterm l]
  refine (Fin.sum_univ_add (a := 64) (b := 64) (fun l : Fin (64 + 64) =>
    if l.val / 64 = ρ.val / 256 then ((qr (R + ρ.val % 256) (128 * p.val + l.val) * kr s.val (128 * p.val + l.val) : EReal)) else 0)).trans ?_
  unfold scores dot headOf
  by_cases h : ρ.val < 256
  · have e1 : ρ.val / 256 = 0 := by omega
    have h2 : ∀ d : Fin 64, (if (Fin.natAdd 64 d).val / 64 = ρ.val / 256 then
        ((qr (R + ρ.val % 256) (128 * p.val + (Fin.natAdd 64 d).val) * kr s.val (128 * p.val + (Fin.natAdd 64 d).val) : EReal)) else 0) = 0 := fun d =>
      if_neg (by rw [Fin.val_natAdd]; have := d.isLt; omega)
    rw [Finset.sum_congr rfl fun d _ => h2 d, Finset.sum_const_zero, add_zero]
    refine Finset.sum_congr rfl fun d _ => ?_
    have hd := d.isLt
    rw [if_pos (by rw [Fin.val_castAdd]; omega), Fin.val_castAdd, show 64 * (2 * p.val + ρ.val / 256) + d.val = 128 * p.val + d.val by omega]
  · have e1 : ρ.val / 256 = 1 := by omega
    have h2 : ∀ d : Fin 64, (if (Fin.castAdd 64 d).val / 64 = ρ.val / 256 then
        ((qr (R + ρ.val % 256) (128 * p.val + (Fin.castAdd 64 d).val) * kr s.val (128 * p.val + (Fin.castAdd 64 d).val) : EReal)) else 0) = 0 := fun d =>
      if_neg (by rw [Fin.val_castAdd]; have := d.isLt; omega)
    rw [Finset.sum_congr rfl fun d _ => h2 d, Finset.sum_const_zero, zero_add]
    refine Finset.sum_congr rfl fun d _ => ?_
    have hd := d.isLt
    rw [if_pos (by rw [Fin.val_natAdd]; omega), Fin.val_natAdd, show 64 * (2 * p.val + ρ.val / 256) + d.val = 128 * p.val + (64 + d.val) by omega]

theorem stackQ_stage (qi : ℕ) (R : ℕ) (hr) (X : St Ideal) (p : Fin 4) : Stage qi (scores qr kr R) (vals vr) (qi + 1) p (stackQ R hr X) := by
  refine ⟨fun r l => ?_, fun ρ l => ?_⟩
  · rw [Finset.Ico_self, Finset.sum_empty]
    exact (put_in X.acc ![0, 0, 0] _ p r l p r l (by simp) (by simp) (by simp)).trans (pay27_apply _)
  · rw [Finset.Ico_self, Finset.sum_empty]
    exact (put_in X.car ![0, 0, 0] _ p ρ l p ρ l (by simp) (by simp) (by simp)).trans (pay28_apply _)

theorem diagOff_eq (i : grid0.Coords) (b : Fin 2) (p : Fin 4) (a : Fin 3) :
    diagOff i (BitVec.ofNat 32 b.val) p a = (![0, 256 * (2 * (i 1).val + b.val), 128 * p.val] : Fin 3 → ℕ) a := by
  revert i b p a
  decide +kernel

/-! ## The output block -/

theorem writeO_at (R : ℕ) (X : St Ideal) (p : Fin 4) (r : Fin 256) (l : Fin 128) (row col : Fin 512) (h1 : row.val = R + r.val) (h2 : col.val = 128 * p.val + l.val) :
    (writeO R X).o (ix3 0 row col) = X.acc (ix3 p r l) := by
  have hl := l.isLt
  have hin : ∀ (x : S1x512x512.Idx → Elt Ideal .bf16) (ha), put x (rowOff R p) S1x256x128.size (k0_pay281 (window X.acc ![p.val, 0, 0] S1x256x128.size ha)) (ix3 0 row col)
      = X.acc (ix3 p r l) := fun x ha =>
    (put_in x (rowOff R p) _ 0 r l 0 row col (by rw [rowOff_eq]; rfl) (by rw [rowOff_eq]; exact h1) (by rw [rowOff_eq]; exact h2)).trans
      ((pay281_apply _ r l).trans (window_ix3 X.acc ![p.val, 0, 0] ha 0 r l p r l (by simp) (by simp) (by simp)))
  have hout : ∀ (x : S1x512x512.Idx → Elt Ideal .bf16) (p' : Fin 4) (w), p.val < p'.val → put x (rowOff R p') S1x256x128.size w (ix3 0 row col) = x (ix3 0 row col) := fun x p' w hp =>
    put_out x (rowOff R p') _ w _ 2 (Or.inl (by rw [rowOff_eq]; show col.val < 128 * p'.val; omega))
  unfold writeO
  dsimp only
  match p, hin, hout with
  | 0, hin, hout => exact (hout _ 3 _ (by decide)).trans ((hout _ 2 _ (by decide)).trans ((hout _ 1 _ (by decide)).trans (hin _ _)))
  | 1, hin, hout => exact (hout _ 3 _ (by decide)).trans ((hout _ 2 _ (by decide)).trans (hin _ _))
  | 2, hin, hout => exact (hout _ 3 _ (by decide)).trans (hin _ _)
  | 3, hin, hout => exact hin _ _

theorem writeO_other (R : ℕ) (X : St Ideal) (row col : Fin 512) (h : row.val < R ∨ R + 256 ≤ row.val) : (writeO R X).o (ix3 0 row col) = X.o (ix3 0 row col) := by
  have hout : ∀ (x : S1x512x512.Idx → Elt Ideal .bf16) (p' : Fin 4) (w), put x (rowOff R p') S1x256x128.size w (ix3 0 row col) = x (ix3 0 row col) := fun x p' w =>
    put_out x (rowOff R p') _ w _ 1 (by rw [rowOff_eq]; exact h)
  unfold writeO
  exact (hout _ 3 _).trans ((hout _ 2 _).trans ((hout _ 1 _).trans (hout _ 0 _)))

theorem half_inputs (i : grid0.Coords) (b : Fin 2) (X : St Ideal) (hX : Inputs qr kr vr X) : Inputs qr kr vr (half i b X) := by
  have h := loop_blocks (k0_pay8 (F := Ideal)) k0_pay9 (2 * (i 1).val + b.val) (diag i b X) (least (diag i b X))
  exact ⟨fun r c => (congrFun h.1 _).trans (hX.q r c), fun s c => (congrFun h.2.1 _).trans (hX.k s c), fun s c => (congrFun h.2.2.1 _).trans (hX.v s c)⟩

theorem half_other (i : grid0.Coords) (b : Fin 2) (X : St Ideal) (row col : Fin 512) (h : row.val < 256 * b.val ∨ 256 * b.val + 256 ≤ row.val) :
    (half i b X).o (ix3 0 row col) = X.o (ix3 0 row col) :=
  (writeO_other _ _ row col h).trans (congrFun (loop_blocks _ _ _ _ _).2.2.2 _)

/-- A row of the half, written: the weighted sum of the values of all the keys before the query. -/
theorem half_at (i : grid0.Coords) (b : Fin 2) (X : St Ideal) (hX : Inputs qr kr vr X) (row col : Fin 512) (h : row.val / 256 = b.val) :
    (half i b X).o (ix3 0 row col)
      = ∑ s : Fin 4096, (weightAt (dot qr kr (col.val / 64) row.val) (512 * (i 1).val + row.val) s.val : EReal) * vr s.val col.val := by
  have hi : (i 1).val < 8 := (i 1).isLt
  have hb := b.isLt
  have hrow := row.isLt
  have hcol := col.isLt
  have hst := loop_acc (qi := 2 * (i 1).val + b.val) (by omega) (2 * (i 1).val + b.val) (diag i b X) (least (diag i b X)) le_rfl
    (pairs_reads _ _ (stackQ_reads (256 * b.val) (by omega) (rowOff_inb b) X hX))
    (pairs_stage (moves_diag _ _ _) (by omega) (diagOff i (BitVec.ofNat 32 b.val)) (diagOff_inb i b) (diagOff_eq i b)
      (stackQ_reads (256 * b.val) (by omega) (rowOff_inb b) X hX) fun p => stackQ_stage _ _ _ _ p)
    (least_or _)
    ⟨col.val / 128, by omega⟩
  refine (writeO_at (256 * b.val) _ ⟨col.val / 128, by omega⟩ ⟨row.val % 256, by omega⟩ ⟨col.val % 128, by omega⟩ row col
    (show row.val = 256 * b.val + row.val % 256 by omega) (show col.val = 128 * (col.val / 128) + col.val % 128 by omega)).trans ?_
  rw [hst]
  refine Eq.trans ?_ (sum_all (dot qr kr (col.val / 64) row.val) (512 * (i 1).val + row.val) (256 * (2 * (i 1).val + b.val + 1)) (by omega) (by omega)
    fun s => vr s col.val)
  refine Finset.sum_congr rfl fun s _ => ?_
  rw [wt_eq]
  have hmod : (rowOf (⟨col.val % 128, by omega⟩ : Fin 128) (⟨row.val % 256, by omega⟩ : Fin 256)).val % 256 = row.val % 256 := by
    unfold rowOf
    split
    · show row.val % 256 % 256 = _; omega
    · show (256 + row.val % 256) % 256 = _; omega
  have hdiv : (rowOf (⟨col.val % 128, by omega⟩ : Fin 128) (⟨row.val % 256, by omega⟩ : Fin 256)).val / 256 = col.val % 128 / 64 := by
    unfold rowOf
    split
    · rename_i hlt
      have hlt' : col.val % 128 < 64 := hlt
      show row.val % 256 / 256 = _; omega
    · rename_i hlt
      have hlt' : ¬col.val % 128 < 64 := hlt
      show (256 + row.val % 256) / 256 = _; omega
  unfold scores vals headOf
  rw [hmod, hdiv]
  rw [show 2 * (col.val / 128) + col.val % 128 / 64 = col.val / 64 by omega, show 256 * b.val + row.val % 256 = row.val by omega,
    show 256 * (2 * (i 1).val + b.val) + row.val % 256 = 512 * (i 1).val + row.val by omega,
    show 128 * (col.val / 128) + col.val % 128 = col.val by omega]

/-- The output block of a grid point. -/
theorem halves_at (i : grid0.Coords) (X : St Ideal) (hX : Inputs qr kr vr X) (row col : Fin 512) :
    (half i 1 (half i 0 X)).o (ix3 0 row col)
      = ∑ s : Fin 4096, (weightAt (dot qr kr (col.val / 64) row.val) (512 * (i 1).val + row.val) s.val : EReal) * vr s.val col.val := by
  have hrow := row.isLt
  by_cases h : row.val < 256
  · rw [half_other i 1 _ row col (Or.inl h)]
    exact half_at i 0 X hX row col (by show row.val / 256 = 0; omega)
  · exact half_at i 1 _ (half_inputs i 0 X hX) row col (by show row.val / 256 = 1; omega)

end Half

end Cert.MixersIdeal.Attn

end
-- ==== Proof.AttnArray.lean ====
/- What the mixers' call leaves in the attention's result: at every position and column the weighted sum of the values. -/
module

public import proofs.«01_k».proof.Proof.IdealRun
public import proofs.«01_k».proof.Proof.AttnHalf

@[expose] public section

set_option maxRecDepth 16384

noncomputable section

namespace Cert.StickBreaking

open Idealize.ShloMosaic

/-- An entry of sequence `b` of an array of the four sequences' rows, zero past the array. -/
def entry (a : (⟨2, ![16384, 512]⟩ : Shape).Idx → EReal) (b : Fin 4) (t c : ℕ) : EReal :=
  if h : t < 4096 ∧ c < 512 then a (ix2 ⟨4096 * b.val + t, by omega⟩ ⟨c, h.2⟩) else 0

/-- The score of query `t` and key `s` of head `h` in sequence `b`, base 2. -/
def scoreOf (q k : (⟨2, ![16384, 512]⟩ : Shape).Idx → EReal) (b : Fin 4) (h t s : ℕ) : EReal := dot (entry q b) (entry k b) h t s

/-- The attention. -/
def attention (q k v : (⟨2, ![16384, 512]⟩ : Shape).Idx → EReal) : (⟨3, ![4, 4096, 512]⟩ : Shape).Idx → EReal := fun y =>
  ∑ s : Fin 4096, (weightAt (scoreOf q k (y 0) ((y 2).val / 64) (y 1).val) (y 1).val s.val : EReal) * entry v (y 0) s.val (y 2).val

end Cert.StickBreaking

namespace Cert.MixersIdeal.Attn

open Cert.MixersIdeal Cert.MixersIdeal.Gen Cert.StickBreaking Idealize.ShloMosaic Idealize.ShloMosaic.TcCoe
open Idealize.ShloMosaic.VecWindow
open Idealize.ShloMosaic.Pipeline (RDat Cfg Window)

variable (m : (ℓ : Loc nD τ sig) → Buf (Elt Ideal) ℓ)

/-- The block each of the attention's windows has at a grid point, and the point's own coordinates. -/
theorem idx : ∀ t : Fin (cfg0 (F := Ideal)).N, win0_0.index t = ![t.val / 8, t.val % 8, 0] ∧ win0_1.index t = ![t.val / 8, 0, 0] ∧ win0_2.index t = ![t.val / 8, 0, 0]
    ∧ win0_13.index t = ![t.val / 8, t.val % 8, 0] :=
  (by decide +kernel : ∀ t : Fin grid0.N, _)

theorem coord1 : ∀ t : Fin (cfg0 (F := Ideal)).N, (grid0.coords t 1).val = t.val % 8 :=
  (by decide +kernel : ∀ t : Fin grid0.N, _)

theorem V_q (c : Dev nD) : V m c main_v0 = shapeCast S4x4096x512 (m ((c : Thread nD τ).loc main_arg0)) shapeCasts_S16384x512_S4x4096x512 := rfl
theorem V_k (c : Dev nD) : V m c main_v1 = shapeCast S4x4096x512 (m ((c : Thread nD τ).loc main_arg1)) shapeCasts_S16384x512_S4x4096x512 := rfl
theorem V_v (c : Dev nD) : V m c main_v2 = shapeCast S4x4096x512 (m ((c : Thread nD τ).loc main_arg2)) shapeCasts_S16384x512_S4x4096x512 := rfl

theorem cast_entry (a : Vec Ideal S16384x512 .bf16) (b : Fin 4) (s : Fin 4096) (l : Fin 512) :
    shapeCast S4x4096x512 a shapeCasts_S16384x512_S4x4096x512 (ix3 b s l) = entry a b s.val l.val := by
  have hs := s.isLt
  unfold entry
  rw [dif_pos ⟨s.isLt, l.isLt⟩]
  pointwise
  first | done | (congr 1; blk_ext)

theorem place_q (t : Fin (cfg0 (F := Ideal)).N) (r l : Fin 512) (b : Fin 4) (s : Fin 4096) (hb : b.val = t.val / 8) (hs : s.val = 512 * (t.val % 8) + r.val) :
    (((cfg0 (F := Ideal)).win 0).blk t).view.emb (ix3 0 r l) = (ix3 b s l : S4x4096x512.Idx) := by
  blk_ext [idx t]

theorem place_k (t : Fin (cfg0 (F := Ideal)).N) (s : Fin 4096) (l : Fin 512) (b : Fin 4) (hb : b.val = t.val / 8) :
    (((cfg0 (F := Ideal)).win 1).blk t).view.emb (ix3 0 s l) = (ix3 b s l : S4x4096x512.Idx) := by
  blk_ext [idx t]

theorem place_v (t : Fin (cfg0 (F := Ideal)).N) (s : Fin 4096) (l : Fin 512) (b : Fin 4) (hb : b.val = t.val / 8) :
    (((cfg0 (F := Ideal)).win 2).blk t).view.emb (ix3 0 s l) = (ix3 b s l : S4x4096x512.Idx) := by
  blk_ext [idx t]

theorem read_q (c : Dev nD) (t : Fin (cfg0 (F := Ideal)).N) (r l : Fin 512) (b : Fin 4) (s : Fin 4096) (hb : b.val = t.val / 8) (hs : s.val = 512 * (t.val % 8) + r.val) :
    (blockAt m c 0 t : Vec Ideal S1x512x512 .bf16) (ix3 0 r l) = V m c main_v0 (ix3 b s l) :=
  congrArg (V m c main_v0) (place_q t r l b s hb hs)

theorem read_k (c : Dev nD) (t : Fin (cfg0 (F := Ideal)).N) (s : Fin 4096) (l : Fin 512) (b : Fin 4) (hb : b.val = t.val / 8) :
    (blockAt m c 1 t : Vec Ideal S1x4096x512 .bf16) (ix3 0 s l) = V m c main_v1 (ix3 b s l) :=
  congrArg (V m c main_v1) (place_k t s l b hb)

theorem read_v (c : Dev nD) (t : Fin (cfg0 (F := Ideal)).N) (s : Fin 4096) (l : Fin 512) (b : Fin 4) (hb : b.val = t.val / 8) :
    (blockAt m c 2 t : Vec Ideal S1x4096x512 .bf16) (ix3 0 s l) = V m c main_v2 (ix3 b s l) :=
  congrArg (V m c main_v2) (place_v t s l b hb)

/-- The output block a grid point leaves is its part of the attention. -/
theorem left_at (c : Dev nD)
    (t : Fin (cfg0 (F := Ideal)).N) (x) (hx : Left m c t x) (row col : Fin 512) (b : Fin 4) (s : Fin 4096) (hb : b.val = t.val / 8)
    (hs : s.val = 512 * (t.val % 8) + row.val) :
    x (ix3 0 row col) = attention (m ((c : Thread nD τ).loc main_arg0)) (m ((c : Thread nD τ).loc main_arg1)) (m ((c : Thread nD τ).loc main_arg2)) (ix3 b s col) := by
  obtain ⟨Z, hZq, hZk, hZv, rfl⟩ := hx
  have hin : Inputs (fun r l => entry (m ((c : Thread nD τ).loc main_arg0)) b (512 * (t.val % 8) + r) l)
      (entry (m ((c : Thread nD τ).loc main_arg1)) b) (entry (m ((c : Thread nD τ).loc main_arg2)) b) Z := by
    refine ⟨fun r l => ?_, fun s l => ?_, fun s l => ?_⟩
    · have hr := r.isLt
      rw [hZq]
      refine (read_q m c t r l b ⟨512 * (t.val % 8) + r.val, by omega⟩ hb rfl).trans ?_
      rw [V_q]
      exact cast_entry _ _ _ _
    · rw [hZk]
      refine (read_k m c t s l b hb).trans ?_
      rw [V_k]
      exact cast_entry _ _ _ _
    · rw [hZv]
      refine (read_v m c t s l b hb).trans ?_
      rw [V_v]
      exact cast_entry _ _ _ _
  refine (halves_at (grid0.coords t) Z hin row col).trans ?_
  rw [coord1 t, ← hs]
  unfold attention scoreOf
  refine Finset.sum_congr rfl fun s' _ => ?_
  have e : ∀ s', dot (fun r l => entry (m ((c : Thread nD τ).loc main_arg0)) b (512 * (t.val % 8) + r) l)
      (entry (m ((c : Thread nD τ).loc main_arg1)) b) (col.val / 64) row.val s'
      = dot (entry (m ((c : Thread nD τ).loc main_arg0)) b) (entry (m ((c : Thread nD τ).loc main_arg1)) b) (col.val / 64) s.val s' := fun s' => by
    unfold dot
    rw [hs]
  rw [show dot (fun r l => entry (m ((c : Thread nD τ).loc main_arg0)) b (512 * (t.val % 8) + r) l)
      (entry (m ((c : Thread nD τ).loc main_arg1)) b) (col.val / 64) row.val = _ from funext e]
  rfl

/-- The attention's array at the end of a run. -/
theorem final (c : Dev nD)
    (r : PUnit × MemSt nD τ sig (Elt Ideal)) (h : RDat.FramePost (cfg0 (F := Ideal)) (data m) (V m) r) :
    r.2.mem ((c.tc : Thread nD τ).loc main_v5_0)
      = attention (m ((c : Thread nD τ).loc main_arg0)) (m ((c : Thread nD τ).loc main_arg1)) (m ((c : Thread nD τ).loc main_arg2)) := by
  obtain ⟨after, hl, ha⟩ := RDat.FramePost.exists_exact h c
  refine (ha 13).trans ?_
  refine Pipeline.Dat.arrAt_eq_of_covers _ 13 _ (by decide +kernel) fun t hf y => ?_
  have hL : Left m c t (after 13 t) := by
    obtain ⟨Y, _, hY⟩ := hl 13 t hf
    exact hY
  have ht : t.val < 32 := t.isLt
  obtain ⟨row, col, rfl⟩ : ∃ (row col : Fin 512), y = ix3 0 row col := ⟨y 1, y 2, by
    refine (eq_ix3 y).trans ?_
    congr 1
    exact Subsingleton.elim (α := Fin 1) _ _⟩
  have e : (((cfg0 (F := Ideal)).win 13).blk t).view.emb (ix3 0 row col) = (ix3 ⟨t.val / 8, by omega⟩ ⟨512 * (t.val % 8) + row.val, by omega⟩ col : S4x4096x512.Idx) := by
    blk_ext [idx t]
  blk_simp
  rw [e]
  exact left_at m c t _ hL row col _ _ rfl rfl

end Cert.MixersIdeal.Attn

end
-- ==== Proof.AttnSum.lean ====
/- A sum over a window running to the end of the last axis of a rank 4 array. -/
module

public import Idealize.ShloMosaic.Lib.StableHlo
public import Idealize.ShloMosaic.PureOps
public import Idealize.ShloMosaic.Lib.Pointwise
public import proofs.«01_k».proof.Proof.AttnMath

@[expose] public section

set_option maxRecDepth 16384

noncomputable section

namespace Cert.StickBreaking

open Idealize.ShloMosaic

theorem foldl_add_list {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- The terms from place `s` on, counted from `s`. -/
theorem sum_shift (N s : ℕ) (hs : s ≤ N) (X : ℕ → EReal) :
    (∑ k : Fin N, if s + k.val < N then X (s + k.val) else 0) = ∑ j ∈ Finset.Ico s N, X j := by
  rw [Fin.sum_univ_eq_sum_range (fun k => if s + k < N then X (s + k) else 0) N, Finset.sum_Ico_eq_sum_range,
    ← Finset.sum_range_add_sum_Ico _ (Nat.sub_le N s), Finset.sum_eq_zero (s := Finset.Ico (N - s) N), add_zero]
  · exact Finset.sum_congr rfl fun k hk => if_pos (by have := Finset.mem_range.mp hk; omega)
  · exact fun k hk => if_neg (by have := (Finset.mem_Ico.mp hk).1; omega)

/-- The indices of a window of one row. -/
theorem sum_row (f : (⟨4, ![1, 1, 1, 4096]⟩ : Shape).Idx → EReal) : (∑ i, f i) = ∑ k : Fin 4096, f (ix4 (n0 := 1) (n1 := 1) (n2 := 1) (n3 := 4096) 0 0 0 k) := by
  symm
  refine Fintype.sum_bijective (fun k : Fin 4096 => ix4 (n0 := 1) (n1 := 1) (n2 := 1) (n3 := 4096) 0 0 0 k) ⟨fun a b h => ?_, fun i => ⟨i 3, ?_⟩⟩ _ _ fun k => rfl
  · exact congrFun h 3
  · funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

/-- The sum over the places from `s` on. -/
theorem tail_sum (x : (⟨4, ![4, 8, 4096, 4096]⟩ : Shape).Idx → EReal) (init : (⟨0, ![]⟩ : Shape).Idx → EReal)
    (hi : ∀ y, init y = 0) (hw : (⟨4, ![4, 8, 4096, 4096]⟩ : Shape).ReduceWindows (![1, 1, 1, 4096] : Fin 4 → Nat) ![1, 1, 1, 1] ![0, 0, 0, 0] ![0, 0, 0, 4095] ⟨4, ![4, 8, 4096, 4096]⟩)
    (hu : 0 < (⟨0, ![]⟩ : Shape).numel) (b : Fin 4) (h : Fin 8) (t s : Fin 4096) (X : ℕ → EReal) (hX : ∀ j : Fin 4096, x (ix4 b h t j) = X j.val) :
    Host.reduceWindowAdd (F := Ideal) (φ := .f32) ![1, 1, 1, 4096] ![1, 1, 1, 1] ![0, 0, 0, 0] ![0, 0, 0, 4095] x init hw hu (ix4 b h t s)
      = ∑ j ∈ Finset.Ico s.val 4096, X j := by
  rw [← sum_shift 4096 s.val s.isLt.le X]
  unfold Host.reduceWindowAdd
  rw [Ideal.hostReduceWindowAdd_def]
  unfold Ideal.hostReduceWindowAdd Host.reduceWindow
  simp only [hi]
  refine (foldl_add_list _ _ _).trans ?_
  rw [zero_add, ← Fin.sum_univ_def]
  refine (Equiv.sum_comp (⟨4, ![1, 1, 1, 4096]⟩ : Shape).rowMajor.symm (fun i : (⟨4, ![1, 1, 1, 4096]⟩ : Shape).Idx =>
    if hin : ∀ a : Fin 4, (![0, 0, 0, 0] : Fin 4 → ℕ) a ≤ ((ix4 b h t s : (⟨4, ![4, 8, 4096, 4096]⟩ : Shape).Idx) a).val * (![1, 1, 1, 1] : Fin 4 → ℕ) a + (i a).val
        ∧ ((ix4 b h t s : (⟨4, ![4, 8, 4096, 4096]⟩ : Shape).Idx) a).val * (![1, 1, 1, 1] : Fin 4 → ℕ) a + (i a).val - (![0, 0, 0, 0] : Fin 4 → ℕ) a < (⟨4, ![4, 8, 4096, 4096]⟩ : Shape).size a
      then x (fun a => ⟨_, (hin a).2⟩) else 0)).trans ?_
  rw [sum_row]
  refine Finset.sum_congr rfl fun k _ => ?_
  split
  · next hin =>
    have h3 : s.val * 1 + k.val - 0 < 4096 := (hin 3).2
    rw [if_pos (by omega)]
    refine Eq.trans (congrArg x ?_) (hX ⟨s.val + k.val, by omega⟩)
    funext a
    match a with
    | ⟨0, _⟩ => exact Fin.ext (show b.val * 1 + 0 - 0 = b.val by omega)
    | ⟨1, _⟩ => exact Fin.ext (show h.val * 1 + 0 - 0 = h.val by omega)
    | ⟨2, _⟩ => exact Fin.ext (show t.val * 1 + 0 - 0 = t.val by omega)
    | ⟨3, _⟩ => exact Fin.ext (show s.val * 1 + k.val - 0 = s.val + k.val by omega)
  · next hin =>
    rw [if_neg fun hlt => hin fun a => ?_]
    match a with
    | ⟨0, _⟩ => exact ⟨Nat.zero_le _, show b.val * 1 + 0 - 0 < 4 by omega⟩
    | ⟨1, _⟩ => exact ⟨Nat.zero_le _, show h.val * 1 + 0 - 0 < 8 by omega⟩
    | ⟨2, _⟩ => exact ⟨Nat.zero_le _, show t.val * 1 + 0 - 0 < 4096 by omega⟩
    | ⟨3, _⟩ => exact ⟨Nat.zero_le _, show s.val * 1 + k.val - 0 < 4096 by omega⟩

end Cert.StickBreaking

end
-- ==== Proof.AttnRef.lean ====
/- The reference's attention: its result read at an index is the weighted sum of the values. -/
module

public import proofs.«01_k».proof.Proof.Gen.AttentionIdeal.Run
public import proofs.«01_k».proof.Proof.AttnArray
public import proofs.«01_k».proof.Proof.AttnSum

@[expose] public section

set_option maxRecDepth 16384

noncomputable section

namespace Cert.AttentionIdeal.Attn

open Cert.AttentionIdeal Cert.AttentionIdeal.Gen Cert.StickBreaking Idealize.ShloMosaic Idealize.ShloMosaic.TcCoe

/-- One array of rows as heads. -/
def heads (a : FVec Ideal S16384x512 .bf16) : FVec Ideal S4x8x4096x64 .bf16 :=
  transpose S4x8x4096x64 [0, 2, 1, 3] (shapeCast S4x4096x8x64 a shapeCasts_S16384x512_S4x4096x8x64) transposes_S4x4096x8x64_S4x8x4096x64_0_2_1_3

/-- The scores, times log 2. -/
def scores (q k : FVec Ideal S4x8x4096x64 .bf16) : FVec Ideal S4x8x4096x4096 .f32 :=
  mulf (Host.dotGeneral dot_S4x8x4096x64_S4x8x4096x64_S4x8x4096x4096_3_3_2_2_01_01 none q k)
    (broadcastInDim S4x8x4096x4096 ![] bcast_S_S4x8x4096x4096 (id (Host.log (constant S_ .f32 0x40000000#32))))

/-- An array of zeros. -/
def zeros : FVec Ideal S4x8x4096x4096 .f32 := broadcastInDim S4x8x4096x4096 ![] bcast_S_S4x8x4096x4096 (constant S_ .f32 0x00000000#32)

/-- The softplus of an array. -/
def softplus (x : FVec Ideal S4x8x4096x4096 .f32) : FVec Ideal S4x8x4096x4096 .f32 :=
  select (cmpf .une (subf x zeros) (subf x zeros)) (addf x zeros) (addf (maximumf x zeros) (Host.log1p (Host.exp (Host.negf (Host.absf (subf x zeros))))))

/-- Which keys come before a query. -/
def earlier : IVec S4x8x4096x4096 1 :=
  broadcastInDim S4x8x4096x4096 ![2, 3] bcast_S4096x4096_S4x8x4096x4096_2_3 (cmpi .slt
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The logarithms of the sticks' remainders. -/
def remainders (z : FVec Ideal S4x8x4096x4096 .f32) : FVec Ideal S4x8x4096x4096 .f32 :=
  select earlier (Host.negf (softplus (Host.negf (Host.negf z)))) zeros

/-- Their sums from each place on. -/
def tails (x : FVec Ideal S4x8x4096x4096 .f32) : FVec Ideal S4x8x4096x4096 .f32 :=
  Host.reduceWindowAdd ![1, 1, 1, 4096] ![1, 1, 1, 1] ![0, 0, 0, 0] ![0, 0, 0, 4095] x (broadcastInDim S_ ![] bcast_S_S_ (constant S_ .f32 0x00000000#32))
    reduceWindows_S4x8x4096x4096_S4x8x4096x4096_w1s1p0_0_w1s1p0_0_w1s1p0_0_w4096s1p0_4095 h_S_

/-- The weights of the values. -/
def weights (z : FVec Ideal S4x8x4096x4096 .f32) : FVec Ideal S4x8x4096x4096 .f32 :=
  select earlier (Host.exp (addf (Host.negf (softplus (Host.negf z))) (subf (tails (remainders z)) (remainders z)))) zeros

/-- The weighted values, the heads side by side. -/
def joined (w : FVec Ideal S4x8x4096x4096 .f32) (v : FVec Ideal S4x8x4096x64 .bf16) : FVec Ideal S4x4096x512 .bf16 :=
  truncf .bf16 (shapeCast S4x4096x512 (transpose S4x4096x8x64 [0, 2, 1, 3] (Host.dotGeneral dot_S4x8x4096x4096_S4x8x4096x64_S4x8x4096x64_3_2_2_3_01_01 none
    (truncf .bf16 w bitsLt_bf16_f32) v) transposes_S4x8x4096x64_S4x4096x8x64_0_2_1_3) shapeCasts_S4x4096x8x64_S4x4096x512) bitsLt_bf16_f32

theorem result_eq (m : (ℓ : Loc nD τ sig) → Buf (Elt Ideal) ℓ) (c : Dev nD) :
    Value.res_main_v30 m c = joined (weights (scores (heads (m ((c.tc : Thread nD τ).loc main_arg0))) (heads (m ((c.tc : Thread nD τ).loc main_arg1)))))
      (heads (m ((c.tc : Thread nD τ).loc main_arg2))) := rfl

theorem heads_at (a : FVec Ideal S16384x512 .bf16) (b : Fin 4) (h : Fin 8) (t : Fin 4096) (d : Fin 64) :
    heads a (ix4 b h t d) = entry a b t.val (64 * h.val + d.val) := by
  unfold entry
  rw [dif_pos ⟨t.isLt, by omega⟩]
  pointwise [heads]
  exact congrArg a (congrArg₂ ix2 (Fin.ext (show b.val * 4096 + t.val = 4096 * b.val + t.val by omega)) (Fin.ext (show h.val * 64 + d.val = 64 * h.val + d.val by omega)))

theorem joined_at (w : FVec Ideal S4x8x4096x4096 .f32) (v : FVec Ideal S4x8x4096x64 .bf16) (b : Fin 4) (t : Fin 4096) (y : Fin 512) :
    joined w v (ix3 b t y) = ∑ s : Fin 4096, w (ix4 b ⟨y.val / 64, by omega⟩ t s) * v (ix4 b ⟨y.val / 64, by omega⟩ s ⟨y.val % 64, by omega⟩) := by
  pointwise [joined]

theorem zeros_at (i) : zeros i = (0 : EReal) := by
  pointwise [zeros]

theorem softplus_at (x : FVec Ideal S4x8x4096x4096 .f32) (i) : softplus x i = refSP (x i) := by
  have hz := zeros_at i
  show Scalar.select (Ideal.cmp .une (x i - zeros i) (x i - zeros i)) (x i + zeros i) (max (x i) (zeros i) + Ideal.log1p (Ideal.exp (-max (x i - zeros i) (-(x i - zeros i))))) = _
  rw [hz]
  rfl

theorem scores_at (q k : FVec Ideal S4x8x4096x64 .bf16) (b : Fin 4) (h : Fin 8) (t s : Fin 4096) :
    scores q k (ix4 b h t s) = (∑ d : Fin 64, q (ix4 b h t d) * k (ix4 b h s d)) * Ideal.log (Ideal.ofBits .f32 0x40000000#32) := by
  pointwise [scores]
  rfl

theorem lt_place (a b : Fin 4096) : IntOp.cmpi .slt (BitVec.ofNat 32 a.val) (BitVec.ofNat 32 b.val) = if a.val < b.val then 1#1 else 0#1 := by
  have ha := a.isLt
  have hb := b.isLt
  show BitVec.ofBool ((BitVec.ofNat 32 a.val).slt (BitVec.ofNat 32 b.val)) = _
  have e : (BitVec.ofNat 32 a.val).slt (BitVec.ofNat 32 b.val) = decide (a.val < b.val) := by
    rw [BitVec.slt_eq_decide]
    have h1 : ∀ n, n < 4096 → (BitVec.ofNat 32 n).toInt = n := fun n hn => by
      rw [BitVec.toInt_eq_toNat_of_lt (by rw [BitVec.toNat_ofNat]; omega), BitVec.toNat_ofNat, Nat.mod_eq_of_lt (by omega)]
    rw [h1 _ ha, h1 _ hb]
    simp
  rw [e]
  by_cases hlt : a.val < b.val <;> simp [hlt]

theorem earlier_at (b : Fin 4) (h : Fin 8) (t s : Fin 4096) : earlier (ix4 b h t s) = if s.val < t.val then 1#1 else 0#1 := by
  rw [← lt_place]
  pointwise [earlier]

theorem log_two : Ideal.log (Ideal.ofBits .f32 0x40000000#32) = ((Real.log 2 : ℝ) : EReal) := by
  have e : Ideal.ofBits .f32 0x40000000#32 = ((2 : ℝ) : EReal) := by
    simp [Ideal.ofBits, Ideal.ieee, -EReal.coe_mul]
    norm_num
  rw [e, Ideal.log_coe, if_neg (by norm_num)]

/-- The logarithm of what query `t` leaves at key `j`. -/
def leave (z : ℕ → EReal) (t j : ℕ) : EReal := if j < t then -(SP (z j) * ((Real.log 2 : ℝ) : EReal)) else 0

theorem remainders_at (x : FVec Ideal S4x8x4096x4096 .f32) (b : Fin 4) (h : Fin 8) (t j : Fin 4096) (z : ℕ → EReal)
    (hz : x (ix4 b h t j) = z j.val * ((Real.log 2 : ℝ) : EReal)) : remainders x (ix4 b h t j) = leave z t.val j.val := by
  show Scalar.select (earlier (ix4 b h t j)) (-(softplus (Host.negf (Host.negf x)) (ix4 b h t j))) (zeros (ix4 b h t j)) = _
  rw [earlier_at, zeros_at, softplus_at]
  have e : (Host.negf (Host.negf x) : FVec Ideal S4x8x4096x4096 .f32) (ix4 b h t j) = z j.val * ((Real.log 2 : ℝ) : EReal) := by
    show -(-(x (ix4 b h t j))) = _
    rw [neg_neg, hz]
  rw [e, refSP_mul]
  unfold leave
  split
  · rfl
  · rfl

/-- What the keys from `s` on leave, together. -/
theorem leave_sum (z : ℕ → EReal) (s t : ℕ) (hst : s ≤ t) (ht : t ≤ 4096) :
    ∑ j ∈ Finset.Ico s 4096, leave z t j = -((∑ j ∈ Finset.Ico s t, SP (z j)) * ((Real.log 2 : ℝ) : EReal)) := by
  have h0 : ∑ j ∈ Finset.Ico t 4096, leave z t j = 0 := Finset.sum_eq_zero fun j hj => if_neg (not_lt.mpr (Finset.mem_Ico.mp hj).1)
  rw [← Finset.sum_Ico_consecutive _ hst ht, h0, add_zero, ← sum_nonneg_mul _ _ (fun j => SP_nonneg (z j)) _ (Real.log_pos one_lt_two)]
  exact Finset.sum_congr rfl fun j hj => if_pos (Finset.mem_Ico.mp hj).2

/-- One weight. -/
theorem weights_at (x : FVec Ideal S4x8x4096x4096 .f32) (b : Fin 4) (h : Fin 8) (t s : Fin 4096) (z : ℕ → EReal)
    (hz : ∀ j : Fin 4096, x (ix4 b h t j) = z j.val * ((Real.log 2 : ℝ) : EReal)) : weights x (ix4 b h t s) = weightAt z t.val s.val := by
  have hr : tails (remainders x) (ix4 b h t s) = ∑ j ∈ Finset.Ico s.val 4096, leave z t.val j :=
    tail_sum (remainders x) _ (fun _ => zeros_at (ix4 b h t s)) _ _ b h t s (leave z t.val) fun j => remainders_at x b h t j z (hz j)
  have hn : (Host.negf x : FVec Ideal S4x8x4096x4096 .f32) (ix4 b h t s) = -(z s.val * ((Real.log 2 : ℝ) : EReal)) := congrArg Neg.neg (hz s)
  show Scalar.select (earlier (ix4 b h t s)) (Ideal.exp (-(softplus (Host.negf x) (ix4 b h t s)) + (tails (remainders x) (ix4 b h t s) - remainders x (ix4 b h t s))))
    (zeros (ix4 b h t s)) = _
  rw [earlier_at, zeros_at, softplus_at, hn, hr, remainders_at x b h t s z (hz s)]
  unfold weightAt
  by_cases hlt : s.val < t.val
  · rw [if_pos hlt, if_pos hlt]
    have hsel : ∀ a e : EReal, Scalar.select 1#1 a e = a := fun _ _ => rfl
    have h2 : leave z t.val s.val = -(SP (z s.val) * ((Real.log 2 : ℝ) : EReal)) := if_pos hlt
    refine (hsel _ _).trans ?_
    rw [leave_sum z s.val t.val hlt.le t.isLt.le, h2, Finset.sum_eq_sum_Ico_succ_bot hlt]
    exact ref_exponent _ _ (Finset.sum_nonneg fun j _ => SP_nonneg (z j))
  · rw [if_neg hlt, if_neg hlt]
    rfl

/-- The reference's attention at an index. -/
theorem joined_attention (q k v : FVec Ideal S16384x512 .bf16) (b : Fin 4) (t : Fin 4096) (y : Fin 512) :
    joined (weights (scores (heads q) (heads k))) (heads v) (ix3 b t y) = attention q k v (ix3 b t y) := by
  refine (joined_at _ _ b t y).trans ?_
  refine Finset.sum_congr rfl fun s _ => congrArg₂ (· * ·) ?_ ?_
  · refine weights_at _ b _ t s (scoreOf q k b (y.val / 64) t.val) fun j => ?_
    rw [scores_at, log_two]
    unfold scoreOf dot
    refine congrArg (· * _) (Finset.sum_congr rfl fun d _ => ?_)
    rw [heads_at, heads_at]
  · rw [heads_at]
    exact congrArg (entry v b s.val) (Nat.div_add_mod y.val 64)

/-- The reference's result. -/
theorem result (m : (ℓ : Loc nD τ sig) → Buf (Elt Ideal) ℓ) (c : Dev nD) :
    Value.res_main_v30 m c = attention (m ((c.tc : Thread nD τ).loc main_arg0)) (m ((c.tc : Thread nD τ).loc main_arg1)) (m ((c.tc : Thread nD τ).loc main_arg2)) := by
  refine (result_eq m c).trans (funext fun y => ?_)
  have e := joined_attention (m ((c.tc : Thread nD τ).loc main_arg0)) (m ((c.tc : Thread nD τ).loc main_arg1)) (m ((c.tc : Thread nD τ).loc main_arg2)) (y 0) (y 1) (y 2)
  rw [← eq_ix3 y] at e
  exact e

end Cert.AttentionIdeal.Attn

end
-- ==== Proof.AttnValue.lean ====
/- The attention's value claim: the kernel's idealization and the reference leave the same array. -/
module

public import proofs.«01_k».proof.Proof.AttnClaims
public import proofs.«01_k».proof.Proof.AttnRef

@[expose] public section

set_option maxRecDepth 16384

noncomputable section

open Idealize.ShloMosaic Idealize.ShloMosaic.TcCoe Idealize.SL.Sem Cert.StickBreaking

namespace Cert.Proof.AttnClaims

/-- The kernel's idealization and the reference leave the same attention. -/
theorem algebraic : Cert.algebraic_MixersIdeal_AttentionIdeal := fun m ρ m' ρ' _ hag =>
  ⟨fun c => attention (m ((c.tc : Thread Cert.MixersIdeal.nD Cert.MixersIdeal.τ).loc Cert.MixersIdeal.main_arg0))
      (m ((c.tc : Thread Cert.MixersIdeal.nD Cert.MixersIdeal.τ).loc Cert.MixersIdeal.main_arg1))
      (m ((c.tc : Thread Cert.MixersIdeal.nD Cert.MixersIdeal.τ).loc Cert.MixersIdeal.main_arg2)),
    (θ_run _ _ _).mono (fun r h c => ⟨Cert.MixersIdeal.Attn.final m c r h.1, Cert.MixersIdeal.Attn.unchanged m r h.1 c⟩)
      (Cert.MixersIdeal.Attn.run_quiescent m ρ),
    (θ_run _ _ _).mono (fun r h c => by
      obtain ⟨e0, e1, e2, -⟩ := hag c
      refine ⟨(h c).1.trans ((Cert.AttentionIdeal.Attn.result m' c).trans ?_), (h c).2⟩
      rw [e0, e1, e2]) (Cert.AttentionIdeal.Value.run (F := Ideal) m' ρ')⟩

end Cert.Proof.AttnClaims

end
-- ==== Proof.OutProjIdealLogic.lean ====
/-
  What a stretch of the output projection's body does to the buffers the projection uses. `St` is the contents of those buffers (the
  block of the layer's input, the two mixers' blocks, the two halves of the weight, and the block of the result); the other buffers,
  which the normalisation and the routing use, are held at any contents. `Does X p Φ` says that `p`, started at the contents `X`, ends
  in contents and a value that `Φ` relates.
-/
module

public import proofs.«01_k».proof.Proof.Gen.OutProjIdeal.Launch
public import proofs.«01_k».proof.Proof.Gen.OutProjIdeal.Skeleton
public import proofs.«01_k».proof.Proof.Gen.OutProjIdeal.Points
public import Idealize.ShloMosaic.Lib.Pipeline.FrameBody
public import Idealize.ShloMosaic.Lib.VecWindow
public import Idealize.ShloMosaic.Lib.Claim
public import Idealize.ShloMosaic.Lib.Tactic

@[expose] public section

set_option maxRecDepth 16384

noncomputable section

namespace Cert.OutProjIdeal.Residual

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ (UR sig nD τ) ℕ

/-- The body makes no call: its variants are the natural numbers, unused. -/
abbrev 𝒱₀ : Variants := Variants.nat

/-- The buffers the body is called with. -/
structure Bufs where
  a1 : Memref sig .tc .vmem S1024x1024 .f32
  h1 : a1.IsWhole
  a2 : Memref sig .tc .vmem S1024x512 .bf16
  h2 : a2.IsWhole
  a3 : Memref sig .tc .vmem S1024x512 .bf16
  h3 : a3.IsWhole
  a4 : Memref sig .tc .vmem S512x1024 .bf16
  h4 : a4.IsWhole
  a5 : Memref sig .tc .vmem S512x1024 .bf16
  h5 : a5.IsWhole
  a6 : Memref sig .tc .vmem S1x1024 .f32
  h6 : a6.IsWhole
  a7 : Memref sig .tc .vmem S1024x128 .f32
  h7 : a7.IsWhole
  a8 : Memref sig .tc .vmem S1x128 .f32
  h8 : a8.IsWhole
  a9 : Memref sig .tc .vmem S512x512 .bf16
  h9 : a9.IsWhole
  a10 : Memref sig .tc .vmem S1024x1024 .f32
  h10 : a10.IsWhole
  a11 : Memref sig .tc .vmem S8192x128 .f32
  h11 : a11.IsWhole
  a12 : Memref sig .tc .vmem S4x8x128 .i32
  h12 : a12.IsWhole
  a13 : Memref sig .tc .vmem S1024x128 .f32
  h13 : a13.IsWhole
  a14 : Memref sig .tc .vmem S1x128 .f32
  h14 : a14.IsWhole

/-- What the projection's buffers hold. -/
structure St (F : FTy → Type) [FloatOps F] where
  x : S1024x1024.Idx → Elt F .f32
  a : S1024x512.Idx → Elt F .bf16
  b : S1024x512.Idx → Elt F .bf16
  wa : S512x1024.Idx → Elt F .bf16
  wb : S512x1024.Idx → Elt F .bf16
  y : S1024x1024.Idx → Elt F .f32

/-- A buffer of the rest: its shape, its elements and where it lies. -/
abbrev Some1 := (s : Shape) × (e : EltTy) × Memref sig .tc .vmem s e

/-- The buffers only the normalisation and the routing use. -/
abbrev Bufs.rest (M : Bufs) : List Some1 :=
  [⟨_, _, M.a6⟩, ⟨_, _, M.a7⟩, ⟨_, _, M.a8⟩, ⟨_, _, M.a9⟩, ⟨_, _, M.a11⟩, ⟨_, _, M.a12⟩, ⟨_, _, M.a13⟩, ⟨_, _, M.a14⟩]

variable (c : Dev nD)

section
variable {M : Bufs}
theorem mem_a6 : (⟨_, _, M.a6⟩ : Some1) ∈ M.rest := .head _
theorem mem_a7 : (⟨_, _, M.a7⟩ : Some1) ∈ M.rest := .tail _ (.head _)
theorem mem_a8 : (⟨_, _, M.a8⟩ : Some1) ∈ M.rest := .tail _ (.tail _ (.head _))
theorem mem_a9 : (⟨_, _, M.a9⟩ : Some1) ∈ M.rest := .tail _ (.tail _ (.tail _ (.head _)))
theorem mem_a11 : (⟨_, _, M.a11⟩ : Some1) ∈ M.rest := .tail _ (.tail _ (.tail _ (.tail _ (.head _))))
theorem mem_a12 : (⟨_, _, M.a12⟩ : Some1) ∈ M.rest := .tail _ (.tail _ (.tail _ (.tail _ (.tail _ (.head _)))))
theorem mem_a13 : (⟨_, _, M.a13⟩ : Some1) ∈ M.rest := .tail _ (.tail _ (.tail _ (.tail _ (.tail _ (.tail _ (.head _))))))
theorem mem_a14 : (⟨_, _, M.a14⟩ : Some1) ∈ M.rest := .tail _ (.tail _ (.tail _ (.tail _ (.tail _ (.tail _ (.tail _ (.head _)))))))
end

/-- The buffer is held whole at `X`. -/
abbrev Holds {s : Shape} {e : EltTy} (m : Memref sig .tc .vmem s e) (X : s.Idx → Elt F e) : sProp 𝕄 :=
  owns (c : Thread nD τ) m fullShare X

/-- Every buffer of a list is held at some contents. -/
def Junk : List Some1 → sProp 𝕄
  | [] => iprop(emp)
  | b :: L => iprop((∃ X : b.1.Idx → Elt F b.2.1, Holds c b.2.2 X) ∗ Junk L)

/-- A buffer of the list can be taken out, and put back at other contents. -/
theorem junk_take {L : List Some1} {s : Shape} {e : EltTy} {m : Memref sig .tc .vmem s e} (h : (⟨s, e, m⟩ : Some1) ∈ L) :
    (Junk c L : sProp 𝕄) ⊢ iprop(∃ X : s.Idx → Elt F e, Holds c m X ∗ (∀ Y : s.Idx → Elt F e, Holds c m Y -∗ Junk c L)) := by
  induction L with
  | nil => cases h
  | cons b L ih =>
    rcases List.mem_cons.mp h with rfl | h
    · unfold Junk
      iintro ⟨⟨%X, H⟩, HL⟩
      iexists X
      isplitl [H]; · iexact H
      iintro %Y HY
      isplitl [HY]
      · iexists Y; iexact HY
      iexact HL
    · unfold Junk
      iintro ⟨H, HL⟩
      ihave HL := (ih h) $$ HL
      icases HL with ⟨%X, HX, HL⟩
      iexists X
      isplitl [HX]; · iexact HX
      iintro %Y HY
      isplitl [H]; · iexact H
      iapply HL
      iexact HY

/-- The projection's buffers at `X`, the rest at anything. -/
def Own (M : Bufs) (X : St F) : sProp 𝕄 :=
  iprop(Holds c M.a1 X.x ∗ Holds c M.a2 X.a ∗ Holds c M.a3 X.b ∗ Holds c M.a4 X.wa ∗ Holds c M.a5 X.wb ∗ Holds c M.a10 X.y
    ∗ Junk c M.rest)

variable {c} {M : Bufs} {bd : Option ℕ} {α β : Type}

/-- `p`, started at the contents `X`, ends at contents and with a value that `Φ` relates. -/
def Does (c : Dev nD) (M : Bufs) (bd : Option ℕ) (X : St F) (p : Prog (TpuEff nD τ sig (Elt F) Λ₀ .tc) α) (Φ : St F → α → Prop) : Prop :=
  ∀ K : α → sProp 𝕄, (∀ X' a, Φ X' a → Own c M X' ⊢ K a) →
    Own c M X ⊢ wp frame (wpE (defs₀ (F := F)) 𝒱₀ (c : Thread nD τ) bd) Set.univ p K

theorem Does.ret {X : St F} {a : α} {Φ : St F → α → Prop} (h : Φ X a) : Does c M bd X (pure a) Φ := by
  intro K hK
  rw [Prog.pure_eq_ret, wp_ret]
  iintro H; imodintro
  iapply (hK X a h) $$ H

theorem Does.mono {X : St F} {p : Prog (TpuEff nD τ sig (Elt F) Λ₀ .tc) α} {Φ Ψ : St F → α → Prop} (h : Does c M bd X p Φ)
    (hΨ : ∀ X' a, Φ X' a → Ψ X' a) : Does c M bd X p Ψ :=
  fun K hK => h K fun X' a ha => hK X' a (hΨ X' a ha)

theorem Does.bind {X : St F} {p : Prog (TpuEff nD τ sig (Elt F) Λ₀ .tc) α} {k : α → Prog (TpuEff nD τ sig (Elt F) Λ₀ .tc) β}
    {Φ : St F → α → Prop} {Ψ : St F → β → Prop} (h : Does c M bd X p Φ) (hk : ∀ X' a, Φ X' a → Does c M bd X' (k a) Ψ) :
    Does c M bd X (p >>= k) Ψ := by
  intro K hK
  rw [wp_bind]
  exact h _ fun X' a ha => hk X' a ha K hK

/-- A stretch that ends at known contents with a known value. -/
abbrev Exact (c : Dev nD) (M : Bufs) (bd : Option ℕ) (X : St F) (p : Prog (TpuEff nD τ sig (Elt F) Λ₀ .tc) α) (X' : St F) (a : α) : Prop :=
  Does c M bd X p fun Y b => Y = X' ∧ b = a

theorem Does.step {X X' : St F} {a : α} {p : Prog (TpuEff nD τ sig (Elt F) Λ₀ .tc) α} {k : α → Prog (TpuEff nD τ sig (Elt F) Λ₀ .tc) β}
    {Ψ : St F → β → Prop} (h : Exact c M bd X p X' a) (hk : Does c M bd X' (k a) Ψ) : Does c M bd X (p >>= k) Ψ :=
  h.bind fun _ _ e => by obtain ⟨rfl, rfl⟩ := e; exact hk

theorem Exact.ret {X : St F} {a : α} : Exact c M bd X (pure a) X a := Does.ret ⟨rfl, rfl⟩

/-- A stretch that leaves the projection's buffers alone. -/
abbrev Idle (c : Dev nD) (M : Bufs) (bd : Option ℕ) (p : Prog (TpuEff nD τ sig (Elt F) Λ₀ .tc) α) : Prop :=
  ∀ X : St F, Does c M bd X p fun Y _ => Y = X

theorem Does.idle {X : St F} {p : Prog (TpuEff nD τ sig (Elt F) Λ₀ .tc) α} {k : α → Prog (TpuEff nD τ sig (Elt F) Λ₀ .tc) β}
    {Ψ : St F → β → Prop} (h : Idle c M bd p) (hk : ∀ a, Does c M bd X (k a) Ψ) : Does c M bd X (p >>= k) Ψ :=
  (h X).bind fun _ a e => by subst e; exact hk a

theorem Idle.ret {a : α} : Idle (F := F) c M bd (pure a) := fun _ => Does.ret rfl

theorem Idle.bind {p : Prog (TpuEff nD τ sig (Elt F) Λ₀ .tc) α} {k : α → Prog (TpuEff nD τ sig (Elt F) Λ₀ .tc) β}
    (h : Idle c M bd p) (hk : ∀ a, Idle c M bd (k a)) : Idle c M bd (p >>= k) :=
  fun X => Does.idle h fun a => hk a X

/-! ## Memory -/

/-- `m` is the projection's buffer that `g` reads and `s` replaces. -/
def Slot (c : Dev nD) (M : Bufs) {s : Shape} {e : EltTy} (m : Memref sig .tc .vmem s e) (g : St F → s.Idx → Elt F e)
    (u : St F → (s.Idx → Elt F e) → St F) : Prop :=
  ∀ X, Own c M X ⊢ iprop(Holds c m (g X) ∗ (∀ x, Holds c m x -∗ Own c M (u X x)))

theorem slot_x : Slot (F := F) c M M.a1 St.x (fun X z => { X with x := z }) := fun X => by
  unfold Own
  iintro ⟨H0, H⟩
  isplitl [H0]; · iexact H0
  iintro %z Hz
  isplitl [Hz]; · iexact Hz
  iexact H
theorem slot_a : Slot (F := F) c M M.a2 St.a (fun X z => { X with a := z }) := fun X => by
  unfold Own
  iintro ⟨H0, H1, H⟩
  isplitl [H1]; · iexact H1
  iintro %z Hz
  isplitl [H0]; · iexact H0
  isplitl [Hz]; · iexact Hz
  iexact H
theorem slot_b : Slot (F := F) c M M.a3 St.b (fun X z => { X with b := z }) := fun X => by
  unfold Own
  iintro ⟨H0, H1, H2, H⟩
  isplitl [H2]; · iexact H2
  iintro %z Hz
  isplitl [H0]; · iexact H0
  isplitl [H1]; · iexact H1
  isplitl [Hz]; · iexact Hz
  iexact H
theorem slot_wa : Slot (F := F) c M M.a4 St.wa (fun X z => { X with wa := z }) := fun X => by
  unfold Own
  iintro ⟨H0, H1, H2, H3, H⟩
  isplitl [H3]; · iexact H3
  iintro %z Hz
  isplitl [H0]; · iexact H0
  isplitl [H1]; · iexact H1
  isplitl [H2]; · iexact H2
  isplitl [Hz]; · iexact Hz
  iexact H
theorem slot_wb : Slot (F := F) c M M.a5 St.wb (fun X z => { X with wb := z }) := fun X => by
  unfold Own
  iintro ⟨H0, H1, H2, H3, H4, H⟩
  isplitl [H4]; · iexact H4
  iintro %z Hz
  isplitl [H0]; · iexact H0
  isplitl [H1]; · iexact H1
  isplitl [H2]; · iexact H2
  isplitl [H3]; · iexact H3
  isplitl [Hz]; · iexact Hz
  iexact H
theorem slot_y : Slot (F := F) c M M.a10 St.y (fun X z => { X with y := z }) := fun X => by
  unfold Own
  iintro ⟨H0, H1, H2, H3, H4, H5, H⟩
  isplitl [H5]; · iexact H5
  iintro %z Hz
  isplitl [H0]; · iexact H0
  isplitl [H1]; · iexact H1
  isplitl [H2]; · iexact H2
  isplitl [H3]; · iexact H3
  isplitl [H4]; · iexact H4
  isplitl [Hz]; · iexact Hz
  iexact H

/-- The rest, taken out of what is held. -/
theorem rest_take (X : St F) : Own c M X ⊢ iprop(Junk c M.rest ∗ (Junk c M.rest -∗ Own c M X)) := by
  unfold Own
  iintro ⟨H0, H1, H2, H3, H4, H5, H⟩
  isplitl [H]; · iexact H
  iintro H
  isplitl [H0]; · iexact H0
  isplitl [H1]; · iexact H1
  isplitl [H2]; · iexact H2
  isplitl [H3]; · iexact H3
  isplitl [H4]; · iexact H4
  isplitl [H5]; · iexact H5
  iexact H

/-- A load of a held buffer, at its head: the window of what it holds. -/
theorem wp_load_holds {s : Shape} {e : EltTy} {m : Memref sig .tc .vmem s e} {X : s.Idx → Elt F e} {off size : Fin s.rank → ℕ}
    {inb : ∀ a, off a + size a ≤ s.size a} {hl : m.view.LoadsAt (Rect.unit off size inb).toLoadRect}
    {K : ((Rect.unit off size inb).shape.Idx → Elt F e) → sProp 𝕄} :
    iprop(Holds c m X ∗ (Holds c m X -∗ K (window X off size inb)))
      ⊢ wp frame (wpE (defs₀ (F := F)) 𝒱₀ (c : Thread nD τ) bd) Set.univ (Prog.lift (.load m (Rect.unit off size inb).toLoadRect hl)) K := by
  unfold Holds owns Prog.lift
  iintro ⟨⟨%f, %hf, H⟩, HK⟩
  iapply (wp_load 𝒱₀ (c : Thread nD τ) bd Set.univ (m := m) (View.setOn_subset_set _ _)) $$ H
  iintro H
  rw [wp_ret]; imodintro
  have e : m.view.readAt (Elt F) (Rect.unit off size inb).toLoadRect f = window X off size inb := by subst hf; rfl
  rw [e]
  iapply HK
  iexists f
  isplitr; · ipureintro; exact hf
  iexact H

/-- A store into a held buffer: the payload put over its window. -/
theorem wp_store_holds {s : Shape} {e : EltTy} {m : Memref sig .tc .vmem s e} {X : s.Idx → Elt F e} {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1}
    {K : PUnit → sProp 𝕄} :
    iprop(Holds c m X ∗ (Holds c m (put X off size w) -∗ K ⟨⟩))
      ⊢ wp frame (wpE (defs₀ (F := F)) 𝒱₀ (c : Thread nD τ) bd) Set.univ (Prog.lift (.store m (Rect.unit off size inb) w Finset.univ hx hm)) K := by
  unfold Holds owns Prog.lift
  iintro ⟨⟨%f, %hf, H⟩, HK⟩
  have hs := wp_store (defs := defs₀ (F := F)) 𝒱₀ (c : Thread nD τ) bd Set.univ (Γ := .empty) (m := m) (r := Rect.unit off size inb) (w := w)
    (Mk := Finset.univ) (hx := hx) (hm := hm) (S := m.view.set) (f := f) (k := fun a => .ret a) (Q := K)
    (by rw [View.setOn_univ]; exact View.set_slice_subset _ _)
  replace hs : (m.view.loc (c : Thread nD τ) ↦[m.view.set]{fullShare} f : sProp 𝕄)
      ⊢ iprop(((m.view.loc (c : Thread nD τ) ↦[m.view.set]{fullShare} (m.access (Rect.unit off size inb)).write (Elt F) f w Finset.univ)
          -∗ wp frame (wpE (defs₀ (F := F)) 𝒱₀ (c : Thread nD τ) bd) Set.univ (.ret ⟨⟩) K)
        -∗ wp frame (wpE (defs₀ (F := F)) 𝒱₀ (c : Thread nD τ) bd) Set.univ (.op (.store m (Rect.unit off size inb) w Finset.univ hx hm) .ret) K) := hs
  iapply hs $$ H
  iintro H
  rw [wp_ret]; imodintro
  subst hf
  iapply HK
  iexists _
  isplitr
  · ipureintro
    exact View.read_writes_cons_put m.view f inb w [] rfl
  iexact H

/-- Loading from one of the projection's buffers. -/
theorem Slot.load {s : Shape} {e : EltTy} {m : Memref sig .tc .vmem s e} {g : St F → s.Idx → Elt F e} {u : St F → (s.Idx → Elt F e) → St F}
    (S : Slot c M m g u) (hu : ∀ X, u X (g X) = X) {X : St F} {off size : Fin s.rank → ℕ} {inb : ∀ a, off a + size a ≤ s.size a}
    {hl : m.view.LoadsAt (Rect.unit off size inb).toLoadRect} :
    Exact c M bd X (Prog.lift (.load m (Rect.unit off size inb).toLoadRect hl)) X (window (g X) off size inb) := by
  intro K hK
  refine (S X).trans (BIBase.Entails.trans ?_ (wp_load_holds (X := g X)))
  iintro ⟨H, HX⟩
  isplitl [H]; · iexact H
  iintro H
  iapply (hK X _ ⟨rfl, rfl⟩)
  ihave H := HX $$ %(g X) H
  rw [hu X]
  iexact H

/-- Storing into one of the projection's buffers. -/
theorem Slot.store {s : Shape} {e : EltTy} {m : Memref sig .tc .vmem s e} {g : St F → s.Idx → Elt F e} {u : St F → (s.Idx → Elt F e) → St F}
    (S : Slot c M m g u) {X : St F} {off size : Fin s.rank → ℕ} {inb : ∀ a, off a + size a ≤ s.size a}
    {w : (Rect.unit off size inb).shape.Idx → Elt F e}
    {hx : (m.access (Rect.unit off size inb)).Stores Finset.univ} {hm : Finset.univ = Finset.univ ∨ ∀ a, (Rect.unit off size inb).stride a = 1} :
    Exact c M bd X (Prog.lift (.store m (Rect.unit off size inb) w Finset.univ hx hm)) (u X (put (g X) off size w)) ⟨⟩ := by
  intro K hK
  refine (S X).trans (BIBase.Entails.trans ?_ (wp_store_holds (X := g X)))
  iintro ⟨H, HX⟩
  isplitl [H]; · iexact H
  iintro H
  iapply (hK _ _ ⟨rfl, rfl⟩)
  iapply HX
  iexact H

/-- Loading from a buffer of the rest. -/
theorem Idle.load {s : Shape} {e : EltTy} {m : Memref sig .tc .vmem s e} (h : (⟨s, e, m⟩ : Some1) ∈ M.rest) {off size : Fin s.rank → ℕ}
    {inb : ∀ a, off a + size a ≤ s.size a} {hl : m.view.LoadsAt (Rect.unit off size inb).toLoadRect} :
    Idle (F := F) c M bd (Prog.lift (.load m (Rect.unit off size inb).toLoadRect hl)) := by
  intro X K hK
  refine (rest_take X).trans ?_
  iintro ⟨HJ, HX⟩
  ihave HJ := (junk_take c h) $$ HJ
  icases HJ with ⟨%Y, HY, HJ⟩
  iapply (wp_load_holds (bd := bd) (X := Y))
  isplitl [HY]; · iexact HY
  iintro HY
  iapply (hK X _ rfl)
  iapply HX
  iapply HJ
  iexact HY

/-- Storing into a buffer of the rest. -/
theorem Idle.store {s : Shape} {e : EltTy} {m : Memref sig .tc .vmem s e} (h : (⟨s, e, m⟩ : Some1) ∈ M.rest) {off size : Fin s.rank → ℕ}
    {inb : ∀ a, off a + size a ≤ s.size a} {w : (Rect.unit off size inb).shape.Idx → Elt F e}
    {hx : (m.access (Rect.unit off size inb)).Stores Finset.univ} {hm : Finset.univ = Finset.univ ∨ ∀ a, (Rect.unit off size inb).stride a = 1} :
    Idle c M bd (Prog.lift (.store m (Rect.unit off size inb) w Finset.univ hx hm)) := by
  intro X K hK
  refine (rest_take X).trans ?_
  iintro ⟨HJ, HX⟩
  ihave HJ := (junk_take c h) $$ HJ
  icases HJ with ⟨%Y, HY, HJ⟩
  iapply (wp_store_holds (bd := bd) (X := Y))
  isplitl [HY]; · iexact HY
  iintro HY
  iapply (hK X _ rfl)
  iapply HX
  iapply HJ
  iexact HY

/-- Loading, at any stride, from a part of a buffer of the rest. -/
theorem Idle.loadPart {s : Shape} {e : EltTy} {m : Memref sig .tc .vmem s e} (h : (⟨s, e, m⟩ : Some1) ∈ M.rest) {R : Rect s}
    {hR : ∀ a, R.stride a = 1} {r : LoadRect R.shape} {hl : (m.slice R hR).view.LoadsAt r} :
    Idle (F := F) c M bd (Prog.lift (.load (m.slice R hR) r hl)) := by
  intro X K hK
  refine (rest_take X).trans ?_
  iintro ⟨HJ, HX⟩
  ihave HJ := (junk_take c h) $$ HJ
  icases HJ with ⟨%Y, HY, HJ⟩
  unfold Holds owns Prog.lift
  icases HY with ⟨%f, %hf, H⟩
  have hs := wp_load (defs := defs₀ (F := F)) 𝒱₀ (c : Thread nD τ) bd Set.univ (Γ := .empty) (m := m.slice R hR) (r := r) (hl := hl) (S := m.view.set)
    (q := fullShare) (f := f) (k := fun a => .ret a) (Q := K)
    ((View.setOn_subset_set _ _).trans (View.set_slice_subset m.view R))
  replace hs : (m.view.loc (c : Thread nD τ) ↦[m.view.set]{fullShare} f : sProp 𝕄)
      ⊢ iprop(((m.view.loc (c : Thread nD τ) ↦[m.view.set]{fullShare} f)
          -∗ wp frame (wpE (defs₀ (F := F)) 𝒱₀ (c : Thread nD τ) bd) Set.univ (.ret ((m.slice R hR).view.readAt (Elt F) r f)) K)
        -∗ wp frame (wpE (defs₀ (F := F)) 𝒱₀ (c : Thread nD τ) bd) Set.univ (.op (.load (m.slice R hR) r hl) .ret) K) := hs
  iapply hs $$ H
  iintro H
  rw [wp_ret]; imodintro
  iapply (hK X _ rfl)
  iapply HX
  iapply HJ
  iexists f
  isplitr; · ipureintro; exact hf
  iexact H

/-- Storing, at any stride, into a part of a buffer of the rest. -/
theorem Idle.storePart {s : Shape} {e : EltTy} {m : Memref sig .tc .vmem s e} (h : (⟨s, e, m⟩ : Some1) ∈ M.rest) {R : Rect s}
    {hR : ∀ a, R.stride a = 1} {r : Rect R.shape} {w : r.shape.Idx → Elt F e} {hx : ((m.slice R hR).access r).Stores Finset.univ}
    {hm : Finset.univ = Finset.univ ∨ ∀ a, r.stride a = 1} :
    Idle c M bd (Prog.lift (.store (m.slice R hR) r w Finset.univ hx hm)) := by
  intro X K hK
  refine (rest_take X).trans ?_
  iintro ⟨HJ, HX⟩
  ihave HJ := (junk_take c h) $$ HJ
  icases HJ with ⟨%Y, HY, HJ⟩
  unfold Holds owns Prog.lift
  icases HY with ⟨%f, %hf, H⟩
  have hs := wp_store (defs := defs₀ (F := F)) 𝒱₀ (c : Thread nD τ) bd Set.univ (Γ := .empty) (m := m.slice R hR) (r := r) (w := w)
    (Mk := Finset.univ) (hx := hx) (hm := hm) (S := m.view.set) (f := f) (k := fun a => .ret a) (Q := K)
    (by rw [View.setOn_univ]; exact (View.set_slice_subset _ _).trans (View.set_slice_subset m.view R))
  replace hs : (m.view.loc (c : Thread nD τ) ↦[m.view.set]{fullShare} f : sProp 𝕄)
      ⊢ iprop(((m.view.loc (c : Thread nD τ) ↦[m.view.set]{fullShare} ((m.slice R hR).access r).write (Elt F) f w Finset.univ)
          -∗ wp frame (wpE (defs₀ (F := F)) 𝒱₀ (c : Thread nD τ) bd) Set.univ (.ret ⟨⟩) K)
        -∗ wp frame (wpE (defs₀ (F := F)) 𝒱₀ (c : Thread nD τ) bd) Set.univ (.op (.store (m.slice R hR) r w Finset.univ hx hm) .ret) K) := hs
  iapply hs $$ H
  iintro H
  rw [wp_ret]; imodintro
  iapply (hK X _ rfl)
  iapply HX
  iapply HJ
  iexists (((m.slice R hR).access r).write (Elt F) f w Finset.univ)
  isplitr; · ipureintro; rfl
  iexact H

theorem Does.assoc {γ : Type} {X : St F} {p : Prog (TpuEff nD τ sig (Elt F) Λ₀ .tc) α} {k : α → Prog (TpuEff nD τ sig (Elt F) Λ₀ .tc) β}
    {l : β → Prog (TpuEff nD τ sig (Elt F) Λ₀ .tc) γ} {Ψ : St F → γ → Prop} (h : Does c M bd X (p >>= fun a => k a >>= l) Ψ) :
    Does c M bd X ((p >>= k) >>= l) Ψ := by
  intro K hK
  have := h K hK
  rw [wp_bind] at this
  rw [wp_bind, wp_bind]
  simpa only [wp_bind] using this

theorem Does.pureBind {X : St F} {a : α} {k : α → Prog (TpuEff nD τ sig (Elt F) Λ₀ .tc) β} {Ψ : St F → β → Prop}
    (h : Does c M bd X (k a) Ψ) : Does c M bd X (pure a >>= k) Ψ := Does.step Exact.ret h

attribute [irreducible] Does

end Cert.OutProjIdeal.Residual

end
-- ==== Proof.OutProjIdealBody.lean ====
/-
  The body of the output projection's kernel, from its first operation to its last: what it leaves in the block of the result.
-/
module

public import proofs.«01_k».proof.Proof.OutProjIdealLogic

@[expose] public section

set_option maxRecDepth 65536

noncomputable section

namespace Cert.OutProjIdeal.Residual

open Idealize.ShloMosaic Idealize.ShloMosaic.TcCoe
open Idealize.SL Idealize.SL.Sem
open Idealize.ShloMosaic.VecWindow
open Cert.OutProjIdeal.Gen

variable {F : FTy → Type} [FloatOps F] {c : Dev nD} {M : Bufs} {bd : Option ℕ}

/-- The upper half of the block: the input's rows plus the mixers' rows times the weight's halves. -/
def upper (X : St F) : S512x1024.Idx → Elt F .f32 :=
  k0_pay9 (window X.x ![0, 0] S512x1024.size inb_S1024x1024_S512x1024_0_0) (window X.a ![0, 0] S512x512.size inb_S1024x512_S512x512_0_0)
    (window X.wa ![0, 0] S512x1024.size inb_S512x1024_S512x1024_0_0) (window X.b ![0, 0] S512x512.size inb_S1024x512_S512x512_0_0)
    (window X.wb ![0, 0] S512x1024.size inb_S512x1024_S512x1024_0_0)

/-- The lower half. -/
def lower (X : St F) : S512x1024.Idx → Elt F .f32 :=
  k0_pay22 (window X.x ![512, 0] S512x1024.size inb_S1024x1024_S512x1024_512_0) (window X.a ![512, 0] S512x512.size inb_S1024x512_S512x512_512_0)
    (window X.wa ![0, 0] S512x1024.size inb_S512x1024_S512x1024_0_0) (window X.b ![512, 0] S512x512.size inb_S1024x512_S512x512_512_0)
    (window X.wb ![0, 0] S512x1024.size inb_S512x1024_S512x1024_0_0)

/-- The block with its upper half written. -/
def withUpper (X : St F) : St F := { X with y := put X.y ![0, 0] S512x1024.size (upper X) }

/-- The block with its lower half written. -/
def withLower (X : St F) : St F := { X with y := put X.y ![512, 0] S512x1024.size (lower X) }

/-- The first stretch clears the counts at the first block, and writes the upper half. -/
theorem part1_does (i : grid0.Coords) (X : St F) :
    Does c M none X (k0_part1 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14) (fun Y _ => Y = withUpper X) := by
  rw [k0_part1_eq_skeleton]
  unfold k0_part1_skel
  dsimp only
  split
  all_goals
    repeat
      first
        | with_reducible refine Does.assoc ?_
        | with_reducible refine Does.pureBind ?_
        | refine Does.step (Slot.load (by first | with_reducible exact slot_x | with_reducible exact slot_a | with_reducible exact slot_b | with_reducible exact slot_wa | with_reducible exact slot_wb | with_reducible exact slot_y) (by intro _; rfl)) ?_
        | refine Does.step (Slot.store (by first | with_reducible exact slot_x | with_reducible exact slot_a | with_reducible exact slot_b | with_reducible exact slot_wa | with_reducible exact slot_wb | with_reducible exact slot_y)) ?_
        | refine Does.idle (Idle.loadPart mem_a11) fun _ => ?_
        | refine Does.idle (Idle.storePart mem_a11) fun _ => ?_
        | refine Does.idle (Idle.load (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
        | refine Does.idle (Idle.store (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
    exact Does.ret rfl

/-- The third stretch writes the lower half. -/
theorem part3_does (i : grid0.Coords) (X : St F) (u v) :
    Does c M none X (k0_part3 (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 u v) (fun Y _ => Y = withLower X) := by
  rw [k0_part3_eq_skeleton]
  unfold k0_part3_skel
  dsimp only
  repeat
    first
      | with_reducible refine Does.assoc ?_
      | with_reducible refine Does.pureBind ?_
      | refine Does.step (Slot.load (by first | with_reducible exact slot_x | with_reducible exact slot_a | with_reducible exact slot_b | with_reducible exact slot_wa | with_reducible exact slot_wb | with_reducible exact slot_y) (by intro _; rfl)) ?_
      | refine Does.step (Slot.store (by first | with_reducible exact slot_x | with_reducible exact slot_a | with_reducible exact slot_b | with_reducible exact slot_wa | with_reducible exact slot_wb | with_reducible exact slot_y)) ?_
      | refine Does.idle (Idle.loadPart mem_a11) fun _ => ?_
      | refine Does.idle (Idle.storePart mem_a11) fun _ => ?_
      | refine Does.idle (Idle.load (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
      | refine Does.idle (Idle.store (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
  exact Does.ret rfl

set_option maxHeartbeats 4000000 in
/-- The body leaves both halves written; every other stretch of it leaves the projection's buffers alone. -/
theorem body_does (i : grid0.Coords) (X : St F) :
    Does c M none X (cc0_out_proj (F := F) i M.a1 M.h1 M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14) (fun Y _ => Y = withLower (withUpper X)) := by
  rw [cc0_out_proj_eq_skeleton]
  unfold cc0_out_proj_skel
  refine Does.bind (part1_does i X) ?_
  rintro _ ⟨x1, x2, x3, x4⟩ rfl
  refine Does.idle (fun Z => ?_) fun _ => ?_
  · rw [k0_part2_eq_skeleton]
    unfold k0_part2_skel
    dsimp only
    repeat
      first
        | with_reducible refine Does.assoc ?_
        | with_reducible refine Does.pureBind ?_
        | refine Does.step (Slot.load (by first | with_reducible exact slot_x | with_reducible exact slot_a | with_reducible exact slot_b | with_reducible exact slot_wa | with_reducible exact slot_wb | with_reducible exact slot_y) (by intro _; rfl)) ?_
        | refine Does.step (Slot.store (by first | with_reducible exact slot_x | with_reducible exact slot_a | with_reducible exact slot_b | with_reducible exact slot_wa | with_reducible exact slot_wb | with_reducible exact slot_y)) ?_
        | refine Does.idle (Idle.loadPart mem_a11) fun _ => ?_
        | refine Does.idle (Idle.storePart mem_a11) fun _ => ?_
        | refine Does.idle (Idle.load (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
        | refine Does.idle (Idle.store (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
    exact Does.ret rfl
  refine Does.bind (part3_does i _ _ _) ?_
  rintro _ ⟨y1, y2, y3⟩ rfl
  iterate 12
    refine Does.idle (fun Z => ?_) fun _ => ?_
    · simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
      simp only [k0_part4_skel, k0_part5_skel, k0_part6_skel, k0_part7_skel, k0_part8_skel, k0_part9_skel, k0_part10_skel, k0_part11_skel, k0_part12_skel, k0_part13_skel, k0_part14_skel, k0_part15_skel]
      repeat
        first
          | with_reducible refine Does.assoc ?_
          | with_reducible refine Does.pureBind ?_
          | refine Does.step (Slot.load (by first | with_reducible exact slot_x | with_reducible exact slot_a | with_reducible exact slot_b | with_reducible exact slot_wa | with_reducible exact slot_wb | with_reducible exact slot_y) (by intro _; rfl)) ?_
          | refine Does.step (Slot.store (by first | with_reducible exact slot_x | with_reducible exact slot_a | with_reducible exact slot_b | with_reducible exact slot_wa | with_reducible exact slot_wb | with_reducible exact slot_y)) ?_
          | refine Does.idle (Idle.loadPart mem_a11) fun _ => ?_
          | refine Does.idle (Idle.storePart mem_a11) fun _ => ?_
          | refine Does.idle (Idle.load (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
          | refine Does.idle (Idle.store (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
      exact Does.ret rfl
  repeat
    first
      | with_reducible refine Does.assoc ?_
      | with_reducible refine Does.pureBind ?_
      | refine Does.step (Slot.load (by first | with_reducible exact slot_x | with_reducible exact slot_a | with_reducible exact slot_b | with_reducible exact slot_wa | with_reducible exact slot_wb | with_reducible exact slot_y) (by intro _; rfl)) ?_
      | refine Does.step (Slot.store (by first | with_reducible exact slot_x | with_reducible exact slot_a | with_reducible exact slot_b | with_reducible exact slot_wa | with_reducible exact slot_wb | with_reducible exact slot_y)) ?_
      | refine Does.idle (Idle.loadPart mem_a11) fun _ => ?_
      | refine Does.idle (Idle.storePart mem_a11) fun _ => ?_
      | refine Does.idle (Idle.load (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
      | refine Does.idle (Idle.store (by first | with_reducible exact mem_a6 | with_reducible exact mem_a7 | with_reducible exact mem_a8 | with_reducible exact mem_a9 | with_reducible exact mem_a11 | with_reducible exact mem_a12 | with_reducible exact mem_a13 | with_reducible exact mem_a14)) fun _ => ?_
  exact Does.ret rfl

end Cert.OutProjIdeal.Residual

end
-- ==== Proof.OutProjIdealRun.lean ====
/-
  The output projection's call run: the launch, what every buffer holds at the end, and that the arguments end unchanged.
-/
module

public import proofs.«01_k».proof.Proof.OutProjIdealBody
public import proofs.«01_k».proof.Proof.Gen.OutProjIdeal.Frame
public import Idealize.ShloMosaic.Lib.Pipeline.ArrRel

@[expose] public section

set_option maxRecDepth 16384

noncomputable section

namespace Cert.OutProjIdeal.Residual

open Cert.OutProjIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a grid point finds and leaves -/

/-- A window's block of its array, at a grid point. -/
abbrev blockAt (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- The result's block at a grid point: the two halves, over the blocks of the input, of the mixers' outputs and of the weight. -/
def Left (c : Dev nD) (t : Fin cfg0.N) (x : S1024x1024.Idx → Elt F .f32) : Prop :=
  ∃ Z : St F, Z.x = blockAt m c 0 t ∧ Z.a = blockAt m c 1 t ∧ Z.b = blockAt m c 2 t ∧ Z.wa = blockAt m c 3 t ∧ Z.wb = blockAt m c 4 t
    ∧ x = (withLower (withUpper Z)).y

/-- What the body leaves in each window's buffer: the blocks the projection reads as found, its result computed; of the others nothing
    is said. -/
def leaves (c : Dev nD) : (w : Fin cfg0.W) → Fin cfg0.N →
    (Y X : (cfg0.win w).block.Idx → Elt F (cfg0.win w).elt) → Prop
  | ⟨0, _⟩ => fun _ Y X => X = Y
  | ⟨1, _⟩ => fun _ Y X => X = Y
  | ⟨2, _⟩ => fun _ Y X => X = Y
  | ⟨3, _⟩ => fun _ Y X => X = Y
  | ⟨4, _⟩ => fun _ Y X => X = Y
  | ⟨9, _⟩ => fun t _ X => Left m c t X
  | _ => fun _ _ _ => True

/-- The call's proof data. -/
def data (c : Dev nD) : RDat τ (Elt F) Unit ℕ (UR sig nD τ) ℕ cfg0 c where
  A w := V m c (Pipeline.arrRef spec0 w)
  after := leaves m c
  Φ _ := Pipeline.ΦA spec0 c
  q _ := fullShare
  owed _ := 0

/-- The buffers at a grid point. -/
def bufsAt (t : Fin cfg0.N) : Bufs :=
  { a1 := st0_0 t, h1 := hstage0_0 ((cfg0.slots t 0).cast nbuf0_0),
    a2 := st0_1 t, h2 := hstage0_1 ((cfg0.slots t 1).cast nbuf0_1),
    a3 := st0_2 t, h3 := hstage0_2 ((cfg0.slots t 2).cast nbuf0_2),
    a4 := st0_3 t, h4 := hstage0_3 ((cfg0.slots t 3).cast nbuf0_3),
    a5 := st0_4 t, h5 := hstage0_4 ((cfg0.slots t 4).cast nbuf0_4),
    a6 := st0_5 t, h6 := hstage0_5 ((cfg0.slots t 5).cast nbuf0_5),
    a7 := st0_6 t, h7 := hstage0_6 ((cfg0.slots t 6).cast nbuf0_6),
    a8 := st0_7 t, h8 := hstage0_7 ((cfg0.slots t 7).cast nbuf0_7),
    a9 := st0_8 t, h9 := hstage0_8 ((cfg0.slots t 8).cast nbuf0_8),
    a10 := st0_9 t, h10 := hstage0_9 ((cfg0.slots t 9).cast nbuf0_9),
    a11 := st0_10 t, h11 := hstage0_10 ((cfg0.slots t 10).cast nbuf0_10),
    a12 := st0_11 t, h12 := hstage0_11 ((cfg0.slots t 11).cast nbuf0_11),
    a13 := st0_12 t, h13 := hstage0_12 ((cfg0.slots t 12).cast nbuf0_12),
    a14 := st0_13 t, h14 := hstage0_13 ((cfg0.slots t 13).cast nbuf0_13) }

theorem found (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hk : ∀ t Y X, leaves m c w t Y X → X = Y) (t : Fin cfg0.N) (Y) (h : (data m c).Finds w t Y) :
    ∃ d, Y = (data m c).fetched w t d :=
  RDat.finds_in_eq_fetched (data m c) w hw hclip hk t Y h

theorem found0 (c : Dev nD) (t : Fin cfg0.N) (Y) (h : (data m c).Finds 0 t Y) : Y = blockAt m c 0 t := by
  obtain ⟨d, rfl⟩ := found m c 0 rfl (fun _ _ _ => rfl) (fun _ _ _ h => h) t Y h
  rfl
theorem found1 (c : Dev nD) (t : Fin cfg0.N) (Y) (h : (data m c).Finds 1 t Y) : Y = blockAt m c 1 t := by
  obtain ⟨d, rfl⟩ := found m c 1 rfl (fun _ _ _ => rfl) (fun _ _ _ h => h) t Y h
  rfl
theorem found2 (c : Dev nD) (t : Fin cfg0.N) (Y) (h : (data m c).Finds 2 t Y) : Y = blockAt m c 2 t := by
  obtain ⟨d, rfl⟩ := found m c 2 rfl (fun _ _ _ => rfl) (fun _ _ _ h => h) t Y h
  rfl
theorem found3 (c : Dev nD) (t : Fin cfg0.N) (Y) (h : (data m c).Finds 3 t Y) : Y = blockAt m c 3 t := by
  obtain ⟨d, rfl⟩ := found m c 3 rfl (fun _ _ _ => rfl) (fun _ _ _ h => h) t Y h
  rfl
theorem found4 (c : Dev nD) (t : Fin cfg0.N) (Y) (h : (data m c).Finds 4 t Y) : Y = blockAt m c 4 t := by
  obtain ⟨d, rfl⟩ := found m c 4 rfl (fun _ _ _ => rfl) (fun _ _ _ h => h) t Y h
  rfl

theorem defs₀_row (t : Fin cfg0.N) :
    defs₀ (F := F) .tc cfg0.body (cfg0.bodyArgs t (cfg0.slots t)) = bodyAt0 t := by
  unfold defs₀; rw [Defs.onTc_tc]

theorem Does.run {c : Dev nD} {M : Bufs} {α : Type} {X : St F} {p : Prog (TpuEff nD τ sig (Elt F) Λ₀ .tc) α} {Φ : St F → α → Prop}
    (h : Does c M none X p Φ) (K : α → sProp 𝕄) (hK : ∀ X' a, Φ X' a → Own c M X' ⊢ K a) :
    Own c M X ⊢ wp frame (wpE (defs₀ (F := F)) 𝒱₀ (c : Thread nD τ) none) Set.univ p K := by
  unfold Does at h
  exact h K hK

set_option maxHeartbeats 4000000 in
/-- The body's triple at a grid point. -/
theorem body_obligation (c : Dev nD) : (data m c).BodyObligation (defs₀ (F := F)) 𝒱₀ () Set.univ := fun t Y hY => by
  have e0 := found0 m c t (Y 0) (hY 0)
  have e1 := found1 m c t (Y 1) (hY 1)
  have e2 := found2 m c t (Y 2) (hY 2)
  have e3 := found3 m c t (Y 3) (hY 3)
  have e4 := found4 m c t (Y 4) (hY 4)
  rw [defs₀_row, show (data m c).owesAt () t.succ = (data m c).owesAt () t.castSucc from rfl, bigSep_W0, bigSep_W0]
  show iprop(Pipeline.ΦA spec0 c ∗ _ ∗ _) ⊢ wp _ _ _ _ fun _ => iprop(Pipeline.ΦA spec0 c ∗ _ ∗ _)
  unfold Pipeline.ΦA
  iintro ⟨HA, HO, H0, H1, H2, H3, H4, H5, H6, H7, H8, H9, H10, H11, H12, H13⟩
  have key := Does.run (body_does (c := c) (M := bufsAt t) (grid0.coords t) { x := Y 0, a := Y 1, b := Y 2, wa := Y 3, wb := Y 4, y := Y 9 }) _ (fun X' _ h => by subst h; exact .rfl)
  have hl : Left m c t (withLower (withUpper { x := Y 0, a := Y 1, b := Y 2, wa := Y 3, wb := Y 4, y := Y 9 })).y := ⟨_, e0, e1, e2, e3, e4, rfl⟩
  have kx : (withLower (withUpper (F := F) { x := Y 0, a := Y 1, b := Y 2, wa := Y 3, wb := Y 4, y := Y 9 })).x = Y 0 := rfl
  have ka : (withLower (withUpper (F := F) { x := Y 0, a := Y 1, b := Y 2, wa := Y 3, wb := Y 4, y := Y 9 })).a = Y 1 := rfl
  have kb : (withLower (withUpper (F := F) { x := Y 0, a := Y 1, b := Y 2, wa := Y 3, wb := Y 4, y := Y 9 })).b = Y 2 := rfl
  have kwa : (withLower (withUpper (F := F) { x := Y 0, a := Y 1, b := Y 2, wa := Y 3, wb := Y 4, y := Y 9 })).wa = Y 3 := rfl
  have kwb : (withLower (withUpper (F := F) { x := Y 0, a := Y 1, b := Y 2, wa := Y 3, wb := Y 4, y := Y 9 })).wb = Y 4 := rfl
  generalize withLower (withUpper { x := Y 0, a := Y 1, b := Y 2, wa := Y 3, wb := Y 4, y := Y 9 }) = Z at key kx ka kb kwa kwb hl
  iapply (wp_wand_r _ _ _)
  isplitl [H0 H1 H2 H3 H4 H5 H6 H7 H8 H9 H10 H11 H12 H13]
  · iapply key
    unfold Own
    simp only [Bufs.rest, Junk, bufsAt]
    isplitl [H0]; · iexact H0
    isplitl [H1]; · iexact H1
    isplitl [H2]; · iexact H2
    isplitl [H3]; · iexact H3
    isplitl [H4]; · iexact H4
    isplitl [H9]; · iexact H9
    isplitl [H5]; · iexists _; iexact H5
    isplitl [H6]; · iexists _; iexact H6
    isplitl [H7]; · iexists _; iexact H7
    isplitl [H8]; · iexists _; iexact H8
    isplitl [H10]; · iexists _; iexact H10
    isplitl [H11]; · iexists _; iexact H11
    isplitl [H12]; · iexists _; iexact H12
    isplitl [H13]; · iexists _; iexact H13
    iempintro
  iintro %_ HE
  unfold Own
  simp only [Bufs.rest, Junk, bufsAt]
  icases HE with ⟨H0, H1, H2, H3, H4, H9, H5, H6, H7, H8, H10, H11, H12, H13, -⟩
  isplitl [HA]; · iexact HA
  isplitl [HO]; · iexact HO
  isplitl [H0]
  · iexists Z.x; isplitr; · ipureintro; exact kx
    iexact H0
  isplitl [H1]
  · iexists Z.a; isplitr; · ipureintro; exact ka
    iexact H1
  isplitl [H2]
  · iexists Z.b; isplitr; · ipureintro; exact kb
    iexact H2
  isplitl [H3]
  · iexists Z.wa; isplitr; · ipureintro; exact kwa
    iexact H3
  isplitl [H4]
  · iexists Z.wb; isplitr; · ipureintro; exact kwb
    iexact H4
  isplitl [H5]
  · icases H5 with ⟨%x, H5⟩
    iexists x; isplitr; · ipureintro; trivial
    iexact H5
  isplitl [H6]
  · icases H6 with ⟨%x, H6⟩
    iexists x; isplitr; · ipureintro; trivial
    iexact H6
  isplitl [H7]
  · icases H7 with ⟨%x, H7⟩
    iexists x; isplitr; · ipureintro; trivial
    iexact H7
  isplitl [H8]
  · icases H8 with ⟨%x, H8⟩
    iexists x; isplitr; · ipureintro; trivial
    iexact H8
  isplitl [H9]
  · iexists Z.y; isplitr; · ipureintro; exact hl
    iexact H9
  isplitl [H10]
  · icases H10 with ⟨%x, H10⟩
    iexists x; isplitr; · ipureintro; trivial
    iexact H10
  isplitl [H11]
  · icases H11 with ⟨%x, H11⟩
    iexists x; isplitr; · ipureintro; trivial
    iexact H11
  isplitl [H12]
  · icases H12 with ⟨%x, H12⟩
    iexists x; isplitr; · ipureintro; trivial
    iexact H12
  icases H13 with ⟨%x, H13⟩
  iexists x; isplitr; · ipureintro; trivial
  iexact H13

/-! ## The launch -/

set_option backward.isDefEq.respectTransparency.types false in
set_option maxHeartbeats 1600000 in
/-- Every run of the program ends, with each array at contents its blocks make, the rest as the call found it, and the counters at zero. -/
theorem run_quiescent : θ_run defs (onTc (τ := τ) (main (F := F))) (s₀ m ρ)
    (fun r => RDat.FramePost cfg0 (data m) (V m) r ∧ r.2.sem = fun _ => 0) :=
  RDat.θ_run_frame (Q' := _) cfgs (0 : Fin 1) launch0 defs₀ 𝒱₀ (data m) m ρ main (hbody := body_obligation m)
    (hshare := fun c w => by unfold RDat.share; split <;> rfl) (howed := fun _ _ => rfl) (V := V m) (hmain := hmain m 𝒱₀) (hA := fun _ _ => rfl)
    (hΦ := fun _ _ => rfl)

/-- The arguments, of a final state. -/
theorem unchanged (r : PUnit × MemSt nD τ sig (Elt F)) (h : RDat.FramePost cfg0 (data m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (show main_arg0 ∈ Pipeline.restRefs sig spec0 from Pipeline.mem_restRefs_of main_arg0 (by decide) (by decide))).trans (V_main_arg0 m c),
      (h.arr_in c 1 rfl).trans (V_main_arg1 m c),
      (h.arr_in c 2 rfl).trans (V_main_arg2 m c),
      ((h c).2 main_arg3 (show main_arg3 ∈ Pipeline.restRefs sig spec0 from Pipeline.mem_restRefs_of main_arg3 (by decide) (by decide))).trans (V_main_arg3 m c),
      ((h c).2 main_arg4 (show main_arg4 ∈ Pipeline.restRefs sig spec0 from Pipeline.mem_restRefs_of main_arg4 (by decide) (by decide))).trans (V_main_arg4 m c),
      ((h c).2 main_arg5 (show main_arg5 ∈ Pipeline.restRefs sig spec0 from Pipeline.mem_restRefs_of main_arg5 (by decide) (by decide))).trans (V_main_arg5 m c),
      ((h c).2 main_arg6 (show main_arg6 ∈ Pipeline.restRefs sig spec0 from Pipeline.mem_restRefs_of main_arg6 (by decide) (by decide))).trans (V_main_arg6 m c),
      ((h c).2 main_arg7 (show main_arg7 ∈ Pipeline.restRefs sig spec0 from Pipeline.mem_restRefs_of main_arg7 (by decide) (by decide))).trans (V_main_arg7 m c),
      ((h c).2 main_arg8 (show main_arg8 ∈ Pipeline.restRefs sig spec0 from Pipeline.mem_restRefs_of main_arg8 (by decide) (by decide))).trans (V_main_arg8 m c)⟩

/-- Every run of the program ends, its arguments unchanged and its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => unchanged m r h.1 c, h.2⟩) (run_quiescent m ρ)

end Cert.OutProjIdeal.Residual

end
-- ==== Proof.OutProjValue.lean ====
/- The output projection's value: what the call leaves in its first result, what the reference leaves, and that they are the same. -/
module

public import proofs.«01_k».proof.Defs
public import proofs.«01_k».proof.Proof.OutProjIdealRun
public import proofs.«01_k».proof.Proof.AttnState
public import proofs.«01_k».proof.Proof.Gen.OutProjRefIdeal.Run
public import Idealize.ShloMosaic.Lib.Pointwise

@[expose] public section

set_option maxRecDepth 16384

noncomputable section

namespace Cert.Residual

open Idealize.ShloMosaic Idealize.ShloMosaic.VecWindow

/-- The layer's input plus the two mixers' outputs, side by side, times the weight: at row `R` and column `j`. -/
def residualAt (x : (⟨3, ![4, 4096, 1024]⟩ : Shape).Idx → EReal) (a b : (⟨2, ![16384, 512]⟩ : Shape).Idx → EReal)
    (w : (⟨3, ![1, 1024, 1024]⟩ : Shape).Idx → EReal) (R : Fin 16384) (j : Fin 1024) : EReal :=
  x (ix3 ⟨R.val / 4096, by omega⟩ ⟨R.val % 4096, by omega⟩ j)
    + (∑ k : Fin 512, a (ix2 R k) * w (ix3 0 ⟨k.val, by omega⟩ j) + ∑ k : Fin 512, b (ix2 R k) * w (ix3 0 ⟨512 + k.val, by omega⟩ j))

/-- The residual stream, of all tokens. -/
def residual (x : (⟨3, ![4, 4096, 1024]⟩ : Shape).Idx → EReal) (a b : (⟨2, ![16384, 512]⟩ : Shape).Idx → EReal)
    (w : (⟨3, ![1, 1024, 1024]⟩ : Shape).Idx → EReal) : (⟨2, ![16384, 1024]⟩ : Shape).Idx → EReal := fun y => residualAt x a b w (y 0) (y 1)

variable {α : Type}

theorem window_ix2 {A B a b : ℕ} (x : (⟨2, ![A, B]⟩ : Shape).Idx → α) (off : Fin 2 → ℕ)
    (inb : ∀ t, off t + (![a, b] : Fin 2 → ℕ) t ≤ (⟨2, ![A, B]⟩ : Shape).size t) (i : Fin a) (j : Fin b) (i' : Fin A) (j' : Fin B)
    (h0 : i'.val = off 0 + i.val) (h1 : j'.val = off 1 + j.val) : window x off ![a, b] inb (ix2 i j) = x (ix2 i' j') := by
  refine congrArg x (funext fun t => Fin.ext ?_)
  match t with
  | 0 => show off 0 + 1 * i.val = i'.val; omega
  | 1 => show off 1 + 1 * j.val = j'.val; omega

theorem put_rows {A B a b : ℕ} (x : (⟨2, ![A, B]⟩ : Shape).Idx → α) (off : Fin 2 → ℕ) (w : ((t : Fin 2) → Fin ((![a, b] : Fin 2 → ℕ) t)) → α)
    (i : Fin a) (j : Fin b) (i' : Fin A) (j' : Fin B) (h0 : i'.val = off 0 + i.val) (h1 : j'.val = off 1 + j.val) :
    put (s := ⟨2, ![A, B]⟩) x off ![a, b] w (ix2 i' j') = w (ix2 i j) := by
  have hi := i.isLt
  have hj := j.isLt
  have h : ∀ t : Fin 2, off t ≤ ((ix2 i' j' : (⟨2, ![A, B]⟩ : Shape).Idx) t).val ∧ ((ix2 i' j' : (⟨2, ![A, B]⟩ : Shape).Idx) t).val < off t + (![a, b] : Fin 2 → ℕ) t := fun t => by
    match t with
    | 0 => show off 0 ≤ i'.val ∧ i'.val < off 0 + a; omega
    | 1 => show off 1 ≤ j'.val ∧ j'.val < off 1 + b; omega
  unfold put
  rw [dif_pos h]
  refine congrArg w (funext fun t => Fin.ext ?_)
  match t with
  | 0 => show i'.val - off 0 = i.val; omega
  | 1 => show j'.val - off 1 = j.val; omega

end Cert.Residual

namespace Cert.OutProjIdeal.Residual

open Cert.OutProjIdeal Cert.OutProjIdeal.Gen Cert.Residual Cert.StickBreaking Idealize.ShloMosaic Idealize.ShloMosaic.TcCoe
open Idealize.ShloMosaic.VecWindow
open Idealize.ShloMosaic.Pipeline (RDat Cfg Window)

/-! ## A block -/

/-- The sum the two payloads compute, at an entry. -/
def plus (x : Vec Ideal S512x1024 .f32) (a : Vec Ideal S512x512 .bf16) (wa : Vec Ideal S512x1024 .bf16) (b : Vec Ideal S512x512 .bf16)
    (wb : Vec Ideal S512x1024 .bf16) (r : Fin 512) (j : Fin 1024) : EReal :=
  (x (ix2 r j) + ∑ k : Fin 512, a (ix2 r k) * wa (ix2 k j)) + ∑ k : Fin 512, b (ix2 r k) * wb (ix2 k j)

theorem pay9_at (x : Vec Ideal S512x1024 .f32) (a : Vec Ideal S512x512 .bf16) (wa : Vec Ideal S512x1024 .bf16) (b : Vec Ideal S512x512 .bf16)
    (wb : Vec Ideal S512x1024 .bf16) (r : Fin 512) (j : Fin 1024) : k0_pay9 x a wa b wb (ix2 r j) = plus x a wa b wb r j := by
  pointwise [k0_pay9, plus]

theorem pay22_at (x : Vec Ideal S512x1024 .f32) (a : Vec Ideal S512x512 .bf16) (wa : Vec Ideal S512x1024 .bf16) (b : Vec Ideal S512x512 .bf16)
    (wb : Vec Ideal S512x1024 .bf16) (r : Fin 512) (j : Fin 1024) : k0_pay22 x a wa b wb (ix2 r j) = plus x a wa b wb r j := by
  pointwise [k0_pay22, plus]

/-- A block's entry: the input's plus the row of the mixers' outputs times the column of the weight. -/
def blockSum (Z : St Ideal) (r j : Fin 1024) : EReal :=
  (Z.x (ix2 r j) + ∑ k : Fin 512, Z.a (ix2 r k) * Z.wa (ix2 k j)) + ∑ k : Fin 512, Z.b (ix2 r k) * Z.wb (ix2 k j)

/-- Both halves are written, each with its rows' sums. -/
theorem block_at (Z : St Ideal) (r j : Fin 1024) : (withLower (withUpper Z)).y (ix2 r j) = blockSum Z r j := by
  unfold blockSum withLower withUpper
  by_cases h : r.val < 512
  · refine (Cert.MixersIdeal.Attn.put_out (s := S1024x1024) _ ![512, 0] S512x1024.size _ (ix2 r j) 0 (Or.inl h)).trans ?_
    refine (put_rows _ ![0, 0] _ ⟨r.val, h⟩ j r j (by simp) (by simp)).trans ?_
    refine (pay9_at _ _ _ _ _ _ _).trans ?_
    unfold plus
    refine congrArg₂ (· + ·) (congrArg₂ (· + ·) (window_ix2 Z.x _ _ _ _ r j (by simp) (by simp)) (Finset.sum_congr rfl fun k _ => congrArg₂ (· * ·) ?_ ?_))
      (Finset.sum_congr rfl fun k _ => congrArg₂ (· * ·) ?_ ?_)
    · exact window_ix2 Z.a _ _ _ _ r k (by simp) (by simp)
    · exact window_ix2 Z.wa _ _ _ _ k j (by simp) (by simp)
    · exact window_ix2 Z.b _ _ _ _ r k (by simp) (by simp)
    · exact window_ix2 Z.wb _ _ _ _ k j (by simp) (by simp)
  · refine (put_rows _ ![512, 0] _ ⟨r.val - 512, by omega⟩ j r j (show r.val = 512 + (r.val - 512) by omega) (by simp)).trans ?_
    refine (pay22_at _ _ _ _ _ _ _).trans ?_
    unfold plus
    have hr : r.val = 512 + (r.val - 512) := by omega
    refine congrArg₂ (· + ·) (congrArg₂ (· + ·) (window_ix2 Z.x ![512, 0] _ _ _ r j hr (by simp)) (Finset.sum_congr rfl fun k _ => congrArg₂ (· * ·) ?_ ?_))
      (Finset.sum_congr rfl fun k _ => congrArg₂ (· * ·) ?_ ?_)
    · exact window_ix2 Z.a ![512, 0] _ _ _ r k hr (by simp)
    · exact window_ix2 Z.wa _ _ _ _ k j (by simp) (by simp)
    · exact window_ix2 Z.b ![512, 0] _ _ _ r k hr (by simp)
    · exact window_ix2 Z.wb _ _ _ _ k j (by simp) (by simp)

/-! ## The array -/

variable (m : (ℓ : Loc nD τ sig) → Buf (Elt Ideal) ℓ)

/-- The block each of the projection's windows has at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_9.index t = ![t.val, 0] :=
  (by decide +kernel : ∀ t : Fin grid0.N, _)

theorem V_x (c : Dev nD) : V m c main_v0 = shapeCast S16384x1024 (m ((c : Thread nD τ).loc main_arg0)) shapeCasts_S4x4096x1024_S16384x1024 := by
  simp only [V, hostOps0, hostOps0_1, hostOps0_2, List.flatten_cons, List.flatten_nil, List.append_nil, List.cons_append, List.nil_append]
  after_results <;> rfl

theorem V_wa (c : Dev nD) : V m c main_v8 = (truncf .bf16 (extractStridedSlice S512x1024 ![0, 0] (shapeCast S1024x1024 (m ((c : Thread nD τ).loc main_arg3))
    shapeCasts_S1x1024x1024_S1024x1024) slices_S1024x1024_S512x1024_0_0) bitsLt_bf16_f32 : FVec Ideal S512x1024 .bf16) := by
  simp only [V, hostOps0, hostOps0_1, hostOps0_2, List.flatten_cons, List.flatten_nil, List.append_nil, List.cons_append, List.nil_append]
  after_results <;> rfl

theorem V_wb (c : Dev nD) : V m c main_v10 = (truncf .bf16 (extractStridedSlice S512x1024 ![512, 0] (shapeCast S1024x1024 (m ((c : Thread nD τ).loc main_arg3))
    shapeCasts_S1x1024x1024_S1024x1024) slices_S1024x1024_S512x1024_512_0) bitsLt_bf16_f32 : FVec Ideal S512x1024 .bf16) := by
  simp only [V, hostOps0, hostOps0_1, hostOps0_2, List.flatten_cons, List.flatten_nil, List.append_nil, List.cons_append, List.nil_append]
  after_results <;> rfl

theorem rows_at (x : Vec Ideal S4x4096x1024 .f32) (R : Fin 16384) (j : Fin 1024) :
    shapeCast S16384x1024 x shapeCasts_S4x4096x1024_S16384x1024 (ix2 R j) = x (ix3 ⟨R.val / 4096, by omega⟩ ⟨R.val % 4096, by omega⟩ j) := by
  pointwise

theorem top_at (w : FVec Ideal S1x1024x1024 .f32) (k : Fin 512) (j : Fin 1024) :
    (truncf .bf16 (extractStridedSlice S512x1024 ![0, 0] (shapeCast S1024x1024 w shapeCasts_S1x1024x1024_S1024x1024) slices_S1024x1024_S512x1024_0_0)
      bitsLt_bf16_f32 : FVec Ideal S512x1024 .bf16) (ix2 k j) = w (ix3 0 ⟨k.val, by omega⟩ j) := by
  pointwise

theorem bottom_at (w : FVec Ideal S1x1024x1024 .f32) (k : Fin 512) (j : Fin 1024) :
    (truncf .bf16 (extractStridedSlice S512x1024 ![512, 0] (shapeCast S1024x1024 w shapeCasts_S1x1024x1024_S1024x1024) slices_S1024x1024_S512x1024_512_0)
      bitsLt_bf16_f32 : FVec Ideal S512x1024 .bf16) (ix2 k j) = w (ix3 0 ⟨512 + k.val, by omega⟩ j) := by
  pointwise

section Entries
variable (c : Dev nD) (t : Fin cfg0.N)

theorem place_x (r j : Fin 1024) (R : Fin 16384) (hR : R.val = 1024 * t.val + r.val) :
    ((cfg0.win 0).blk t).view.emb (ix2 r j) = (ix2 R j : S16384x1024.Idx) := by
  blk_ext [idx t]

theorem place_a (r : Fin 1024) (k : Fin 512) (R : Fin 16384) (hR : R.val = 1024 * t.val + r.val) :
    ((cfg0.win 1).blk t).view.emb (ix2 r k) = (ix2 R k : S16384x512.Idx) := by
  blk_ext [idx t]

theorem place_b (r : Fin 1024) (k : Fin 512) (R : Fin 16384) (hR : R.val = 1024 * t.val + r.val) :
    ((cfg0.win 2).blk t).view.emb (ix2 r k) = (ix2 R k : S16384x512.Idx) := by
  blk_ext [idx t]

theorem place_wa (k : Fin 512) (j : Fin 1024) : ((cfg0.win 3).blk t).view.emb (ix2 k j) = (ix2 k j : S512x1024.Idx) := by
  blk_ext [idx t]

theorem place_wb (k : Fin 512) (j : Fin 1024) : ((cfg0.win 4).blk t).view.emb (ix2 k j) = (ix2 k j : S512x1024.Idx) := by
  blk_ext [idx t]

theorem place_y (r j : Fin 1024) (R : Fin 16384) (hR : R.val = 1024 * t.val + r.val) :
    ((cfg0.win 9).blk t).view.emb (ix2 r j) = (ix2 R j : S16384x1024.Idx) := by
  blk_ext [idx t]

theorem read_x (r j : Fin 1024) (R : Fin 16384) (hR : R.val = 1024 * t.val + r.val) : (blockAt m c 0 t : Vec Ideal S1024x1024 .f32) (ix2 r j)
    = m ((c : Thread nD τ).loc main_arg0) (ix3 ⟨R.val / 4096, by omega⟩ ⟨R.val % 4096, by omega⟩ j) := by
  refine (congrArg (V m c main_v0) (place_x t r j R hR)).trans ?_
  rw [V_x]
  exact rows_at _ R j

theorem read_a (r : Fin 1024) (k : Fin 512) (R : Fin 16384) (hR : R.val = 1024 * t.val + r.val) : (blockAt m c 1 t : Vec Ideal S1024x512 .bf16) (ix2 r k)
    = m ((c : Thread nD τ).loc main_arg1) (ix2 R k) :=
  (congrArg (V m c main_arg1) (place_a t r k R hR)).trans (congrFun (V_main_arg1 m c) _)

theorem read_b (r : Fin 1024) (k : Fin 512) (R : Fin 16384) (hR : R.val = 1024 * t.val + r.val) : (blockAt m c 2 t : Vec Ideal S1024x512 .bf16) (ix2 r k)
    = m ((c : Thread nD τ).loc main_arg2) (ix2 R k) :=
  (congrArg (V m c main_arg2) (place_b t r k R hR)).trans (congrFun (V_main_arg2 m c) _)

theorem read_wa (k : Fin 512) (j : Fin 1024) : (blockAt m c 3 t : Vec Ideal S512x1024 .bf16) (ix2 k j)
    = m ((c : Thread nD τ).loc main_arg3) (ix3 0 ⟨k.val, by omega⟩ j) := by
  refine (congrArg (V m c main_v8) (place_wa t k j)).trans ?_
  rw [V_wa]
  exact top_at _ k j

theorem read_wb (k : Fin 512) (j : Fin 1024) : (blockAt m c 4 t : Vec Ideal S512x1024 .bf16) (ix2 k j)
    = m ((c : Thread nD τ).loc main_arg3) (ix3 0 ⟨512 + k.val, by omega⟩ j) := by
  refine (congrArg (V m c main_v10) (place_wb t k j)).trans ?_
  rw [V_wb]
  exact bottom_at _ k j

/-- The block a grid point leaves is its part of the residual stream. -/
theorem left_at (x) (hx : Left m c t x) (r j : Fin 1024) (R : Fin 16384) (hR : R.val = 1024 * t.val + r.val) :
    x (ix2 r j) = residualAt (m ((c : Thread nD τ).loc main_arg0)) (m ((c : Thread nD τ).loc main_arg1)) (m ((c : Thread nD τ).loc main_arg2))
      (m ((c : Thread nD τ).loc main_arg3)) R j := by
  obtain ⟨Z, hx, ha, hb, hwa, hwb, rfl⟩ := hx
  refine (block_at Z r j).trans ?_
  unfold blockSum residualAt
  rw [hx, ha, hb, hwa, hwb, add_assoc]
  refine congrArg₂ (· + ·) (read_x m c t r j R hR) (congrArg₂ (· + ·) ?_ ?_)
  · exact Finset.sum_congr rfl fun k _ => congrArg₂ (· * ·) (read_a m c t r k R hR) (read_wa m c t k j)
  · exact Finset.sum_congr rfl fun k _ => congrArg₂ (· * ·) (read_b m c t r k R hR) (read_wb m c t k j)

end Entries

/-- The array of the first result at the end of a run. -/
theorem final (c : Dev nD) (r : PUnit × MemSt nD τ sig (Elt Ideal)) (h : RDat.FramePost cfg0 (data m) (V m) r) :
    r.2.mem ((c.tc : Thread nD τ).loc main_v25_0) = residual (m ((c : Thread nD τ).loc main_arg0)) (m ((c : Thread nD τ).loc main_arg1))
      (m ((c : Thread nD τ).loc main_arg2)) (m ((c : Thread nD τ).loc main_arg3)) := by
  obtain ⟨after, hl, ha⟩ := RDat.FramePost.exists_exact h c
  refine (ha 9).trans ?_
  refine Pipeline.Dat.arrAt_eq_of_covers _ 9 _ (by decide +kernel) fun t hf y => ?_
  have hL : Left m c t (after 9 t) := by
    obtain ⟨Y, _, hY⟩ := hl 9 t hf
    exact hY
  have ht : t.val < 16 := t.isLt
  obtain ⟨row, col, rfl⟩ : ∃ (row col : Fin 1024), y = ix2 row col := ⟨y 0, y 1, eq_ix2 y⟩
  have e := place_y t row col ⟨1024 * t.val + row.val, by omega⟩ rfl
  blk_simp
  rw [e]
  exact left_at m c t _ hL row col _ rfl

end Cert.OutProjIdeal.Residual

namespace Cert.OutProjRefIdeal.Residual

open Cert.OutProjRefIdeal Cert.OutProjRefIdeal.Gen Cert.Residual Idealize.ShloMosaic Idealize.ShloMosaic.TcCoe

/-- The mixers' outputs side by side, times the weight. -/
def projected (a b : FVec Ideal S16384x512 .bf16) (w : FVec Ideal S1x1024x1024 .f32) : FVec Ideal S16384x1024 .f32 :=
  Host.dotGeneral dot_S16384x1024_S1024x1024_S16384x1024_1_0_0_1_n_n none
    (extf .f32 (concatenate S16384x1024 1 [⟨S16384x512, a⟩, ⟨S16384x512, b⟩] concatenates_S16384x512_S16384x512_S16384x1024_d1) bitsLt_bf16_f32)
    (shapeCast _ w shapeCasts_S1x1024x1024_S1024x1024)

/-- The reference's result. -/
def stream (x : FVec Ideal S4x4096x1024 .f32) (a b : FVec Ideal S16384x512 .bf16) (w : FVec Ideal S1x1024x1024 .f32) : FVec Ideal S16384x1024 .f32 :=
  shapeCast _ (addf x (shapeCast _ (projected a b w) shapeCasts_S16384x1024_S4x4096x1024)) shapeCasts_S4x4096x1024_S16384x1024

theorem projected_at (a b : FVec Ideal S16384x512 .bf16) (w : FVec Ideal S1x1024x1024 .f32) (R : Fin 16384) (j : Fin 1024) :
    projected a b w (ix2 R j) = ∑ k : Fin 512, a (ix2 R k) * w (ix3 0 ⟨k.val, by omega⟩ j) + ∑ k : Fin 512, b (ix2 R k) * w (ix3 0 ⟨512 + k.val, by omega⟩ j) := by
  pointwise [projected]

theorem stream_at (x : FVec Ideal S4x4096x1024 .f32) (a b : FVec Ideal S16384x512 .bf16) (w : FVec Ideal S1x1024x1024 .f32) (R : Fin 16384) (j : Fin 1024) :
    stream x a b w (ix2 R j) = x (ix3 ⟨R.val / 4096, by omega⟩ ⟨R.val % 4096, by omega⟩ j) + projected a b w (ix2 R j) := by
  pointwise [stream]

theorem stream_eq (x : FVec Ideal S4x4096x1024 .f32) (a b : FVec Ideal S16384x512 .bf16) (w : FVec Ideal S1x1024x1024 .f32) :
    stream x a b w = residual x a b w := by
  funext y
  obtain ⟨R, j, rfl⟩ : ∃ (R : Fin 16384) (j : Fin 1024), y = ix2 R j := ⟨y 0, y 1, eq_ix2 y⟩
  refine (stream_at x a b w R j).trans ?_
  exact congrArg (_ + ·) (projected_at a b w R j)

end Cert.OutProjRefIdeal.Residual

end
-- ==== Proof.OutProj.lean ====
/- The output projection's call: that every run of the kernel, of its idealization and of the reference ends, leaves the arguments
   unchanged and every semaphore at zero; and that the idealization and the reference leave the same residual stream. -/
module

public import proofs.«01_k».proof.Defs
public import proofs.«01_k».proof.Proof.OutProjRun
public import proofs.«01_k».proof.Proof.OutProjValue
public import Idealize.ShloMosaic.Lib.Claim
public import Idealize.ShloMosaic.Lib.Quiescent

@[expose] public section

set_option maxRecDepth 16384

noncomputable section

open Idealize.ShloMosaic Idealize.ShloMosaic.TcCoe Idealize.SL.Sem Cert.Residual

namespace Cert.Proof.OutProjClaims

theorem frame : Cert.quiescent_OutProj := fun m ρ _ => Cert.OutProj.Residual.frame m ρ

theorem frame_ideal : Cert.quiescent_OutProjIdeal := fun m ρ _ => Cert.OutProjIdeal.Residual.frame m ρ

/-- The reference is a host program: its run read at the arguments; it declares no semaphore. -/
theorem frame_ref : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

/-- The kernel's idealization and the reference leave the same residual stream. -/
theorem algebraic : Cert.algebraic_OutProjIdeal_OutProjRefIdeal := fun m ρ m' ρ' _ hag =>
  ⟨fun c => residual (m ((c.tc : Thread Cert.OutProjIdeal.nD Cert.OutProjIdeal.τ).loc Cert.OutProjIdeal.main_arg0))
      (m ((c.tc : Thread Cert.OutProjIdeal.nD Cert.OutProjIdeal.τ).loc Cert.OutProjIdeal.main_arg1))
      (m ((c.tc : Thread Cert.OutProjIdeal.nD Cert.OutProjIdeal.τ).loc Cert.OutProjIdeal.main_arg2))
      (m ((c.tc : Thread Cert.OutProjIdeal.nD Cert.OutProjIdeal.τ).loc Cert.OutProjIdeal.main_arg3)),
    (θ_run _ _ _).mono (fun r h c => ⟨Cert.OutProjIdeal.Residual.final m c r h.1, Cert.OutProjIdeal.Residual.unchanged m r h.1 c⟩)
      (Cert.OutProjIdeal.Residual.run_quiescent m ρ),
    (θ_run _ _ _).mono (fun r h c => by
      obtain ⟨e0, e1, e2, e3, -⟩ := hag c
      refine ⟨(h c).1.trans ((Cert.OutProjRefIdeal.Residual.stream_eq _ _ _ _).trans ?_), (h c).2⟩
      rw [e0, e1, e2, e3]) (Cert.OutProjRefIdeal.Value.run (F := Ideal) m' ρ')⟩

end Cert.Proof.OutProjClaims

end
-- ==== Proof.lean ====
module

public import proofs.«01_k».proof.Defs
public import proofs.«01_k».proof.Proof.InProj
public import proofs.«01_k».proof.Proof.AttnClaims
public import proofs.«01_k».proof.Proof.AttnValue
public import proofs.«01_k».proof.Proof.OutProj

@[expose] public section

namespace Cert.Proof

/-- The projection that opens the layer, the call that runs its two mixers, and the projection after them. -/
theorem claim : Cert.Claim :=
  ⟨Cert.InProj.Gen.facts, Cert.InProjIdeal.Gen.facts, Cert.InProjRefIdeal.Gen.facts, Cert.Mixers.Gen.facts, Cert.MixersIdeal.Gen.facts,
    Cert.AttentionIdeal.Gen.facts, Cert.OutProj.Gen.facts, Cert.OutProjIdeal.Gen.facts, Cert.OutProjRefIdeal.Gen.facts, InProjClaims.frame,
    InProjClaims.frame_ideal, InProjClaims.frame_ref, AttnClaims.frame, AttnClaims.frame_ideal, AttnClaims.frame_ref, OutProjClaims.frame,
    OutProjClaims.frame_ideal, OutProjClaims.frame_ref, trivial, InProjClaims.algebraic, AttnClaims.preserves, AttnClaims.algebraic, trivial,
    OutProjClaims.algebraic⟩

end Cert.Proof

end
